-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S4x256x32 : Shape := ⟨3, ![4, 256, 32]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S4x256x32 : S_.BroadcastsInDim S4x256x32 (![] : Fin 0 → Fin S4x256x32.rank)
  reducesTo_S4x256x32_S_d0_1_2 : S4x256x32.ReducesTo [0, 1, 2] S_

variable [Facts]

def fn_part2 {F : FTy → Type} [FloatOps F] (main_arg7 : FVec F S128x32 .f32) (main_arg8 : FVec F S32 .f32) (main_arg17 : FVec F S4x256x32 .f32) (main_v33 : IVec S_ 1) : IVec S_ 1 :=
  let main_v34 : FVec F S128x32 .f32 := Host.absf main_arg7
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S4x256x32 .f32 := Host.absf main_arg17
  let main_cst_16 : FVec F S_ .f32 := constant S_ .f32 0x7F800000#32
  let main_v45 : FVec F S4x256x32 .f32 := broadcastInDim S4x256x32 ![] bcast_S_S4x256x32 main_cst_16
  let main_v46 : IVec S4x256x32 1 := cmpf .olt main_v44 main_v45
  let main_c_17 : IVec S_ 1 := constantI S_ 1 1#1
  let main_v47 : IVec S_ 1 := (fun x v => Host.reduce IntOp.andi x v reducesTo_S4x256x32_S_d0_1_2 h_S_) main_v46 main_c_17
  let main_v48 : IVec S_ 1 := andi main_v43 main_v47
  main_v48

def fn_part1 {F : FTy → Type} [FloatOps F] (main_arg4 : FVec F S256 .f32) (main_arg5 : FVec F S256x128 .f32) (main_arg6 : FVec F S128 .f32) (main_arg7 : FVec F S128x32 .f32) (main_arg8 : FVec F S32 .f32) (main_arg17 : FVec F S4x256x32 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg17 main_v33

def fn {F : FTy → Type} [FloatOps F] (main_arg0 : FVec F S16384x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x32 .f32) (main_arg8 : FVec F S32 .f32) (main_arg9 : FVec F S32x128 .f32) (main_arg10 : FVec F S128 .f32) (main_arg11 : FVec F S128x256 .f32) (main_arg12 : FVec F S256 .f32) (main_arg13 : FVec F S256x512 .f32) (main_arg14 : FVec F S512 .f32) (main_arg15 : FVec F S512x768 .f32) (main_arg16 : FVec F S768 .f32) (main_arg17 : FVec F S4x256x32 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg17 main_v13 main_v16
-- ==== Kernel.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S4x256x32 : Shape := ⟨3, ![4, 256, 32]⟩
abbrev S1x512 : Shape := ⟨2, ![1, 512]⟩
abbrev S1x256 : Shape := ⟨2, ![1, 256]⟩
abbrev S1x128 : Shape := ⟨2, ![1, 128]⟩
abbrev S1x32 : Shape := ⟨2, ![1, 32]⟩
abbrev S1x768 : Shape := ⟨2, ![1, 768]⟩
abbrev S16384x4 : Shape := ⟨2, ![16384, 4]⟩
abbrev S1x1 : Shape := ⟨2, ![1, 1]⟩
abbrev S2048x768 : Shape := ⟨2, ![2048, 768]⟩
abbrev S2048x4 : Shape := ⟨2, ![2048, 4]⟩
abbrev S4x768x32 : Shape := ⟨3, ![4, 768, 32]⟩
abbrev S4x256 : Shape := ⟨2, ![4, 256]⟩
abbrev S2048x512 : Shape := ⟨2, ![2048, 512]⟩
abbrev S2048x256 : Shape := ⟨2, ![2048, 256]⟩
abbrev S2048x128 : Shape := ⟨2, ![2048, 128]⟩
abbrev S2048x32 : Shape := ⟨2, ![2048, 32]⟩
abbrev S1x256x32 : Shape := ⟨3, ![1, 256, 32]⟩
abbrev S256x32 : Shape := ⟨2, ![256, 32]⟩
abbrev S2048 : Shape := ⟨1, ![2048]⟩
abbrev S2048x1 : Shape := ⟨2, ![2048, 1]⟩
abbrev S1x2048x32 : Shape := ⟨3, ![1, 2048, 32]⟩
abbrev S1 : Shape := ⟨1, ![1]⟩
abbrev S1x1x1 : Shape := ⟨3, ![1, 1, 1]⟩
abbrev S_ : Shape := ⟨0, ![]⟩

abbrev nBuf : Space → Nat
  | .hbm => 30
  | .vmem => 34
  | .smem => 1
  | _ => 0

abbrev bufTy : (tb : Table) → Fin (tcTables nBuf tb) → BufTy
  | .hbm, ⟨0, _⟩ => ⟨S16384x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S512x768, .f32⟩
  | .hbm, ⟨16, _⟩ => ⟨S768, .f32⟩
  | .hbm, ⟨17, _⟩ => ⟨S4x256x32, .f32⟩
  | .hbm, ⟨18, _⟩ => ⟨S1x512, .f32⟩
  | .hbm, ⟨19, _⟩ => ⟨S1x256, .f32⟩
  | .hbm, ⟨20, _⟩ => ⟨S1x128, .f32⟩
  | .hbm, ⟨21, _⟩ => ⟨S1x32, .f32⟩
  | .hbm, ⟨22, _⟩ => ⟨S1x128, .f32⟩
  | .hbm, ⟨23, _⟩ => ⟨S1x256, .f32⟩
  | .hbm, ⟨24, _⟩ => ⟨S1x512, .f32⟩
  | .hbm, ⟨25, _⟩ => ⟨S1x768, .f32⟩
  | .hbm, ⟨26, _⟩ => ⟨S16384x768, .f32⟩
  | .hbm, ⟨27, _⟩ => ⟨S16384x4, .i32⟩
  | .hbm, ⟨28, _⟩ => ⟨S1x1, .f32⟩
  | .hbm, ⟨29, _⟩ => ⟨S_, .f32⟩
  | .local _ .vmem, ⟨0, _⟩ => ⟨S2048x768, .f32⟩
  | .local _ .vmem, ⟨1, _⟩ => ⟨S2048x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x32, .f32⟩
  | .local _ .vmem, ⟨9, _⟩ => ⟨S1x32, .f32⟩
  | .local _ .vmem, ⟨10, _⟩ => ⟨S32x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S256x512, .f32⟩
  | .local _ .vmem, ⟨15, _⟩ => ⟨S1x512, .f32⟩
  | .local _ .vmem, ⟨16, _⟩ => ⟨S512x768, .f32⟩
  | .local _ .vmem, ⟨17, _⟩ => ⟨S1x768, .f32⟩
  | .local _ .vmem, ⟨18, _⟩ => ⟨S4x256x32, .f32⟩
  | .local _ .vmem, ⟨19, _⟩ => ⟨S2048x768, .f32⟩
  | .local _ .vmem, ⟨20, _⟩ => ⟨S2048x768, .f32⟩
  | .local _ .vmem, ⟨21, _⟩ => ⟨S2048x4, .i32⟩
  | .local _ .vmem, ⟨22, _⟩ => ⟨S2048x4, .i32⟩
  | .local _ .vmem, ⟨23, _⟩ => ⟨S768x512, .bf16⟩
  | .local _ .vmem, ⟨24, _⟩ => ⟨S512x256, .bf16⟩
  | .local _ .vmem, ⟨25, _⟩ => ⟨S256x128, .bf16⟩
  | .local _ .vmem, ⟨26, _⟩ => ⟨S128x32, .bf16⟩
  | .local _ .vmem, ⟨27, _⟩ => ⟨S32x128, .bf16⟩
  | .local _ .vmem, ⟨28, _⟩ => ⟨S128x256, .bf16⟩
  | .local _ .vmem, ⟨29, _⟩ => ⟨S256x512, .bf16⟩
  | .local _ .vmem, ⟨30, _⟩ => ⟨S512x768, .bf16⟩
  | .local _ .vmem, ⟨31, _⟩ => ⟨S4x768x32, .bf16⟩
  | .local _ .vmem, ⟨32, _⟩ => ⟨S4x256x32, .bf16⟩
  | .local _ .vmem, ⟨33, _⟩ => ⟨S4x256, .f32⟩
  | .local _ .smem, ⟨0, _⟩ => ⟨S1x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_scratch10 : Ref sig .tc := ⟨.vmem, 33, rfl⟩
abbrev cc0_stg20_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22
abbrev cc0_sem20_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2048x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x4 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .smem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x128 : Shape := ⟨2, ![32, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S4x256x32 : Shape := ⟨3, ![4, 256, 32]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x32 : Shape := ⟨2, ![16384, 32]⟩
abbrev S1x32 : Shape := ⟨2, ![1, 32]⟩
abbrev S1x256x32 : Shape := ⟨3, ![1, 256, 32]⟩
abbrev S256x32 : Shape := ⟨2, ![256, 32]⟩
abbrev S16384 : Shape := ⟨1, ![16384]⟩
abbrev S16384x1 : Shape := ⟨2, ![16384, 1]⟩
abbrev S32x256 : Shape := ⟨2, ![32, 256]⟩
abbrev S1 : Shape := ⟨1, ![1]⟩
abbrev S1x1 : Shape := ⟨2, ![1, 1]⟩
abbrev S4 : Shape := ⟨1, ![4]⟩
abbrev S16384x4 : Shape := ⟨2, ![16384, 4]⟩
abbrev S1x768 : Shape := ⟨2, ![1, 768]⟩

abbrev nBuf : Space → Nat
  | .hbm => 348
  | .vmem => 0
  | .smem => 0
  | _ => 0

abbrev hbmTy0_0 (i : Nat) : BufTy := match i % 128 with
  | 0 => ⟨S16384x768, .f32⟩
  | 1 => ⟨S768x512, .f32⟩
  | 2 => ⟨S512, .f32⟩
  | 3 => ⟨S512x256, .f32⟩
  | 4 => ⟨S256, .f32⟩
  | 5 => ⟨S256x128, .f32⟩
  | 6 => ⟨S128, .f32⟩
  | 7 => ⟨S128x32, .f32⟩
  | 8 => ⟨S32, .f32⟩
  | 9 => ⟨S32x128, .f32⟩
  | 10 => ⟨S128, .f32⟩
  | 11 => ⟨S128x256, .f32⟩
  | 12 => ⟨S256, .f32⟩
  | 13 => ⟨S256x512, .f32⟩
  | 14 => ⟨S512, .f32⟩
  | 15 => ⟨S512x768, .f32⟩
  | 16 => ⟨S768, .f32⟩
  | 17 => ⟨S4x256x32, .f32⟩
  | 18 => ⟨S16384x512, .f32⟩
  | 19 => ⟨S1x512, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S16384x256, .f32⟩
  | 26 => ⟨S1x256, .f32⟩
  | 27 => ⟨S16384x256, .f32⟩
  | 28 => ⟨S16384x256, .f32⟩
  | 29 => ⟨S_, .f32⟩
  | 30 => ⟨S16384x256, .f32⟩
  | 31 => ⟨S16384x256, .f32⟩
  | 32 => ⟨S16384x128, .f32⟩
  | 33 => ⟨S1x128, .f32⟩
  | 34 => ⟨S16384x128, .f32⟩
  | 35 => ⟨S16384x128, .f32⟩
  | 36 => ⟨S_, .f32⟩
  | 37 => ⟨S16384x128, .f32⟩
  | 38 => ⟨S16384x128, .f32⟩
  | 39 => ⟨S16384x32, .f32⟩
  | 40 => ⟨S1x32, .f32⟩
  | 41 => ⟨S16384x32, .f32⟩
  | 42 => ⟨S16384x32, .f32⟩
  | 43 => ⟨S_, .f32⟩
  | 44 => ⟨S16384x32, .f32⟩
  | 45 => ⟨S1x256x32, .f32⟩
  | 46 => ⟨S256x32, .f32⟩
  | 47 => ⟨S16384x32, .f32⟩
  | 48 => ⟨S_, .f32⟩
  | 49 => ⟨S16384, .f32⟩
  | 50 => ⟨S16384x1, .f32⟩
  | 51 => ⟨S256x32, .f32⟩
  | 52 => ⟨S_, .f32⟩
  | 53 => ⟨S256, .f32⟩
  | 54 => ⟨S1x256, .f32⟩
  | 55 => ⟨S16384x256, .f32⟩
  | 56 => ⟨S16384x256, .f32⟩
  | 57 => ⟨S16384x256, .f32⟩
  | 58 => ⟨S32x256, .f32⟩
  | 59 => ⟨S16384x256, .f32⟩
  | 60 => ⟨S_, .f32⟩
  | 61 => ⟨S16384x256, .f32⟩
  | 62 => ⟨S16384x256, .f32⟩
  | 63 => ⟨S16384x256, .f32⟩
  | 64 => ⟨S16384x256, .i32⟩
  | 65 => ⟨S_, .f32⟩
  | 66 => ⟨S_, .i32⟩
  | 67 => ⟨S16384, .f32⟩
  | 68 => ⟨S16384, .i32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S1, .i32⟩
  | 78 => ⟨S_, .i32⟩
  | 79 => ⟨S16384x1, .i32⟩
  | 80 => ⟨S16384x1, .i1⟩
  | 81 => ⟨S1x1, .i32⟩
  | 82 => ⟨S16384x1, .i32⟩
  | 83 => ⟨S16384x1, .i1⟩
  | 84 => ⟨S16384x1, .i1⟩
  | 85 => ⟨S_, .i1⟩
  | 86 => ⟨S16384, .i1⟩
  | 87 => ⟨S16384x32, .f32⟩
  | 88 => ⟨S16384x32, .i1⟩
  | 89 => ⟨S_, .f32⟩
  | 90 => ⟨S16384x32, .f32⟩
  | 91 => ⟨S16384x32, .f32⟩
  | 92 => ⟨S16384x32, .f32⟩
  | 93 => ⟨S16384x32, .f32⟩
  | 94 => ⟨S_, .f32⟩
  | 95 => ⟨S_, .f32⟩
  | 96 => ⟨S_, .f32⟩
  | 97 => ⟨S_, .f32⟩
  | 98 => ⟨S16384x32, .f32⟩
  | 99 => ⟨S16384x32, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S16384x32, .f32⟩
  | 108 => ⟨S16384x32, .f32⟩
  | 109 => ⟨S16384x32, .f32⟩
  | 110 => ⟨S16384x32, .f32⟩
  | 111 => ⟨S1x256x32, .f32⟩
  | 112 => ⟨S256x32, .f32⟩
  | 113 => ⟨S16384x32, .f32⟩
  | 114 => ⟨S_, .f32⟩
  | 115 => ⟨S16384, .f32⟩
  | 116 => ⟨S16384x1, .f32⟩
  | 117 => ⟨S256x32, .f32⟩
  | 118 => ⟨S_, .f32⟩
  | 119 => ⟨S256, .f32⟩
  | 120 => ⟨S1x256, .f32⟩
  | 121 => ⟨S16384x256, .f32⟩
  | 122 => ⟨S16384x256, .f32⟩
  | 123 => ⟨S16384x256, .f32⟩
  | 124 => ⟨S32x256, .f32⟩
  | 125 => ⟨S16384x256, .f32⟩
  | 126 => ⟨S_, .f32⟩
  | 127 => ⟨S16384x256, .f32⟩
  | _ => ⟨S16384x768, .f32⟩

abbrev hbmTy0_1 (i : Nat) : BufTy := match i % 128 with
  | 0 => ⟨S16384x256, .f32⟩
  | 1 => ⟨S16384x256, .f32⟩
  | 2 => ⟨S16384x256, .i32⟩
  | 3 => ⟨S_, .f32⟩
  | 4 => ⟨S_, .i32⟩
  | 5 => ⟨S16384, .f32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x32, .f32⟩
  | 26 => ⟨S16384x32, .i1⟩
  | 27 => ⟨S_, .f32⟩
  | 28 => ⟨S16384x32, .f32⟩
  | 29 => ⟨S16384x32, .f32⟩
  | 30 => ⟨S16384x32, .f32⟩
  | 31 => ⟨S16384x32, .f32⟩
  | 32 => ⟨S_, .f32⟩
  | 33 => ⟨S_, .f32⟩
  | 34 => ⟨S_, .f32⟩
  | 35 => ⟨S_, .f32⟩
  | 36 => ⟨S16384x32, .f32⟩
  | 37 => ⟨S16384x32, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S16384x32, .f32⟩
  | 46 => ⟨S16384x32, .f32⟩
  | 47 => ⟨S16384x32, .f32⟩
  | 48 => ⟨S16384x32, .f32⟩
  | 49 => ⟨S1x256x32, .f32⟩
  | 50 => ⟨S256x32, .f32⟩
  | 51 => ⟨S16384x32, .f32⟩
  | 52 => ⟨S_, .f32⟩
  | 53 => ⟨S16384, .f32⟩
  | 54 => ⟨S16384x1, .f32⟩
  | 55 => ⟨S256x32, .f32⟩
  | 56 => ⟨S_, .f32⟩
  | 57 => ⟨S256, .f32⟩
  | 58 => ⟨S1x256, .f32⟩
  | 59 => ⟨S16384x256, .f32⟩
  | 60 => ⟨S16384x256, .f32⟩
  | 61 => ⟨S16384x256, .f32⟩
  | 62 => ⟨S32x256, .f32⟩
  | 63 => ⟨S16384x256, .f32⟩
  | 64 => ⟨S_, .f32⟩
  | 65 => ⟨S16384x256, .f32⟩
  | 66 => ⟨S16384x256, .f32⟩
  | 67 => ⟨S16384x256, .f32⟩
  | 68 => ⟨S16384x256, .i32⟩
  | 69 => ⟨S_, .f32⟩
  | 70 => ⟨S_, .i32⟩
  | 71 => ⟨S16384, .f32⟩
  | 72 => ⟨S16384, .i32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S1, .i32⟩
  | 82 => ⟨S_, .i32⟩
  | 83 => ⟨S16384x1, .i32⟩
  | 84 => ⟨S16384x1, .i1⟩
  | 85 => ⟨S1x1, .i32⟩
  | 86 => ⟨S16384x1, .i32⟩
  | 87 => ⟨S16384x1, .i1⟩
  | 88 => ⟨S16384x1, .i1⟩
  | 89 => ⟨S_, .i1⟩
  | 90 => ⟨S16384, .i1⟩
  | 91 => ⟨S16384x32, .f32⟩
  | 92 => ⟨S16384x32, .i1⟩
  | 93 => ⟨S_, .f32⟩
  | 94 => ⟨S16384x32, .f32⟩
  | 95 => ⟨S16384x32, .f32⟩
  | 96 => ⟨S16384x32, .f32⟩
  | 97 => ⟨S16384x32, .f32⟩
  | 98 => ⟨S_, .f32⟩
  | 99 => ⟨S_, .f32⟩
  | 100 => ⟨S_, .f32⟩
  | 101 => ⟨S_, .f32⟩
  | 102 => ⟨S16384x32, .f32⟩
  | 103 => ⟨S16384x32, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S16384x32, .f32⟩
  | 112 => ⟨S16384x32, .f32⟩
  | 113 => ⟨S16384x32, .f32⟩
  | 114 => ⟨S16384x32, .f32⟩
  | 115 => ⟨S1x256x32, .f32⟩
  | 116 => ⟨S256x32, .f32⟩
  | 117 => ⟨S16384x32, .f32⟩
  | 118 => ⟨S_, .f32⟩
  | 119 => ⟨S16384, .f32⟩
  | 120 => ⟨S16384x1, .f32⟩
  | 121 => ⟨S256x32, .f32⟩
  | 122 => ⟨S_, .f32⟩
  | 123 => ⟨S256, .f32⟩
  | 124 => ⟨S1x256, .f32⟩
  | 125 => ⟨S16384x256, .f32⟩
  | 126 => ⟨S16384x256, .f32⟩
  | 127 => ⟨S16384x256, .f32⟩
  | _ => ⟨S16384x768, .f32⟩

abbrev hbmTy0_2 (i : Nat) : BufTy := match i % 128 with
  | 0 => ⟨S32x256, .f32⟩
  | 1 => ⟨S16384x256, .f32⟩
  | 2 => ⟨S_, .f32⟩
  | 3 => ⟨S16384x256, .f32⟩
  | 4 => ⟨S16384x256, .f32⟩
  | 5 => ⟨S16384x256, .f32⟩
  | 6 => ⟨S16384x256, .i32⟩
  | 7 => ⟨S_, .f32⟩
  | 8 => ⟨S_, .i32⟩
  | 9 => ⟨S16384, .f32⟩
  | 10 => ⟨S16384, .i32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S1, .i32⟩
  | 20 => ⟨S_, .i32⟩
  | 21 => ⟨S16384x1, .i32⟩
  | 22 => ⟨S16384x1, .i1⟩
  | 23 => ⟨S1x1, .i32⟩
  | 24 => ⟨S16384x1, .i32⟩
  | 25 => ⟨S16384x1, .i1⟩
  | 26 => ⟨S16384x1, .i1⟩
  | 27 => ⟨S_, .i1⟩
  | 28 => ⟨S16384, .i1⟩
  | 29 => ⟨S16384x32, .f32⟩
  | 30 => ⟨S16384x32, .i1⟩
  | 31 => ⟨S_, .f32⟩
  | 32 => ⟨S16384x32, .f32⟩
  | 33 => ⟨S16384x32, .f32⟩
  | 34 => ⟨S16384x32, .f32⟩
  | 35 => ⟨S16384x32, .f32⟩
  | 36 => ⟨S_, .f32⟩
  | 37 => ⟨S_, .f32⟩
  | 38 => ⟨S_, .f32⟩
  | 39 => ⟨S_, .f32⟩
  | 40 => ⟨S16384x32, .f32⟩
  | 41 => ⟨S16384x32, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S16384x32, .f32⟩
  | 50 => ⟨S16384x32, .f32⟩
  | 51 => ⟨S16384x32, .f32⟩
  | 52 => ⟨S16384x32, .f32⟩
  | 53 => ⟨S1, .f32⟩
  | 54 => ⟨S1, .f32⟩
  | 55 => ⟨S1, .f32⟩
  | 56 => ⟨S1, .f32⟩
  | 57 => ⟨S4, .f32⟩
  | 58 => ⟨S_, .f32⟩
  | 59 => ⟨S_, .f32⟩
  | 60 => ⟨S_, .f32⟩
  | 61 => ⟨S_, .f32⟩
  | 62 => ⟨S16384x1, .i32⟩
  | 63 => ⟨S16384x1, .i32⟩
  | 64 => ⟨S16384x1, .i32⟩
  | 65 => ⟨S16384x1, .i32⟩
  | 66 => ⟨S16384x4, .i32⟩
  | 67 => ⟨S16384x128, .f32⟩
  | 68 => ⟨S1x128, .f32⟩
  | 69 => ⟨S16384x128, .f32⟩
  | 70 => ⟨S16384x128, .f32⟩
  | 71 => ⟨S_, .f32⟩
  | 72 => ⟨S16384x128, .f32⟩
  | 73 => ⟨S16384x128, .f32⟩
  | 74 => ⟨S16384x256, .f32⟩
  | 75 => ⟨S1x256, .f32⟩
  | 76 => ⟨S16384x256, .f32⟩
  | 77 => ⟨S16384x256, .f32⟩
  | 78 => ⟨S_, .f32⟩
  | 79 => ⟨S16384x256, .f32⟩
  | 80 => ⟨S16384x256, .f32⟩
  | 81 => ⟨S16384x512, .f32⟩
  | 82 => ⟨S1x512, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S16384x768, .f32⟩
  | 89 => ⟨S1x768, .f32⟩
  | 90 => ⟨S16384x768, .f32⟩
  | 91 => ⟨S16384x768, .f32⟩
  | _ => ⟨S16384x768, .f32⟩

abbrev hbmTy (i : Nat) : BufTy := match i / 128 with
  | 0 => hbmTy0_0 i
  | 1 => hbmTy0_1 i
  | 2 => hbmTy0_2 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call3_v0 : Ref sig .tc := ⟨.hbm, 64, rfl⟩
abbrev main_call3_cst : Ref sig .tc := ⟨.hbm, 65, rfl⟩
abbrev main_call3_c : Ref sig .tc := ⟨.hbm, 66, rfl⟩
abbrev main_call3_v1_0 : Ref sig .tc := ⟨.hbm, 67, rfl⟩
abbrev main_v36 : Ref sig .tc := ⟨.hbm, 68, rfl⟩
abbrev main_call4_c : Ref sig .tc := ⟨.hbm, 69, rfl⟩
abbrev main_call4_v0 : Ref sig .tc := ⟨.hbm, 70, rfl⟩
abbrev main_call4_v1 : Ref sig .tc := ⟨.hbm, 71, rfl⟩
abbrev main_call4_c_0 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_c_1 : Ref sig .tc := ⟨.hbm, 77, rfl⟩
abbrev main_call4_c_2 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_c_3 : Ref sig .tc := ⟨.hbm, 85, rfl⟩
abbrev main_call4_v12 : Ref sig .tc := ⟨.hbm, 86, rfl⟩
abbrev main_call4_v13 : Ref sig .tc := ⟨.hbm, 87, rfl⟩
abbrev main_call4_v14 : Ref sig .tc := ⟨.hbm, 88, rfl⟩
abbrev main_call4_cst : Ref sig .tc := ⟨.hbm, 89, rfl⟩
abbrev main_call4_v15 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_3 : Ref sig .tc := ⟨.hbm, 94, rfl⟩
abbrev main_v40 : Ref sig .tc := ⟨.hbm, 95, rfl⟩
abbrev main_cst_4 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_5 : Ref sig .tc := ⟨.hbm, 100, rfl⟩
abbrev main_v44 : Ref sig .tc := ⟨.hbm, 101, rfl⟩
abbrev main_cst_6 : Ref sig .tc := ⟨.hbm, 102, rfl⟩
abbrev main_v45 : Ref sig .tc := ⟨.hbm, 103, rfl⟩
abbrev main_cst_7 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_8 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_9 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_cst_10 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_call5_v0 : Ref sig .tc := ⟨.hbm, 130, rfl⟩
abbrev main_call5_cst : Ref sig .tc := ⟨.hbm, 131, rfl⟩
abbrev main_call5_c : Ref sig .tc := ⟨.hbm, 132, rfl⟩
abbrev main_call5_v1_0 : Ref sig .tc := ⟨.hbm, 133, rfl⟩
abbrev main_v68 : Ref sig .tc := ⟨.hbm, 134, rfl⟩
abbrev main_call6_c : Ref sig .tc := ⟨.hbm, 135, rfl⟩
abbrev main_call6_v0 : Ref sig .tc := ⟨.hbm, 136, rfl⟩
abbrev main_call6_v1 : Ref sig .tc := ⟨.hbm, 137, rfl⟩
abbrev main_call6_c_0 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_call6_v5 : Ref sig .tc := ⟨.hbm, 142, rfl⟩
abbrev main_call6_c_1 : Ref sig .tc := ⟨.hbm, 143, rfl⟩
abbrev main_call6_c_2 : Ref sig .tc := ⟨.hbm, 144, rfl⟩
abbrev main_call6_v6 : Ref sig .tc := ⟨.hbm, 145, rfl⟩
abbrev main_call6_v7 : Ref sig .tc := ⟨.hbm, 146, rfl⟩
abbrev main_call6_v8 : Ref sig .tc := ⟨.hbm, 147, rfl⟩
abbrev main_call6_v9 : Ref sig .tc := ⟨.hbm, 148, rfl⟩
abbrev main_call6_v10 : Ref sig .tc := ⟨.hbm, 149, rfl⟩
abbrev main_call6_v11 : Ref sig .tc := ⟨.hbm, 150, rfl⟩
abbrev main_call6_c_3 : Ref sig .tc := ⟨.hbm, 151, rfl⟩
abbrev main_call6_v12 : Ref sig .tc := ⟨.hbm, 152, rfl⟩
abbrev main_call6_v13 : Ref sig .tc := ⟨.hbm, 153, rfl⟩
abbrev main_call6_v14 : Ref sig .tc := ⟨.hbm, 154, rfl⟩
abbrev main_call6_cst : Ref sig .tc := ⟨.hbm, 155, rfl⟩
abbrev main_call6_v15 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_cst_11 : Ref sig .tc := ⟨.hbm, 160, rfl⟩
abbrev main_v72 : Ref sig .tc := ⟨.hbm, 161, rfl⟩
abbrev main_cst_12 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_cst_13 : Ref sig .tc := ⟨.hbm, 166, rfl⟩
abbrev main_v76 : Ref sig .tc := ⟨.hbm, 167, rfl⟩
abbrev main_cst_14 : Ref sig .tc := ⟨.hbm, 168, rfl⟩
abbrev main_v77 : Ref sig .tc := ⟨.hbm, 169, rfl⟩
abbrev main_cst_15 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_cst_16 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_cst_17 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_cst_18 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_call7_v0 : Ref sig .tc := ⟨.hbm, 196, rfl⟩
abbrev main_call7_cst : Ref sig .tc := ⟨.hbm, 197, rfl⟩
abbrev main_call7_c : Ref sig .tc := ⟨.hbm, 198, rfl⟩
abbrev main_call7_v1_0 : Ref sig .tc := ⟨.hbm, 199, rfl⟩
abbrev main_v100 : Ref sig .tc := ⟨.hbm, 200, rfl⟩
abbrev main_call8_c : Ref sig .tc := ⟨.hbm, 201, rfl⟩
abbrev main_call8_v0 : Ref sig .tc := ⟨.hbm, 202, rfl⟩
abbrev main_call8_v1 : Ref sig .tc := ⟨.hbm, 203, rfl⟩
abbrev main_call8_c_0 : Ref sig .tc := ⟨.hbm, 204, rfl⟩
abbrev main_call8_v2 : Ref sig .tc := ⟨.hbm, 205, rfl⟩
abbrev main_call8_v3 : Ref sig .tc := ⟨.hbm, 206, rfl⟩
abbrev main_call8_v4 : Ref sig .tc := ⟨.hbm, 207, rfl⟩
abbrev main_call8_v5 : Ref sig .tc := ⟨.hbm, 208, rfl⟩
abbrev main_call8_c_1 : Ref sig .tc := ⟨.hbm, 209, rfl⟩
abbrev main_call8_c_2 : Ref sig .tc := ⟨.hbm, 210, rfl⟩
abbrev main_call8_v6 : Ref sig .tc := ⟨.hbm, 211, rfl⟩
abbrev main_call8_v7 : Ref sig .tc := ⟨.hbm, 212, rfl⟩
abbrev main_call8_v8 : Ref sig .tc := ⟨.hbm, 213, rfl⟩
abbrev main_call8_v9 : Ref sig .tc := ⟨.hbm, 214, rfl⟩
abbrev main_call8_v10 : Ref sig .tc := ⟨.hbm, 215, rfl⟩
abbrev main_call8_v11 : Ref sig .tc := ⟨.hbm, 216, rfl⟩
abbrev main_call8_c_3 : Ref sig .tc := ⟨.hbm, 217, rfl⟩
abbrev main_call8_v12 : Ref sig .tc := ⟨.hbm, 218, rfl⟩
abbrev main_call8_v13 : Ref sig .tc := ⟨.hbm, 219, rfl⟩
abbrev main_call8_v14 : Ref sig .tc := ⟨.hbm, 220, rfl⟩
abbrev main_call8_cst : Ref sig .tc := ⟨.hbm, 221, rfl⟩
abbrev main_call8_v15 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_cst_19 : Ref sig .tc := ⟨.hbm, 226, rfl⟩
abbrev main_v104 : Ref sig .tc := ⟨.hbm, 227, rfl⟩
abbrev main_cst_20 : Ref sig .tc := ⟨.hbm, 228, rfl⟩
abbrev main_v105 : Ref sig .tc := ⟨.hbm, 229, rfl⟩
abbrev main_v106 : Ref sig .tc := ⟨.hbm, 230, rfl⟩
abbrev main_v107 : Ref sig .tc := ⟨.hbm, 231, rfl⟩
abbrev main_cst_21 : Ref sig .tc := ⟨.hbm, 232, rfl⟩
abbrev main_v108 : Ref sig .tc := ⟨.hbm, 233, rfl⟩
abbrev main_cst_22 : Ref sig .tc := ⟨.hbm, 234, rfl⟩
abbrev main_v109 : Ref sig .tc := ⟨.hbm, 235, rfl⟩
abbrev main_cst_23 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_v114 : Ref sig .tc := ⟨.hbm, 241, rfl⟩
abbrev main_v115 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_cst_24 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_cst_25 : Ref sig .tc := ⟨.hbm, 250, rfl⟩
abbrev main_v122 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_cst_26 : Ref sig .tc := ⟨.hbm, 258, rfl⟩
abbrev main_v129 : Ref sig .tc := ⟨.hbm, 259, rfl⟩
abbrev main_v130 : Ref sig .tc := ⟨.hbm, 260, rfl⟩
abbrev main_v131 : Ref sig .tc := ⟨.hbm, 261, rfl⟩
abbrev main_call9_v0 : Ref sig .tc := ⟨.hbm, 262, rfl⟩
abbrev main_call9_cst : Ref sig .tc := ⟨.hbm, 263, rfl⟩
abbrev main_call9_c : Ref sig .tc := ⟨.hbm, 264, rfl⟩
abbrev main_call9_v1_0 : Ref sig .tc := ⟨.hbm, 265, rfl⟩
abbrev main_v132 : Ref sig .tc := ⟨.hbm, 266, rfl⟩
abbrev main_call10_c : Ref sig .tc := ⟨.hbm, 267, rfl⟩
abbrev main_call10_v0 : Ref sig .tc := ⟨.hbm, 268, rfl⟩
abbrev main_call10_v1 : Ref sig .tc := ⟨.hbm, 269, rfl⟩
abbrev main_call10_c_0 : Ref sig .tc := ⟨.hbm, 270, rfl⟩
abbrev main_call10_v2 : Ref sig .tc := ⟨.hbm, 271, rfl⟩
abbrev main_call10_v3 : Ref sig .tc := ⟨.hbm, 272, rfl⟩
abbrev main_call10_v4 : Ref sig .tc := ⟨.hbm, 273, rfl⟩
abbrev main_call10_v5 : Ref sig .tc := ⟨.hbm, 274, rfl⟩
abbrev main_call10_c_1 : Ref sig .tc := ⟨.hbm, 275, rfl⟩
abbrev main_call10_c_2 : Ref sig .tc := ⟨.hbm, 276, rfl⟩
abbrev main_call10_v6 : Ref sig .tc := ⟨.hbm, 277, rfl⟩
abbrev main_call10_v7 : Ref sig .tc := ⟨.hbm, 278, rfl⟩
abbrev main_call10_v8 : Ref sig .tc := ⟨.hbm, 279, rfl⟩
abbrev main_call10_v9 : Ref sig .tc := ⟨.hbm, 280, rfl⟩
abbrev main_call10_v10 : Ref sig .tc := ⟨.hbm, 281, rfl⟩
abbrev main_call10_v11 : Ref sig .tc := ⟨.hbm, 282, rfl⟩
abbrev main_call10_c_3 : Ref sig .tc := ⟨.hbm, 283, rfl⟩
abbrev main_call10_v12 : Ref sig .tc := ⟨.hbm, 284, rfl⟩
abbrev main_call10_v13 : Ref sig .tc := ⟨.hbm, 285, rfl⟩
abbrev main_call10_v14 : Ref sig .tc := ⟨.hbm, 286, rfl⟩
abbrev main_call10_cst : Ref sig .tc := ⟨.hbm, 287, rfl⟩
abbrev main_call10_v15 : Ref sig .tc := ⟨.hbm, 288, rfl⟩
abbrev main_v133 : Ref sig .tc := ⟨.hbm, 289, rfl⟩
abbrev main_v134 : Ref sig .tc := ⟨.hbm, 290, rfl⟩
abbrev main_v135 : Ref sig .tc := ⟨.hbm, 291, rfl⟩
abbrev main_cst_27 : Ref sig .tc := ⟨.hbm, 292, rfl⟩
abbrev main_v136 : Ref sig .tc := ⟨.hbm, 293, rfl⟩
abbrev main_cst_28 : Ref sig .tc := ⟨.hbm, 294, rfl⟩
abbrev main_v137 : Ref sig .tc := ⟨.hbm, 295, rfl⟩
abbrev main_v138 : Ref sig .tc := ⟨.hbm, 296, rfl⟩
abbrev main_v139 : Ref sig .tc := ⟨.hbm, 297, rfl⟩
abbrev main_cst_29 : Ref sig .tc := ⟨.hbm, 298, rfl⟩
abbrev main_v140 : Ref sig .tc := ⟨.hbm, 299, rfl⟩
abbrev main_cst_30 : Ref sig .tc := ⟨.hbm, 300, rfl⟩
abbrev main_v141 : Ref sig .tc := ⟨.hbm, 301, rfl⟩
abbrev main_cst_31 : Ref sig .tc := ⟨.hbm, 302, rfl⟩
abbrev main_v142 : Ref sig .tc := ⟨.hbm, 303, rfl⟩
abbrev main_v143 : Ref sig .tc := ⟨.hbm, 304, rfl⟩
abbrev main_v144 : Ref sig .tc := ⟨.hbm, 305, rfl⟩
abbrev main_v145 : Ref sig .tc := ⟨.hbm, 306, rfl⟩
abbrev main_v146 : Ref sig .tc := ⟨.hbm, 307, rfl⟩
abbrev main_v147 : Ref sig .tc := ⟨.hbm, 308, rfl⟩
abbrev main_v148 : Ref sig .tc := ⟨.hbm, 309, rfl⟩
abbrev main_v149 : Ref sig .tc := ⟨.hbm, 310, rfl⟩
abbrev main_v150 : Ref sig .tc := ⟨.hbm, 311, rfl⟩
abbrev main_v151 : Ref sig .tc := ⟨.hbm, 312, rfl⟩
abbrev main_v152 : Ref sig .tc := ⟨.hbm, 313, rfl⟩
abbrev main_cst_32 : Ref sig .tc := ⟨.hbm, 314, rfl⟩
abbrev main_v153 : Ref sig .tc := ⟨.hbm, 315, rfl⟩
abbrev main_cst_33 : Ref sig .tc := ⟨.hbm, 316, rfl⟩
abbrev main_v154 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_v158 : Ref sig .tc := ⟨.hbm, 321, rfl⟩
abbrev main_v159 : Ref sig .tc := ⟨.hbm, 322, rfl⟩
abbrev main_v160 : Ref sig .tc := ⟨.hbm, 323, rfl⟩
abbrev main_v161 : Ref sig .tc := ⟨.hbm, 324, rfl⟩
abbrev main_v162 : Ref sig .tc := ⟨.hbm, 325, rfl⟩
abbrev main_v163 : Ref sig .tc := ⟨.hbm, 326, rfl⟩
abbrev main_call11_cst : Ref sig .tc := ⟨.hbm, 327, rfl⟩
abbrev main_call11_v0 : Ref sig .tc := ⟨.hbm, 328, rfl⟩
abbrev main_v164 : Ref sig .tc := ⟨.hbm, 329, rfl⟩
abbrev main_v165 : Ref sig .tc := ⟨.hbm, 330, rfl⟩
abbrev main_v166 : Ref sig .tc := ⟨.hbm, 331, rfl⟩
abbrev main_v167 : Ref sig .tc := ⟨.hbm, 332, rfl⟩
abbrev main_v168 : Ref sig .tc := ⟨.hbm, 333, rfl⟩
abbrev main_call12_cst : Ref sig .tc := ⟨.hbm, 334, rfl⟩
abbrev main_call12_v0 : Ref sig .tc := ⟨.hbm, 335, rfl⟩
abbrev main_v169 : Ref sig .tc := ⟨.hbm, 336, rfl⟩
abbrev main_v170 : Ref sig .tc := ⟨.hbm, 337, rfl⟩
abbrev main_v171 : Ref sig .tc := ⟨.hbm, 338, rfl⟩
abbrev main_v172 : Ref sig .tc := ⟨.hbm, 339, rfl⟩
abbrev main_v173 : Ref sig .tc := ⟨.hbm, 340, rfl⟩
abbrev main_call13_cst : Ref sig .tc := ⟨.hbm, 341, rfl⟩
abbrev main_call13_v0 : Ref sig .tc := ⟨.hbm, 342, rfl⟩
abbrev main_v174 : Ref sig .tc := ⟨.hbm, 343, rfl⟩
abbrev main_v175 : Ref sig .tc := ⟨.hbm, 344, rfl⟩
abbrev main_v176 : Ref sig .tc := ⟨.hbm, 345, rfl⟩
abbrev main_v177 : Ref sig .tc := ⟨.hbm, 346, rfl⟩
abbrev main_v178 : Ref sig .tc := ⟨.hbm, 347, rfl⟩

abbrev nD : Nat := 1
abbrev τ : Topo := Topo.v7x

variable {F : FTy → Type} [FloatOps F]
-- ==== Proof.BRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! The kernel on machine words: the program around its one region, the blocks of its windows, its conditions at the grid
points, and what the runs of its body share. The text follows the generated frame. -/

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in

theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

def T0 : Finset (Ref sig .tc) := {main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1260000 in

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c),
      (Pipeline.RDat.FramePostR.arr_in h c 5 rfl).trans ((hA c 5).trans (V_main_arg5 m c)),
      ((h c).2 main_arg6 (Finset.mem_sdiff.mpr ⟨Pipeline.mem_restRefs_of main_arg6 (by decide) (by decide), by decide⟩)).trans (V_main_arg6 m c),
      (Pipeline.RDat.FramePostR.arr_in h c 7 rfl).trans ((hA c 7).trans (V_main_arg7 m c)),
      ((h c).2 main_arg8 (Finset.mem_sdiff.mpr ⟨Pipeline.mem_restRefs_of main_arg8 (by decide) (by decide), by decide⟩)).trans (V_main_arg8 m c),
      (Pipeline.RDat.FramePostR.arr_in h c 9 rfl).trans ((hA c 9).trans (V_main_arg9 m c)),
      ((h c).2 main_arg10 (Finset.mem_sdiff.mpr ⟨Pipeline.mem_restRefs_of main_arg10 (by decide) (by decide), by decide⟩)).trans (V_main_arg10 m c),
      (Pipeline.RDat.FramePostR.arr_in h c 11 rfl).trans ((hA c 11).trans (V_main_arg11 m c)),
      ((h c).2 main_arg12 (Finset.mem_sdiff.mpr ⟨Pipeline.mem_restRefs_of main_arg12 (by decide) (by decide), by decide⟩)).trans (V_main_arg12 m c),
      (Pipeline.RDat.FramePostR.arr_in h c 13 rfl).trans ((hA c 13).trans (V_main_arg13 m c)),
      ((h c).2 main_arg14 (Finset.mem_sdiff.mpr ⟨Pipeline.mem_restRefs_of main_arg14 (by decide) (by decide), by decide⟩)).trans (V_main_arg14 m c),
      (Pipeline.RDat.FramePostR.arr_in h c 15 rfl).trans ((hA c 15).trans (V_main_arg15 m c)),
      ((h c).2 main_arg16 (Finset.mem_sdiff.mpr ⟨Pipeline.mem_restRefs_of main_arg16 (by decide) (by decide), by decide⟩)).trans (V_main_arg16 m c),
      (Pipeline.RDat.FramePostR.arr_in h c 17 rfl).trans ((hA c 17).trans (V_main_arg17 m c))⟩) h

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

abbrev ms0_0 (t : Fin cfg0.N) : Memref sig .tc .vmem S2048x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x768 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x256x32 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2048x768 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2048x4 .i32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .smem S1x1 .f32 := win0_20.stage (cfg0.slots t 20)
abbrev hs0_20 (t : Fin cfg0.N) : (ms0_20 t).IsWhole := hstage0_20 ((cfg0.slots t 20).cast nbuf0_20)

abbrev scM0_0 : Memref sig .tc .vmem S768x512 .bf16 := Memref.whole cc0_scratch0
abbrev scM0_1 : Memref sig .tc .vmem S512x256 .bf16 := Memref.whole cc0_scratch1
abbrev scM0_2 : Memref sig .tc .vmem S256x128 .bf16 := Memref.whole cc0_scratch2
abbrev scM0_3 : Memref sig .tc .vmem S128x32 .bf16 := Memref.whole cc0_scratch3
abbrev scM0_4 : Memref sig .tc .vmem S32x128 .bf16 := Memref.whole cc0_scratch4
abbrev scM0_5 : Memref sig .tc .vmem S128x256 .bf16 := Memref.whole cc0_scratch5
abbrev scM0_6 : Memref sig .tc .vmem S256x512 .bf16 := Memref.whole cc0_scratch6
abbrev scM0_7 : Memref sig .tc .vmem S512x768 .bf16 := Memref.whole cc0_scratch7
abbrev scM0_8 : Memref sig .tc .vmem S4x768x32 .bf16 := Memref.whole cc0_scratch8
abbrev scM0_9 : Memref sig .tc .vmem S4x256x32 .bf16 := Memref.whole cc0_scratch9
abbrev scM0_10 : Memref sig .tc .vmem S4x256 .f32 := Memref.whole cc0_scratch10

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.Kernel.Body

end
-- ==== Proof.BRunA.lean ====
module

public import proofs.«01_k».proof.Proof.BRuns

@[expose] public section

set_option maxRecDepth 16384

noncomputable section

/-! The kernel on machine words: the run of its body at the first grid point. The text follows the generated frame. -/

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in

theorem pointRun0_A (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x768 .f32) (harg16 : arg16.IsWhole) (arg17 : Memref sig .tc .vmem S1x768 .f32) (harg17 : arg17.IsWhole) (arg18 : Memref sig .tc .vmem S4x256x32 .f32) (harg18 : arg18.IsWhole) (arg19 : Memref sig .tc .vmem S2048x768 .f32) (harg19 : arg19.IsWhole) (arg20 : Memref sig .tc .vmem S2048x4 .i32) (harg20 : arg20.IsWhole) (arg21 : Memref sig .tc .smem S1x1 .f32) (harg21 : arg21.IsWhole) (arg22 : Memref sig .tc .vmem S768x512 .bf16) (harg22 : arg22.IsWhole) (arg23 : Memref sig .tc .vmem S512x256 .bf16) (harg23 : arg23.IsWhole) (arg24 : Memref sig .tc .vmem S256x128 .bf16) (harg24 : arg24.IsWhole) (arg25 : Memref sig .tc .vmem S128x32 .bf16) (harg25 : arg25.IsWhole) (arg26 : Memref sig .tc .vmem S32x128 .bf16) (harg26 : arg26.IsWhole) (arg27 : Memref sig .tc .vmem S128x256 .bf16) (harg27 : arg27.IsWhole) (arg28 : Memref sig .tc .vmem S256x512 .bf16) (harg28 : arg28.IsWhole) (arg29 : Memref sig .tc .vmem S512x768 .bf16) (harg29 : arg29.IsWhole) (arg30 : Memref sig .tc .vmem S4x768x32 .bf16) (harg30 : arg30.IsWhole) (arg31 : Memref sig .tc .vmem S4x256x32 .bf16) (harg31 : arg31.IsWhole) (arg32 : Memref sig .tc .vmem S4x256 .f32) (harg32 : arg32.IsWhole) (hc0 : cond0_0 i)
    (x0 : Vec F S2048x768 .f32) (x1 : Vec F S768x512 .f32) (x2 : Vec F S1x512 .f32) (x3 : Vec F S512x256 .f32) (x4 : Vec F S1x256 .f32) (x5 : Vec F S256x128 .f32) (x6 : Vec F S1x128 .f32) (x7 : Vec F S128x32 .f32) (x8 : Vec F S1x32 .f32) (x9 : Vec F S32x128 .f32) (x10 : Vec F S1x128 .f32) (x11 : Vec F S128x256 .f32) (x12 : Vec F S1x256 .f32) (x13 : Vec F S256x512 .f32) (x14 : Vec F S1x512 .f32) (x15 : Vec F S512x768 .f32) (x16 : Vec F S1x768 .f32) (x17 : Vec F S4x256x32 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)) -∗ K ⟨⟩))
          ⊢ wp frame (wpE (defs₀ (F := F)) Variants.none c none) E (cc0__rqvae_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
    intro E K
    simp only [cc0__rqvae_block_eq_skeleton]; unfold cc0__rqvae_block_skel
    simp only [k0_part2_eq_skeleton, k0_part1_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Kernel.Body

end
-- ==== Proof.BRunB.lean ====
module

public import proofs.«01_k».proof.Proof.BRunA

@[expose] public section

set_option maxRecDepth 16384

noncomputable section

/-! The kernel on machine words: the run of its body at the other grid points. The text follows the generated frame. -/

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in

theorem pointRun0_B (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x768 .f32) (harg16 : arg16.IsWhole) (arg17 : Memref sig .tc .vmem S1x768 .f32) (harg17 : arg17.IsWhole) (arg18 : Memref sig .tc .vmem S4x256x32 .f32) (harg18 : arg18.IsWhole) (arg19 : Memref sig .tc .vmem S2048x768 .f32) (harg19 : arg19.IsWhole) (arg20 : Memref sig .tc .vmem S2048x4 .i32) (harg20 : arg20.IsWhole) (arg21 : Memref sig .tc .smem S1x1 .f32) (harg21 : arg21.IsWhole) (arg22 : Memref sig .tc .vmem S768x512 .bf16) (harg22 : arg22.IsWhole) (arg23 : Memref sig .tc .vmem S512x256 .bf16) (harg23 : arg23.IsWhole) (arg24 : Memref sig .tc .vmem S256x128 .bf16) (harg24 : arg24.IsWhole) (arg25 : Memref sig .tc .vmem S128x32 .bf16) (harg25 : arg25.IsWhole) (arg26 : Memref sig .tc .vmem S32x128 .bf16) (harg26 : arg26.IsWhole) (arg27 : Memref sig .tc .vmem S128x256 .bf16) (harg27 : arg27.IsWhole) (arg28 : Memref sig .tc .vmem S256x512 .bf16) (harg28 : arg28.IsWhole) (arg29 : Memref sig .tc .vmem S512x768 .bf16) (harg29 : arg29.IsWhole) (arg30 : Memref sig .tc .vmem S4x768x32 .bf16) (harg30 : arg30.IsWhole) (arg31 : Memref sig .tc .vmem S4x256x32 .bf16) (harg31 : arg31.IsWhole) (arg32 : Memref sig .tc .vmem S4x256 .f32) (harg32 : arg32.IsWhole) (hc0 : ¬cond0_0 i)
    (x0 : Vec F S2048x768 .f32) (x1 : Vec F S768x512 .f32) (x2 : Vec F S1x512 .f32) (x3 : Vec F S512x256 .f32) (x4 : Vec F S1x256 .f32) (x5 : Vec F S256x128 .f32) (x6 : Vec F S1x128 .f32) (x7 : Vec F S128x32 .f32) (x8 : Vec F S1x32 .f32) (x9 : Vec F S32x128 .f32) (x10 : Vec F S1x128 .f32) (x11 : Vec F S128x256 .f32) (x12 : Vec F S1x256 .f32) (x13 : Vec F S256x512 .f32) (x14 : Vec F S1x512 .f32) (x15 : Vec F S512x768 .f32) (x16 : Vec F S1x768 .f32) (x17 : Vec F S4x256x32 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)) -∗ K ⟨⟩))
          ⊢ wp frame (wpE (defs₀ (F := F)) Variants.none c none) E (cc0__rqvae_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
    intro E K
    simp only [cc0__rqvae_block_eq_skeleton]; unfold cc0__rqvae_block_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Kernel.Body

end
-- ==== Proof.BFrame.lean ====
module

public import proofs.«01_k».proof.Proof.BRunB
public import Idealize.ShloMosaic.Lib.Claim

@[expose] public section

set_option maxRecDepth 16384

noncomputable section

/-! The kernel on machine words: the proof data, the obligation of the body at each grid point, the run of the program and
its frame. The text follows the generated frame. -/

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 21 → Bool := fun w => w.val == 18 || w.val == 19 || w.val == 20

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare d)
    ∗ (∃ d, owns (c : Thread nD τ) (ms0_19 t) fullShare d)
    ∗ (∃ d, owns (c : Thread nD τ) (ms0_20 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 25600000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((pointRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, H10, H11, H12, H13, H14, H15, H16, H17, H18, H19, H20, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((pointRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, H10, H11, H12, H13, H14, H15, H16, H17, H18, H19, H20, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in

theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel.Body

end
-- ==== Proof.KBase.lean ====
module

public import proofs.«01_k».proof.Proof.Gen.KernelIdeal.Frame
public import Idealize.ShloMosaic.Lib.WordCmp
public import Idealize.ShloMosaic.Lib.Tactic
public import Idealize.ShloMosaic.Lib.Ring

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid point is the first one, as the body tests it. -/
abbrev isFirst (i : grid0.Coords) : Prop := (Scalar.cmpi .ne (Scalar.extui (Scalar.cmpi .eq (BitVec.ofNat 32 (i 0).val) 0#32)) 0#32) = 1#1
/-- The test holds at the first of the eight points only. -/
theorem isFirst_iff : ∀ t : Fin cfg0.N, isFirst (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [isFirst, e0]
    word_cmp
   : ∀ t : Fin grid0.N, isFirst (grid0.coords t) ↔ t.val % 8 = 0)

/-- Each window's staging memref at point `t`, and that it is a whole buffer. -/
abbrev ms0_0 (t : Fin cfg0.N) : Memref sig .tc .vmem S2048x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x768 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x256x32 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2048x768 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2048x4 .i32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .smem S1x1 .f32 := win0_20.stage (cfg0.slots t 20)
abbrev hs0_20 (t : Fin cfg0.N) : (ms0_20 t).IsWhole := hstage0_20 ((cfg0.slots t 20).cast nbuf0_20)
/-- The kernel's own scratch buffers, each as a whole memref. -/
abbrev scM0_0 : Memref sig .tc .vmem S768x512 .bf16 := Memref.whole cc0_scratch0
abbrev scM0_1 : Memref sig .tc .vmem S512x256 .bf16 := Memref.whole cc0_scratch1
abbrev scM0_2 : Memref sig .tc .vmem S256x128 .bf16 := Memref.whole cc0_scratch2
abbrev scM0_3 : Memref sig .tc .vmem S128x32 .bf16 := Memref.whole cc0_scratch3
abbrev scM0_4 : Memref sig .tc .vmem S32x128 .bf16 := Memref.whole cc0_scratch4
abbrev scM0_5 : Memref sig .tc .vmem S128x256 .bf16 := Memref.whole cc0_scratch5
abbrev scM0_6 : Memref sig .tc .vmem S256x512 .bf16 := Memref.whole cc0_scratch6
abbrev scM0_7 : Memref sig .tc .vmem S512x768 .bf16 := Memref.whole cc0_scratch7
abbrev scM0_8 : Memref sig .tc .vmem S4x768x32 .bf16 := Memref.whole cc0_scratch8
abbrev scM0_9 : Memref sig .tc .vmem S4x256x32 .bf16 := Memref.whole cc0_scratch9
abbrev scM0_10 : Memref sig .tc .vmem S4x256 .f32 := Memref.whole cc0_scratch10
/-- The region's invariant before the first point: every scratch buffer at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.KernelIdeal.Body

end
-- ==== Proof.KRunA.lean ====
module

public import proofs.«01_k».proof.Proof.KBase
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The whole body at the first grid point: from the inputs at their contents, the loss word at `xo20` and everything
    else at anything, it ends with the inputs as they were and each other buffer with the listed pieces written. -/
noncomputable def kernelRunA (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x768 .f32) (harg16 : arg16.IsWhole) (arg17 : Memref sig .tc .vmem S1x768 .f32) (harg17 : arg17.IsWhole) (arg18 : Memref sig .tc .vmem S4x256x32 .f32) (harg18 : arg18.IsWhole) (arg19 : Memref sig .tc .vmem S2048x768 .f32) (harg19 : arg19.IsWhole) (arg20 : Memref sig .tc .vmem S2048x4 .i32) (harg20 : arg20.IsWhole) (arg21 : Memref sig .tc .smem S1x1 .f32) (harg21 : arg21.IsWhole) (arg22 : Memref sig .tc .vmem S768x512 .bf16) (harg22 : arg22.IsWhole) (arg23 : Memref sig .tc .vmem S512x256 .bf16) (harg23 : arg23.IsWhole) (arg24 : Memref sig .tc .vmem S256x128 .bf16) (harg24 : arg24.IsWhole) (arg25 : Memref sig .tc .vmem S128x32 .bf16) (harg25 : arg25.IsWhole) (arg26 : Memref sig .tc .vmem S32x128 .bf16) (harg26 : arg26.IsWhole) (arg27 : Memref sig .tc .vmem S128x256 .bf16) (harg27 : arg27.IsWhole) (arg28 : Memref sig .tc .vmem S256x512 .bf16) (harg28 : arg28.IsWhole) (arg29 : Memref sig .tc .vmem S512x768 .bf16) (harg29 : arg29.IsWhole) (arg30 : Memref sig .tc .vmem S4x768x32 .bf16) (harg30 : arg30.IsWhole) (arg31 : Memref sig .tc .vmem S4x256x32 .bf16) (harg31 : arg31.IsWhole) (arg32 : Memref sig .tc .vmem S4x256 .f32) (harg32 : arg32.IsWhole) (hc0 : isFirst i)
    (x0 : Vec F S2048x768 .f32) (x1 : Vec F S768x512 .f32) (x2 : Vec F S1x512 .f32) (x3 : Vec F S512x256 .f32) (x4 : Vec F S1x256 .f32) (x5 : Vec F S256x128 .f32) (x6 : Vec F S1x128 .f32) (x7 : Vec F S128x32 .f32) (x8 : Vec F S1x32 .f32) (x9 : Vec F S32x128 .f32) (x10 : Vec F S1x128 .f32) (x11 : Vec F S128x256 .f32) (x12 : Vec F S1x256 .f32) (x13 : Vec F S256x512 .f32) (x14 : Vec F S1x512 .f32) (x15 : Vec F S512x768 .f32) (x16 : Vec F S1x768 .f32) (x17 : Vec F S4x256x32 .f32) (xo20 : Vec F S1x1 .f32) :
    Σ' (L18 : List (View.Piece (Elt F) S2048x768 .f32)), Σ' (L19 : List (View.Piece (Elt F) S2048x4 .i32)), Σ' (L20 : List (View.Piece (Elt F) S1x1 .f32)), Σ' (LS0 : List (View.Piece (Elt F) S768x512 .bf16)), Σ' (LS1 : List (View.Piece (Elt F) S512x256 .bf16)), Σ' (LS2 : List (View.Piece (Elt F) S256x128 .bf16)), Σ' (LS3 : List (View.Piece (Elt F) S128x32 .bf16)), Σ' (LS4 : List (View.Piece (Elt F) S32x128 .bf16)), Σ' (LS5 : List (View.Piece (Elt F) S128x256 .bf16)), Σ' (LS6 : List (View.Piece (Elt F) S256x512 .bf16)), Σ' (LS7 : List (View.Piece (Elt F) S512x768 .bf16)), Σ' (LS8 : List (View.Piece (Elt F) S4x768x32 .bf16)), Σ' (LS9 : List (View.Piece (Elt F) S4x256x32 .bf16)), { LS10 : List (View.Piece (Elt F) S4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ owns (c : Thread nD τ) arg21 fullShare xo20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2) ∗ (∃ f, arg25.view.loc (c : Thread nD τ) ↦[arg25.view.set]{fullShare} arg25.view.writes (Elt F) f LS3) ∗ (∃ f, arg26.view.loc (c : Thread nD τ) ↦[arg26.view.set]{fullShare} arg26.view.writes (Elt F) f LS4) ∗ (∃ f, arg27.view.loc (c : Thread nD τ) ↦[arg27.view.set]{fullShare} arg27.view.writes (Elt F) f LS5) ∗ (∃ f, arg28.view.loc (c : Thread nD τ) ↦[arg28.view.set]{fullShare} arg28.view.writes (Elt F) f LS6) ∗ (∃ f, arg29.view.loc (c : Thread nD τ) ↦[arg29.view.set]{fullShare} arg29.view.writes (Elt F) f LS7) ∗ (∃ f, arg30.view.loc (c : Thread nD τ) ↦[arg30.view.set]{fullShare} arg30.view.writes (Elt F) f LS8) ∗ (∃ f, arg31.view.loc (c : Thread nD τ) ↦[arg31.view.set]{fullShare} arg31.view.writes (Elt F) f LS9) ∗ (∃ f, arg32.view.loc (c : Thread nD τ) ↦[arg32.view.set]{fullShare} arg32.view.writes (Elt F) f LS10)) -∗ K ⟨⟩))
          ⊢ wp frame (wpE (defs₀ (F := F)) Variants.none c none) E (cc0__rqvae_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, fun E K => ?run⟩
  case run =>
    simp only [cc0__rqvae_block_eq_skeleton]; unfold cc0__rqvae_block_skel
    simp only [k0_part2_eq_skeleton, k0_part1_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%f20, %hf20, H20⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg21.eq_unread hf20
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    iexists _; iexact HS10

end Cert.KernelIdeal.Body

end
-- ==== Proof.KRunB.lean ====
module

public import proofs.«01_k».proof.Proof.KRunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 12800000 in
/-- The whole body at a later grid point: from the inputs at their contents, the loss word at `xo20` and the scratch
    buffers at `xs0`, …, `xs10`, it ends with the inputs and the scratch as they were and each output with the listed pieces written. -/
noncomputable def kernelRunB (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x768 .f32) (harg16 : arg16.IsWhole) (arg17 : Memref sig .tc .vmem S1x768 .f32) (harg17 : arg17.IsWhole) (arg18 : Memref sig .tc .vmem S4x256x32 .f32) (harg18 : arg18.IsWhole) (arg19 : Memref sig .tc .vmem S2048x768 .f32) (harg19 : arg19.IsWhole) (arg20 : Memref sig .tc .vmem S2048x4 .i32) (harg20 : arg20.IsWhole) (arg21 : Memref sig .tc .smem S1x1 .f32) (harg21 : arg21.IsWhole) (arg22 : Memref sig .tc .vmem S768x512 .bf16) (harg22 : arg22.IsWhole) (arg23 : Memref sig .tc .vmem S512x256 .bf16) (harg23 : arg23.IsWhole) (arg24 : Memref sig .tc .vmem S256x128 .bf16) (harg24 : arg24.IsWhole) (arg25 : Memref sig .tc .vmem S128x32 .bf16) (harg25 : arg25.IsWhole) (arg26 : Memref sig .tc .vmem S32x128 .bf16) (harg26 : arg26.IsWhole) (arg27 : Memref sig .tc .vmem S128x256 .bf16) (harg27 : arg27.IsWhole) (arg28 : Memref sig .tc .vmem S256x512 .bf16) (harg28 : arg28.IsWhole) (arg29 : Memref sig .tc .vmem S512x768 .bf16) (harg29 : arg29.IsWhole) (arg30 : Memref sig .tc .vmem S4x768x32 .bf16) (harg30 : arg30.IsWhole) (arg31 : Memref sig .tc .vmem S4x256x32 .bf16) (harg31 : arg31.IsWhole) (arg32 : Memref sig .tc .vmem S4x256 .f32) (harg32 : arg32.IsWhole) (hc0 : ¬isFirst i)
    (x0 : Vec F S2048x768 .f32) (x1 : Vec F S768x512 .f32) (x2 : Vec F S1x512 .f32) (x3 : Vec F S512x256 .f32) (x4 : Vec F S1x256 .f32) (x5 : Vec F S256x128 .f32) (x6 : Vec F S1x128 .f32) (x7 : Vec F S128x32 .f32) (x8 : Vec F S1x32 .f32) (x9 : Vec F S32x128 .f32) (x10 : Vec F S1x128 .f32) (x11 : Vec F S128x256 .f32) (x12 : Vec F S1x256 .f32) (x13 : Vec F S256x512 .f32) (x14 : Vec F S1x512 .f32) (x15 : Vec F S512x768 .f32) (x16 : Vec F S1x768 .f32) (x17 : Vec F S4x256x32 .f32) (xo20 : Vec F S1x1 .f32) (xs0 : Vec F S768x512 .bf16) (xs1 : Vec F S512x256 .bf16) (xs2 : Vec F S256x128 .bf16) (xs3 : Vec F S128x32 .bf16) (xs4 : Vec F S32x128 .bf16) (xs5 : Vec F S128x256 .bf16) (xs6 : Vec F S256x512 .bf16) (xs7 : Vec F S512x768 .bf16) (xs8 : Vec F S4x768x32 .bf16) (xs9 : Vec F S4x256x32 .bf16) (xs10 : Vec F S4x256 .f32) :
    Σ' (L18 : List (View.Piece (Elt F) S2048x768 .f32)), Σ' (L19 : List (View.Piece (Elt F) S2048x4 .i32)), Σ' (L20 : List (View.Piece (Elt F) S1x1 .f32)), Σ' (LS0 : List (View.Piece (Elt F) S768x512 .bf16)), Σ' (LS1 : List (View.Piece (Elt F) S512x256 .bf16)), Σ' (LS2 : List (View.Piece (Elt F) S256x128 .bf16)), Σ' (LS3 : List (View.Piece (Elt F) S128x32 .bf16)), Σ' (LS4 : List (View.Piece (Elt F) S32x128 .bf16)), Σ' (LS5 : List (View.Piece (Elt F) S128x256 .bf16)), Σ' (LS6 : List (View.Piece (Elt F) S256x512 .bf16)), Σ' (LS7 : List (View.Piece (Elt F) S512x768 .bf16)), Σ' (LS8 : List (View.Piece (Elt F) S4x768x32 .bf16)), Σ' (LS9 : List (View.Piece (Elt F) S4x256x32 .bf16)), { LS10 : List (View.Piece (Elt F) S4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ owns (c : Thread nD τ) arg21 fullShare xo20 ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5 ∗ owns (c : Thread nD τ) arg28 fullShare xs6 ∗ owns (c : Thread nD τ) arg29 fullShare xs7 ∗ owns (c : Thread nD τ) arg30 fullShare xs8 ∗ owns (c : Thread nD τ) arg31 fullShare xs9 ∗ owns (c : Thread nD τ) arg32 fullShare xs10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5 ∗ owns (c : Thread nD τ) arg28 fullShare xs6 ∗ owns (c : Thread nD τ) arg29 fullShare xs7 ∗ owns (c : Thread nD τ) arg30 fullShare xs8 ∗ owns (c : Thread nD τ) arg31 fullShare xs9 ∗ owns (c : Thread nD τ) arg32 fullShare xs10) -∗ K ⟨⟩))
          ⊢ wp frame (wpE (defs₀ (F := F)) Variants.none c none) E (cc0__rqvae_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, [], [], [], [], [], [], [], [], [], [], [], fun E K => ?run⟩
  case run =>
    simp only [cc0__rqvae_block_eq_skeleton]; unfold cc0__rqvae_block_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%f20, %hf20, H20⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg21.eq_unread hf20; obtain rfl := harg22.eq_unread hfs0; obtain rfl := harg23.eq_unread hfs1; obtain rfl := harg24.eq_unread hfs2; obtain rfl := harg25.eq_unread hfs3; obtain rfl := harg26.eq_unread hfs4; obtain rfl := harg27.eq_unread hfs5; obtain rfl := harg28.eq_unread hfs6; obtain rfl := harg29.eq_unread hfs7; obtain rfl := harg30.eq_unread hfs8; obtain rfl := harg31.eq_unread hfs9; obtain rfl := harg32.eq_unread hfs10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [HS0]
    · iexists _; isplitr; · ipureintro; exact harg22.read_unread _
      iexact HS0
    isplitl [HS1]
    · iexists _; isplitr; · ipureintro; exact harg23.read_unread _
      iexact HS1
    isplitl [HS2]
    · iexists _; isplitr; · ipureintro; exact harg24.read_unread _
      iexact HS2
    isplitl [HS3]
    · iexists _; isplitr; · ipureintro; exact harg25.read_unread _
      iexact HS3
    isplitl [HS4]
    · iexists _; isplitr; · ipureintro; exact harg26.read_unread _
      iexact HS4
    isplitl [HS5]
    · iexists _; isplitr; · ipureintro; exact harg27.read_unread _
      iexact HS5
    isplitl [HS6]
    · iexists _; isplitr; · ipureintro; exact harg28.read_unread _
      iexact HS6
    isplitl [HS7]
    · iexists _; isplitr; · ipureintro; exact harg29.read_unread _
      iexact HS7
    isplitl [HS8]
    · iexists _; isplitr; · ipureintro; exact harg30.read_unread _
      iexact HS8
    isplitl [HS9]
    · iexists _; isplitr; · ipureintro; exact harg31.read_unread _
      iexact HS9
    iexists _; isplitr; · ipureintro; exact harg32.read_unread _
    iexact HS10

end Cert.KernelIdeal.Body

end
-- ==== Proof.KVal.lean ====
module

public import proofs.«01_k».proof.Proof.KBase
public import proofs.«01_k».proof.Proof.Gen.KernelIdeal.Skeleton
public import Idealize.ShloMosaic.Lib.Pipeline.ValueKit

@[expose] public section

noncomputable section

/-! What one grid point of the idealized kernel computes, as functions of the blocks it reads: the row block `x`, the
eight bias rows, the eleven scratch buffers and the loss word. Each value is the printed payload at these arguments. -/

namespace Cert.KernelIdeal.Body

open Cert.KernelIdeal Cert.KernelIdeal.Gen Idealize.ShloMosaic Idealize.ShloMosaic.TcCoe

/-- What a grid point reads: its rows, the bias rows of the eight layers and the eleven scratch buffers. -/
structure Ins (F : FTy → Type) where
  x : Vec F S2048x768 .f32
  b0 : Vec F S1x512 .f32
  b1 : Vec F S1x256 .f32
  b2 : Vec F S1x128 .f32
  b3 : Vec F S1x32 .f32
  b4 : Vec F S1x128 .f32
  b5 : Vec F S1x256 .f32
  b6 : Vec F S1x512 .f32
  b7 : Vec F S1x768 .f32
  s0 : Vec F S768x512 .bf16
  s1 : Vec F S512x256 .bf16
  s2 : Vec F S256x128 .bf16
  s3 : Vec F S128x32 .bf16
  s4 : Vec F S32x128 .bf16
  s5 : Vec F S128x256 .bf16
  s6 : Vec F S256x512 .bf16
  s7 : Vec F S512x768 .bf16
  s8 : Vec F S4x768x32 .bf16
  s9 : Vec F S4x256x32 .bf16
  s10 : Vec F S4x256 .f32

variable {F : FTy → Type} [FloatOps F]

/-- Level 0's hi part of the codebook in the scratch. -/
def hi0 (a : Ins F) : Vec F S1x256x32 .bf16 := View.ld a.s8 (Rect.unit (s := S4x768x32) ![0, 0, 0] S1x256x32.size inb_S4x768x32_S1x256x32_0_0_0)

/-- Level 0's mid part of the codebook in the scratch. -/
def mid0 (a : Ins F) : Vec F S1x256x32 .bf16 := View.ld a.s8 (Rect.unit (s := S4x768x32) ![0, 256, 0] S1x256x32.size inb_S4x768x32_S1x256x32_0_256_0)

/-- Level 0's lo part of the codebook in the scratch. -/
def lo0 (a : Ins F) : Vec F S1x256x32 .bf16 := View.ld a.s8 (Rect.unit (s := S4x768x32) ![0, 512, 0] S1x256x32.size inb_S4x768x32_S1x256x32_0_512_0)

/-- Level 0's codebook times minus two in the scratch. -/
def neg0 (a : Ins F) : Vec F S1x256x32 .bf16 := View.ld a.s9 (Rect.unit (s := S4x256x32) ![0, 0, 0] S1x256x32.size inb_S4x256x32_S1x256x32_0_0_0)

/-- Level 0's squared norms in the scratch. -/
def nrm0 (a : Ins F) : Vec F S1x256 .f32 := View.ld a.s10 (Rect.unit (s := S4x256) ![0, 0] S1x256.size inb_S4x256_S1x256_0_0)

/-- Level 1's hi part of the codebook in the scratch. -/
def hi1 (a : Ins F) : Vec F S1x256x32 .bf16 := View.ld a.s8 (Rect.unit (s := S4x768x32) ![1, 0, 0] S1x256x32.size inb_S4x768x32_S1x256x32_1_0_0)

/-- Level 1's mid part of the codebook in the scratch. -/
def mid1 (a : Ins F) : Vec F S1x256x32 .bf16 := View.ld a.s8 (Rect.unit (s := S4x768x32) ![1, 256, 0] S1x256x32.size inb_S4x768x32_S1x256x32_1_256_0)

/-- Level 1's lo part of the codebook in the scratch. -/
def lo1 (a : Ins F) : Vec F S1x256x32 .bf16 := View.ld a.s8 (Rect.unit (s := S4x768x32) ![1, 512, 0] S1x256x32.size inb_S4x768x32_S1x256x32_1_512_0)

/-- Level 1's codebook times minus two in the scratch. -/
def neg1 (a : Ins F) : Vec F S1x256x32 .bf16 := View.ld a.s9 (Rect.unit (s := S4x256x32) ![1, 0, 0] S1x256x32.size inb_S4x256x32_S1x256x32_1_0_0)

/-- Level 1's squared norms in the scratch. -/
def nrm1 (a : Ins F) : Vec F S1x256 .f32 := View.ld a.s10 (Rect.unit (s := S4x256) ![1, 0] S1x256.size inb_S4x256_S1x256_1_0)

/-- Level 2's hi part of the codebook in the scratch. -/
def hi2 (a : Ins F) : Vec F S1x256x32 .bf16 := View.ld a.s8 (Rect.unit (s := S4x768x32) ![2, 0, 0] S1x256x32.size inb_S4x768x32_S1x256x32_2_0_0)

/-- Level 2's mid part of the codebook in the scratch. -/
def mid2 (a : Ins F) : Vec F S1x256x32 .bf16 := View.ld a.s8 (Rect.unit (s := S4x768x32) ![2, 256, 0] S1x256x32.size inb_S4x768x32_S1x256x32_2_256_0)

/-- Level 2's lo part of the codebook in the scratch. -/
def lo2 (a : Ins F) : Vec F S1x256x32 .bf16 := View.ld a.s8 (Rect.unit (s := S4x768x32) ![2, 512, 0] S1x256x32.size inb_S4x768x32_S1x256x32_2_512_0)

/-- Level 2's codebook times minus two in the scratch. -/
def neg2 (a : Ins F) : Vec F S1x256x32 .bf16 := View.ld a.s9 (Rect.unit (s := S4x256x32) ![2, 0, 0] S1x256x32.size inb_S4x256x32_S1x256x32_2_0_0)

/-- Level 2's squared norms in the scratch. -/
def nrm2 (a : Ins F) : Vec F S1x256 .f32 := View.ld a.s10 (Rect.unit (s := S4x256) ![2, 0] S1x256.size inb_S4x256_S1x256_2_0)

/-- Level 3's hi part of the codebook in the scratch. -/
def hi3 (a : Ins F) : Vec F S1x256x32 .bf16 := View.ld a.s8 (Rect.unit (s := S4x768x32) ![3, 0, 0] S1x256x32.size inb_S4x768x32_S1x256x32_3_0_0)

/-- Level 3's mid part of the codebook in the scratch. -/
def mid3 (a : Ins F) : Vec F S1x256x32 .bf16 := View.ld a.s8 (Rect.unit (s := S4x768x32) ![3, 256, 0] S1x256x32.size inb_S4x768x32_S1x256x32_3_256_0)

/-- Level 3's lo part of the codebook in the scratch. -/
def lo3 (a : Ins F) : Vec F S1x256x32 .bf16 := View.ld a.s8 (Rect.unit (s := S4x768x32) ![3, 512, 0] S1x256x32.size inb_S4x768x32_S1x256x32_3_512_0)

/-- Level 3's codebook times minus two in the scratch. -/
def neg3 (a : Ins F) : Vec F S1x256x32 .bf16 := View.ld a.s9 (Rect.unit (s := S4x256x32) ![3, 0, 0] S1x256x32.size inb_S4x256x32_S1x256x32_3_0_0)

/-- Level 3's squared norms in the scratch. -/
def nrm3 (a : Ins F) : Vec F S1x256 .f32 := View.ld a.s10 (Rect.unit (s := S4x256) ![3, 0] S1x256.size inb_S4x256_S1x256_3_0)

/-- The encoder's third layer. -/
def v32 (a : Ins F) : FVec F S2048x128 .bf16 := k0_pay15 a.x a.s0 a.b0 a.s1 a.b1 a.s2 a.b2

/-- The encoder's result, the first residual. -/
def v37 (a : Ins F) : FVec F S2048x32 .f32 := k0_pay16 a.s3 (v32 a) (constant S2048x32 .f32 0x00000000#32) a.b3

/-- The zero the quantised sum starts from. -/
def v38 (a : Ins F) : FVec F S2048x32 .f32 := k0_pay17 (F := F)

/-- The codeword numbers along a row. -/
def v40 (a : Ins F) : FVec F S2048x256 .f32 := k0_pay18 (F := F)

/-- Level 0's codeword number. -/
def v63 (a : Ins F) : FVec F S2048 .f32 := k0_pay19 a.s3 (v32 a) (constant S2048x32 .f32 0x00000000#32) a.b3 (nrm0 a) (neg0 a)

/-- Level 0's one-hot rows. -/
def v69 (a : Ins F) : FVec F S2048x256 .bf16 := k0_pay20 a.s3 (v32 a) (constant S2048x32 .f32 0x00000000#32) a.b3 (nrm0 a) (neg0 a)

/-- Level 0's codeword, high part. -/
def v70 (a : Ins F) : FVec F S2048x32 .f32 := k0_pay21 a.s3 (v32 a) (constant S2048x32 .f32 0x00000000#32) a.b3 (hi0 a) (nrm0 a) (neg0 a)

/-- Level 0's middle part of the codebook. -/
def v72 (a : Ins F) : FVec F S256x32 .bf16 := k0_pay22 (mid0 a)

/-- The loss after level 0. -/
def v85 (a : Ins F) : F .f32 := k0_pay24 (v37 a) (v69 a) (v70 a) (v72 a) (lo0 a)

/-- The quantised sum after level 0. -/
def v87 (a : Ins F) : FVec F S2048x32 .f32 := k0_pay26 (v37 a) (v38 a) (v69 a) (v70 a) (v72 a) (lo0 a)

/-- The residual after level 0. -/
def v88 (a : Ins F) : FVec F S2048x32 .f32 := k0_pay27 (v37 a) (v69 a) (v70 a) (v72 a) (lo0 a)

/-- The column of level 0's codeword numbers. -/
def c0 (a : Ins F) : Vec F S2048x1 .i32 := k0_pay28 (v63 a)

/-- Level 1's high part. -/
def v94 (a : Ins F) : FVec F S256x32 .bf16 := k0_pay29 (hi1 a)

/-- Level 1's distances. -/
def v108 (a : Ins F) : FVec F S2048x256 .f32 := k0_pay30 (v37 a) (v69 a) (v70 a) (v72 a) (lo0 a) (nrm1 a) (neg1 a)

/-- Level 1's least distance along the row. -/
def v111 (a : Ins F) : FVec F S2048x256 .f32 := k0_pay31 (v37 a) (v69 a) (v70 a) (v72 a) (lo0 a) (nrm1 a) (neg1 a)

/-- The loss after level 1. -/
def v137 (a : Ins F) : F .f32 := k0_pay34 (v40 a) (v85 a) (v88 a) (v94 a) (v108 a) (v111 a) (mid1 a) (lo1 a)

/-- The quantised sum after level 1. -/
def v139 (a : Ins F) : FVec F S2048x32 .f32 := k0_pay36 (v40 a) (v87 a) (v88 a) (v94 a) (v108 a) (v111 a) (mid1 a) (lo1 a)

/-- The residual after level 1. -/
def v140 (a : Ins F) : FVec F S2048x32 .f32 := k0_pay37 (v40 a) (v88 a) (v94 a) (v108 a) (v111 a) (mid1 a) (lo1 a)

/-- The column of level 1's codeword numbers. -/
def c1 (a : Ins F) : Vec F S2048x1 .i32 := k0_pay38 (v40 a) (v108 a) (v111 a)

/-- Level 2's high part. -/
def v146 (a : Ins F) : FVec F S256x32 .bf16 := k0_pay39 (hi2 a)

/-- Level 2's squared norms. -/
def v148 (a : Ins F) : FVec F S256 .f32 := k0_pay40 (nrm2 a)

/-- The squared norms of the residual after level 1. -/
def v150 (a : Ins F) : FVec F S2048 .f32 := k0_pay41 (v40 a) (v88 a) (v94 a) (v108 a) (v111 a) (mid1 a) (lo1 a)

/-- The loss after level 2. -/
def v189 (a : Ins F) : F .f32 := k0_pay44 (v40 a) (v137 a) (v140 a) (v146 a) (v148 a) (v150 a) (neg2 a) (mid2 a) (lo2 a)

/-- The quantised sum after level 2. -/
def v191 (a : Ins F) : FVec F S2048x32 .f32 := k0_pay46 (v40 a) (v139 a) (v140 a) (v146 a) (v148 a) (v150 a) (neg2 a) (mid2 a) (lo2 a)

/-- The residual after level 2. -/
def v192 (a : Ins F) : FVec F S2048x32 .f32 := k0_pay47 (v40 a) (v140 a) (v146 a) (v148 a) (v150 a) (neg2 a) (mid2 a) (lo2 a)

/-- Level 2's codeword number. -/
def v193 (a : Ins F) : IVec S2048 32 := k0_pay48 (v40 a) (v140 a) (v148 a) (v150 a) (neg2 a)

/-- The column of level 2's codeword numbers. -/
def c2 (a : Ins F) : Vec F S2048x1 .i32 := k0_pay49 (v193 a)

/-- Level 3's codeword number. -/
def v219 (a : Ins F) : FVec F S2048 .f32 := k0_pay50 (v40 a) (v192 a) (nrm3 a) (neg3 a)

/-- Level 3's one-hot rows. -/
def v225 (a : Ins F) : FVec F S2048x256 .bf16 := k0_pay51 (v40 a) (v192 a) (nrm3 a) (neg3 a)

/-- Level 3's codeword, high and middle parts. -/
def v230 (a : Ins F) : FVec F S2048x32 .f32 := k0_pay52 (v40 a) (v192 a) (hi3 a) (nrm3 a) (neg3 a) (mid3 a)

/-- The loss of the block, all four levels. -/
def v241 (a : Ins F) : F .f32 := k0_pay54 (v189 a) (v192 a) (v225 a) (v230 a) (lo3 a)

/-- The column of level 3's codeword numbers. -/
def c3 (a : Ins F) : Vec F S2048x1 .i32 := k0_pay55 (v219 a)

/-- The decoder up to its third product. -/
def v268 (a : Ins F) : FVec F S2048x512 .f32 := k0_pay56 (v191 a) (v192 a) (v225 a) (v230 a) (lo3 a) a.s4 a.b4 a.s5 a.b5 a.s6

/-- The block of the first result. -/
def outB (a : Ins F) : Vec F S2048x768 .f32 := k0_pay1 (v268 a) a.b6 a.s7 a.b7

/-- The loss word has one index. -/
theorem one_index (x y : S1x1.Idx) : x = y := by
  funext a
  match a with
  | ⟨0, _⟩ => exact Fin.ext (by have h1 := (x 0).isLt; have h2 := (y 0).isLt; change (x 0).val < 1 at h1; change (y 0).val < 1 at h2; show (x 0).val = (y 0).val; omega)
  | ⟨1, _⟩ => exact Fin.ext (by have h1 := (x 1).isLt; have h2 := (y 1).isLt; change (x 1).val < 1 at h1; change (y 1).val < 1 at h2; show (x 1).val = (y 1).val; omega)

/-- The index of the loss word. -/
def word0 : S1x1.Idx := Shape.Idx.first (by decide)

/-- A load of part of a buffer whose only store covered it whole reads that part of what was stored. -/
theorem readCov_part {Val : EltTy → Type} {S : Shape} {e : EltTy} [∀ e, Nonempty (Val e)] {sig : RefSig} {κ : Kind} {sp : Space}
    (v : View sig κ sp S e) {off : Fin S.rank → Nat} (inb : ∀ a, off a + S.size a ≤ S.size a) (w : S.Idx → Val e) (r : Rect S)
    (h : ∀ a, off a = 0) :
    v.readCov [(⟨Rect.unit off (no_index S.size) inb, w⟩ : View.Piece Val S e)] r.toLoadRect = View.ld w r := by
  obtain rfl : off = fun _ => 0 := funext h
  rw [View.readCov_eq_canon_ld _ _ _ (fun y => ⟨_, List.mem_cons_self, by
    show y ∈ (Rect.whole S).set; rw [Rect.set_whole]; exact Finset.mem_univ y⟩), View.canon_cons_unit_zero rfl]

/-- What the first grid point reads: the scratch is filled from the weights and the codebook in that same point. -/
def insA (x0 : Vec F S2048x768 .f32) (x1 : Vec F S768x512 .f32) (x2 : Vec F S1x512 .f32) (x3 : Vec F S512x256 .f32)
    (x4 : Vec F S1x256 .f32) (x5 : Vec F S256x128 .f32) (x6 : Vec F S1x128 .f32) (x7 : Vec F S128x32 .f32)
    (x8 : Vec F S1x32 .f32) (x9 : Vec F S32x128 .f32) (x10 : Vec F S1x128 .f32) (x11 : Vec F S128x256 .f32)
    (x12 : Vec F S1x256 .f32) (x13 : Vec F S256x512 .f32) (x14 : Vec F S1x512 .f32) (x15 : Vec F S512x768 .f32)
    (x16 : Vec F S1x768 .f32) (x17 : Vec F S4x256x32 .f32) : Ins F :=
  ⟨x0, x2, x4, x6, x8, x10, x12, x14, x16, k0_pay3 x1, k0_pay4 x3, k0_pay5 x5, k0_pay6 x7, k0_pay7 x9, k0_pay8 x11,
    k0_pay9 x13, k0_pay10 x15, k0_pay12 x17, k0_pay13 x17, k0_pay14 x17⟩

/-- The loss word after grid point `i`, from the word before it. -/
def lossB (i : grid0.Coords) (a : Ins F) (p : Elt F .f32) : Elt F .f32 := k0_pay2 (BitVec.ofNat 32 (i 0).val) (v241 a) p

/-- The four columns of codeword numbers, as the pieces the body stores (last first). -/
def idxPieces (a : Ins F) : List (View.Piece (Elt F) S2048x4 .i32) :=
  [⟨Rect.unit (s := S2048x4) ![0, 3] S2048x1.size inb_S2048x4_S2048x1_0_3, c3 a⟩,
   ⟨Rect.unit (s := S2048x4) ![0, 2] S2048x1.size inb_S2048x4_S2048x1_0_2, c2 a⟩,
   ⟨Rect.unit (s := S2048x4) ![0, 1] S2048x1.size inb_S2048x4_S2048x1_0_1, c1 a⟩,
   ⟨Rect.unit (s := S2048x4) ![0, 0] S2048x1.size inb_S2048x4_S2048x1_0_0, c0 a⟩]

/-- The block of codeword numbers. -/
def idxB (a : Ins F) : Vec F S2048x4 .i32 := View.canon (idxPieces a)

end Cert.KernelIdeal.Body

end
-- ==== Proof.KOutA.lean ====
module

public import proofs.«01_k».proof.Proof.KRunA
public import proofs.«01_k».proof.Proof.KVal
public import Idealize.ShloMosaic.Lib.Pipeline.ValueKit

@[expose] public section

noncomputable section

/-! What the body leaves in each buffer at the first grid point: the run's stores read back. -/

namespace Cert.KernelIdeal.Body

open Cert.KernelIdeal Cert.KernelIdeal.Gen Idealize.ShloMosaic Idealize.ShloMosaic.TcCoe

variable {F : FTy → Type} [FloatOps F]
variable (c : Dev nD) (i : grid0.Coords)
  (arg1 : Memref sig .tc .vmem S2048x768 .f32) (harg1 : arg1.IsWhole)
  (arg2 : Memref sig .tc .vmem S768x512 .f32) (harg2 : arg2.IsWhole)
  (arg3 : Memref sig .tc .vmem S1x512 .f32) (harg3 : arg3.IsWhole)
  (arg4 : Memref sig .tc .vmem S512x256 .f32) (harg4 : arg4.IsWhole)
  (arg5 : Memref sig .tc .vmem S1x256 .f32) (harg5 : arg5.IsWhole)
  (arg6 : Memref sig .tc .vmem S256x128 .f32) (harg6 : arg6.IsWhole)
  (arg7 : Memref sig .tc .vmem S1x128 .f32) (harg7 : arg7.IsWhole)
  (arg8 : Memref sig .tc .vmem S128x32 .f32) (harg8 : arg8.IsWhole)
  (arg9 : Memref sig .tc .vmem S1x32 .f32) (harg9 : arg9.IsWhole)
  (arg10 : Memref sig .tc .vmem S32x128 .f32) (harg10 : arg10.IsWhole)
  (arg11 : Memref sig .tc .vmem S1x128 .f32) (harg11 : arg11.IsWhole)
  (arg12 : Memref sig .tc .vmem S128x256 .f32) (harg12 : arg12.IsWhole)
  (arg13 : Memref sig .tc .vmem S1x256 .f32) (harg13 : arg13.IsWhole)
  (arg14 : Memref sig .tc .vmem S256x512 .f32) (harg14 : arg14.IsWhole)
  (arg15 : Memref sig .tc .vmem S1x512 .f32) (harg15 : arg15.IsWhole)
  (arg16 : Memref sig .tc .vmem S512x768 .f32) (harg16 : arg16.IsWhole)
  (arg17 : Memref sig .tc .vmem S1x768 .f32) (harg17 : arg17.IsWhole)
  (arg18 : Memref sig .tc .vmem S4x256x32 .f32) (harg18 : arg18.IsWhole)
  (arg19 : Memref sig .tc .vmem S2048x768 .f32) (harg19 : arg19.IsWhole)
  (arg20 : Memref sig .tc .vmem S2048x4 .i32) (harg20 : arg20.IsWhole)
  (arg21 : Memref sig .tc .smem S1x1 .f32) (harg21 : arg21.IsWhole)
  (arg22 : Memref sig .tc .vmem S768x512 .bf16) (harg22 : arg22.IsWhole)
  (arg23 : Memref sig .tc .vmem S512x256 .bf16) (harg23 : arg23.IsWhole)
  (arg24 : Memref sig .tc .vmem S256x128 .bf16) (harg24 : arg24.IsWhole)
  (arg25 : Memref sig .tc .vmem S128x32 .bf16) (harg25 : arg25.IsWhole)
  (arg26 : Memref sig .tc .vmem S32x128 .bf16) (harg26 : arg26.IsWhole)
  (arg27 : Memref sig .tc .vmem S128x256 .bf16) (harg27 : arg27.IsWhole)
  (arg28 : Memref sig .tc .vmem S256x512 .bf16) (harg28 : arg28.IsWhole)
  (arg29 : Memref sig .tc .vmem S512x768 .bf16) (harg29 : arg29.IsWhole)
  (arg30 : Memref sig .tc .vmem S4x768x32 .bf16) (harg30 : arg30.IsWhole)
  (arg31 : Memref sig .tc .vmem S4x256x32 .bf16) (harg31 : arg31.IsWhole)
  (arg32 : Memref sig .tc .vmem S4x256 .f32) (harg32 : arg32.IsWhole)
  (x0 : Vec F S2048x768 .f32) (x1 : Vec F S768x512 .f32) (x2 : Vec F S1x512 .f32) (x3 : Vec F S512x256 .f32) (x4 : Vec F S1x256 .f32) (x5 : Vec F S256x128 .f32) (x6 : Vec F S1x128 .f32) (x7 : Vec F S128x32 .f32) (x8 : Vec F S1x32 .f32) (x9 : Vec F S32x128 .f32) (x10 : Vec F S1x128 .f32) (x11 : Vec F S128x256 .f32) (x12 : Vec F S1x256 .f32) (x13 : Vec F S256x512 .f32) (x14 : Vec F S1x512 .f32) (x15 : Vec F S512x768 .f32) (x16 : Vec F S1x768 .f32) (x17 : Vec F S4x256x32 .f32) (xo20 : Vec F S1x1 .f32)

set_option maxHeartbeats 4000000 in
/-- Read back, the buffer of the first result is `outB` of what the point reads. -/
theorem wA18 (hc0 : isFirst i) (f : arg19.view.ty.Contents (Elt F)) :
    arg19.view.read (Elt F) (arg19.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).1) = outB (insA x0 x1 x2 x3 x4 x5 x6 x7 x8 x9 x10 x11 x12 x13 x14 x15 x16 x17) := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).1 S2048x768.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of the codeword numbers is `idxB` of what the point reads. -/
theorem wA19 (hc0 : isFirst i) (f : arg20.view.ty.Contents (Elt F)) :
    arg20.view.read (Elt F) (arg20.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.1) = idxB (insA x0 x1 x2 x3 x4 x5 x6 x7 x8 x9 x10 x11 x12 x13 x14 x15 x16 x17) := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.1 S2048x1.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of the loss word is `fun _ => lossB i` of what the point reads. -/
theorem wA20 (hc0 : isFirst i) (f : arg21.view.ty.Contents (Elt F)) :
    arg21.view.read (Elt F) (arg21.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.1) = fun _ => lossB i (insA x0 x1 x2 x3 x4 x5 x6 x7 x8 x9 x10 x11 x12 x13 x14 x15 x16 x17) (xo20 word0) := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.1 S1x1.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  funext x; exact congrArg (k0_pay2 (BitVec.ofNat 32 (i 0).val) (v241 (insA x0 x1 x2 x3 x4 x5 x6 x7 x8 x9 x10 x11 x12 x13 x14 x15 x16 x17))) (congrArg xo20 (one_index _ _))

set_option maxHeartbeats 4000000 in
/-- Read back, the buffer of scratch 0 is `(insA x0 x1 x2 x3 x4 x5 x6 x7 x8 x9 x10 x11 x12 x13 x14 x15 x16 x17).s0` of what the point reads. -/
theorem wAS0 (hc0 : isFirst i) (f : arg22.view.ty.Contents (Elt F)) :
    arg22.view.read (Elt F) (arg22.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.1) = (insA x0 x1 x2 x3 x4 x5 x6 x7 x8 x9 x10 x11 x12 x13 x14 x15 x16 x17).s0 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.1 S768x512.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 1 is `(insA x0 x1 x2 x3 x4 x5 x6 x7 x8 x9 x10 x11 x12 x13 x14 x15 x16 x17).s1` of what the point reads. -/
theorem wAS1 (hc0 : isFirst i) (f : arg23.view.ty.Contents (Elt F)) :
    arg23.view.read (Elt F) (arg23.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.1) = (insA x0 x1 x2 x3 x4 x5 x6 x7 x8 x9 x10 x11 x12 x13 x14 x15 x16 x17).s1 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.1 S512x256.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 2 is `(insA x0 x1 x2 x3 x4 x5 x6 x7 x8 x9 x10 x11 x12 x13 x14 x15 x16 x17).s2` of what the point reads. -/
theorem wAS2 (hc0 : isFirst i) (f : arg24.view.ty.Contents (Elt F)) :
    arg24.view.read (Elt F) (arg24.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.1) = (insA x0 x1 x2 x3 x4 x5 x6 x7 x8 x9 x10 x11 x12 x13 x14 x15 x16 x17).s2 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.1 S256x128.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 3 is `(insA x0 x1 x2 x3 x4 x5 x6 x7 x8 x9 x10 x11 x12 x13 x14 x15 x16 x17).s3` of what the point reads. -/
theorem wAS3 (hc0 : isFirst i) (f : arg25.view.ty.Contents (Elt F)) :
    arg25.view.read (Elt F) (arg25.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.1) = (insA x0 x1 x2 x3 x4 x5 x6 x7 x8 x9 x10 x11 x12 x13 x14 x15 x16 x17).s3 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.1 S128x32.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 4 is `(insA x0 x1 x2 x3 x4 x5 x6 x7 x8 x9 x10 x11 x12 x13 x14 x15 x16 x17).s4` of what the point reads. -/
theorem wAS4 (hc0 : isFirst i) (f : arg26.view.ty.Contents (Elt F)) :
    arg26.view.read (Elt F) (arg26.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.1) = (insA x0 x1 x2 x3 x4 x5 x6 x7 x8 x9 x10 x11 x12 x13 x14 x15 x16 x17).s4 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.1 S32x128.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 5 is `(insA x0 x1 x2 x3 x4 x5 x6 x7 x8 x9 x10 x11 x12 x13 x14 x15 x16 x17).s5` of what the point reads. -/
theorem wAS5 (hc0 : isFirst i) (f : arg27.view.ty.Contents (Elt F)) :
    arg27.view.read (Elt F) (arg27.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.1) = (insA x0 x1 x2 x3 x4 x5 x6 x7 x8 x9 x10 x11 x12 x13 x14 x15 x16 x17).s5 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.1 S128x256.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 6 is `(insA x0 x1 x2 x3 x4 x5 x6 x7 x8 x9 x10 x11 x12 x13 x14 x15 x16 x17).s6` of what the point reads. -/
theorem wAS6 (hc0 : isFirst i) (f : arg28.view.ty.Contents (Elt F)) :
    arg28.view.read (Elt F) (arg28.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.1) = (insA x0 x1 x2 x3 x4 x5 x6 x7 x8 x9 x10 x11 x12 x13 x14 x15 x16 x17).s6 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.1 S256x512.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 7 is `(insA x0 x1 x2 x3 x4 x5 x6 x7 x8 x9 x10 x11 x12 x13 x14 x15 x16 x17).s7` of what the point reads. -/
theorem wAS7 (hc0 : isFirst i) (f : arg29.view.ty.Contents (Elt F)) :
    arg29.view.read (Elt F) (arg29.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.2.1) = (insA x0 x1 x2 x3 x4 x5 x6 x7 x8 x9 x10 x11 x12 x13 x14 x15 x16 x17).s7 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.2.1 S512x768.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 8 is `(insA x0 x1 x2 x3 x4 x5 x6 x7 x8 x9 x10 x11 x12 x13 x14 x15 x16 x17).s8` of what the point reads. -/
theorem wAS8 (hc0 : isFirst i) (f : arg30.view.ty.Contents (Elt F)) :
    arg30.view.read (Elt F) (arg30.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.2.2.1) = (insA x0 x1 x2 x3 x4 x5 x6 x7 x8 x9 x10 x11 x12 x13 x14 x15 x16 x17).s8 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.2.2.1 S4x768x32.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 9 is `(insA x0 x1 x2 x3 x4 x5 x6 x7 x8 x9 x10 x11 x12 x13 x14 x15 x16 x17).s9` of what the point reads. -/
theorem wAS9 (hc0 : isFirst i) (f : arg31.view.ty.Contents (Elt F)) :
    arg31.view.read (Elt F) (arg31.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.2.2.2.1) = (insA x0 x1 x2 x3 x4 x5 x6 x7 x8 x9 x10 x11 x12 x13 x14 x15 x16 x17).s9 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.2.2.2.1 S4x256x32.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of scratch 10 is `(insA x0 x1 x2 x3 x4 x5 x6 x7 x8 x9 x10 x11 x12 x13 x14 x15 x16 x17).s10` of what the point reads. -/
theorem wAS10 (hc0 : isFirst i) (f : arg32.view.ty.Contents (Elt F)) :
    arg32.view.read (Elt F) (arg32.view.writes (Elt F) f (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.2.2.2.2.1) = (insA x0 x1 x2 x3 x4 x5 x6 x7 x8 x9 x10 x11 x12 x13 x14 x15 x16 x17).s10 := by
  rw [View.read_writes_eq_canon _ _ _ (fun y => View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20).2.2.2.2.2.2.2.2.2.2.2.2.2.1 S4x256.size (by sl_kernel_rfl) y)]
  unfold kernelRunA
  dsimp only
  sl_unfold_words
  simp (disch := decide) only [View.canon_cons_unit_lit', View.ld_unit_lit', View.readCov_unit_lit', View.readAt_eq_ld,
    Memref.IsWhole.read_unread, readCov_part]
  rfl

end Cert.KernelIdeal.Body

end
-- ==== Proof.KOutB.lean ====
module

public import proofs.«01_k».proof.Proof.KRunB
public import proofs.«01_k».proof.Proof.KOutA
public import proofs.«01_k».proof.Proof.KVal
public import Idealize.ShloMosaic.Lib.Pipeline.ValueKit

@[expose] public section

noncomputable section

/-! What the body leaves in each buffer at a later grid point: the run's stores read back. -/

namespace Cert.KernelIdeal.Body

open Cert.KernelIdeal Cert.KernelIdeal.Gen Idealize.ShloMosaic Idealize.ShloMosaic.TcCoe

variable {F : FTy → Type} [FloatOps F]
variable (c : Dev nD) (i : grid0.Coords)
  (arg1 : Memref sig .tc .vmem S2048x768 .f32) (harg1 : arg1.IsWhole)
  (arg2 : Memref sig .tc .vmem S768x512 .f32) (harg2 : arg2.IsWhole)
  (arg3 : Memref sig .tc .vmem S1x512 .f32) (harg3 : arg3.IsWhole)
  (arg4 : Memref sig .tc .vmem S512x256 .f32) (harg4 : arg4.IsWhole)
  (arg5 : Memref sig .tc .vmem S1x256 .f32) (harg5 : arg5.IsWhole)
  (arg6 : Memref sig .tc .vmem S256x128 .f32) (harg6 : arg6.IsWhole)
  (arg7 : Memref sig .tc .vmem S1x128 .f32) (harg7 : arg7.IsWhole)
  (arg8 : Memref sig .tc .vmem S128x32 .f32) (harg8 : arg8.IsWhole)
  (arg9 : Memref sig .tc .vmem S1x32 .f32) (harg9 : arg9.IsWhole)
  (arg10 : Memref sig .tc .vmem S32x128 .f32) (harg10 : arg10.IsWhole)
  (arg11 : Memref sig .tc .vmem S1x128 .f32) (harg11 : arg11.IsWhole)
  (arg12 : Memref sig .tc .vmem S128x256 .f32) (harg12 : arg12.IsWhole)
  (arg13 : Memref sig .tc .vmem S1x256 .f32) (harg13 : arg13.IsWhole)
  (arg14 : Memref sig .tc .vmem S256x512 .f32) (harg14 : arg14.IsWhole)
  (arg15 : Memref sig .tc .vmem S1x512 .f32) (harg15 : arg15.IsWhole)
  (arg16 : Memref sig .tc .vmem S512x768 .f32) (harg16 : arg16.IsWhole)
  (arg17 : Memref sig .tc .vmem S1x768 .f32) (harg17 : arg17.IsWhole)
  (arg18 : Memref sig .tc .vmem S4x256x32 .f32) (harg18 : arg18.IsWhole)
  (arg19 : Memref sig .tc .vmem S2048x768 .f32) (harg19 : arg19.IsWhole)
  (arg20 : Memref sig .tc .vmem S2048x4 .i32) (harg20 : arg20.IsWhole)
  (arg21 : Memref sig .tc .smem S1x1 .f32) (harg21 : arg21.IsWhole)
  (arg22 : Memref sig .tc .vmem S768x512 .bf16) (harg22 : arg22.IsWhole)
  (arg23 : Memref sig .tc .vmem S512x256 .bf16) (harg23 : arg23.IsWhole)
  (arg24 : Memref sig .tc .vmem S256x128 .bf16) (harg24 : arg24.IsWhole)
  (arg25 : Memref sig .tc .vmem S128x32 .bf16) (harg25 : arg25.IsWhole)
  (arg26 : Memref sig .tc .vmem S32x128 .bf16) (harg26 : arg26.IsWhole)
  (arg27 : Memref sig .tc .vmem S128x256 .bf16) (harg27 : arg27.IsWhole)
  (arg28 : Memref sig .tc .vmem S256x512 .bf16) (harg28 : arg28.IsWhole)
  (arg29 : Memref sig .tc .vmem S512x768 .bf16) (harg29 : arg29.IsWhole)
  (arg30 : Memref sig .tc .vmem S4x768x32 .bf16) (harg30 : arg30.IsWhole)
  (arg31 : Memref sig .tc .vmem S4x256x32 .bf16) (harg31 : arg31.IsWhole)
  (arg32 : Memref sig .tc .vmem S4x256 .f32) (harg32 : arg32.IsWhole)
  (x0 : Vec F S2048x768 .f32) (x1 : Vec F S768x512 .f32) (x2 : Vec F S1x512 .f32) (x3 : Vec F S512x256 .f32) (x4 : Vec F S1x256 .f32) (x5 : Vec F S256x128 .f32) (x6 : Vec F S1x128 .f32) (x7 : Vec F S128x32 .f32) (x8 : Vec F S1x32 .f32) (x9 : Vec F S32x128 .f32) (x10 : Vec F S1x128 .f32) (x11 : Vec F S128x256 .f32) (x12 : Vec F S1x256 .f32) (x13 : Vec F S256x512 .f32) (x14 : Vec F S1x512 .f32) (x15 : Vec F S512x768 .f32) (x16 : Vec F S1x768 .f32) (x17 : Vec F S4x256x32 .f32) (xo20 : Vec F S1x1 .f32)
  (xs0 : Vec F S768x512 .bf16) (xs1 : Vec F S512x256 .bf16) (xs2 : Vec F S256x128 .bf16) (xs3 : Vec F S128x32 .bf16) (xs4 : Vec F S32x128 .bf16) (xs5 : Vec F S128x256 .bf16) (xs6 : Vec F S256x512 .bf16) (xs7 : Vec F S512x768 .bf16) (xs8 : Vec F S4x768x32 .bf16) (xs9 : Vec F S4x256x32 .bf16) (xs10 : Vec F S4x256 .f32)

set_option maxHeartbeats 4000000 in
/-- Read back, the buffer of the first result is `outB` of what the point reads. -/
theorem wB18 (hc0 : ¬isFirst i) (f : arg19.view.ty.Contents (Elt F)) :
    arg19.view.read (Elt F) (arg19.view.writes (Elt F) f (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20 xs0 xs1 xs2 xs3 xs4 xs5 xs6 xs7 xs8 xs9 xs10).1) = outB (Ins.mk x0 x2 x4 x6 x8 x10 x12 x14 x16 xs0 xs1 xs2 xs3 xs4 xs5 xs6 xs7 xs8 xs9 xs10) := by
  rw [View.read_writes_eq_canon _ _ _ (fun y => View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20 xs0 xs1 xs2 xs3 xs4 xs5 xs6 xs7 xs8 xs9 xs10).1 S2048x768.size (by sl_kernel_rfl) y)]
  unfold kernelRunB
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of the codeword numbers is `idxB` of what the point reads. -/
theorem wB19 (hc0 : ¬isFirst i) (f : arg20.view.ty.Contents (Elt F)) :
    arg20.view.read (Elt F) (arg20.view.writes (Elt F) f (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20 xs0 xs1 xs2 xs3 xs4 xs5 xs6 xs7 xs8 xs9 xs10).2.1) = idxB (Ins.mk x0 x2 x4 x6 x8 x10 x12 x14 x16 xs0 xs1 xs2 xs3 xs4 xs5 xs6 xs7 xs8 xs9 xs10) := by
  rw [View.read_writes_eq_canon _ _ _ (fun y => View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20 xs0 xs1 xs2 xs3 xs4 xs5 xs6 xs7 xs8 xs9 xs10).2.1 S2048x1.size (by sl_kernel_rfl) y)]
  unfold kernelRunB
  dsimp only
  sl_unfold_words
  simp (disch := decide) only [View.canon_cons_unit_lit', View.ld_unit_lit', View.readCov_unit_lit', View.readAt_eq_ld,
    Memref.IsWhole.read_unread, readCov_part]
  rfl

set_option maxHeartbeats 4000000 in
/-- Read back, the buffer of the loss word is `fun _ => lossB i` of what the point reads. -/
theorem wB20 (hc0 : ¬isFirst i) (f : arg21.view.ty.Contents (Elt F)) :
    arg21.view.read (Elt F) (arg21.view.writes (Elt F) f (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20 xs0 xs1 xs2 xs3 xs4 xs5 xs6 xs7 xs8 xs9 xs10).2.2.1) = fun _ => lossB i (Ins.mk x0 x2 x4 x6 x8 x10 x12 x14 x16 xs0 xs1 xs2 xs3 xs4 xs5 xs6 xs7 xs8 xs9 xs10) (xo20 word0) := by
  rw [View.read_writes_eq_canon _ _ _ (fun y => View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 x10 x11 x12 x13 x14 x15 x16 x17 xo20 xs0 xs1 xs2 xs3 xs4 xs5 xs6 xs7 xs8 xs9 xs10).2.2.1 S1x1.size (by sl_kernel_rfl) y)]
  unfold kernelRunB
  dsimp only
  sl_unfold_words
  simp (disch := decide) only [View.canon_cons_unit_lit', View.ld_unit_lit', View.readCov_unit_lit', View.readAt_eq_ld,
    Memref.IsWhole.read_unread, readCov_part]
  funext x; exact congrArg (k0_pay2 (BitVec.ofNat 32 (i 0).val) (v241 (Ins.mk x0 x2 x4 x6 x8 x10 x12 x14 x16 xs0 xs1 xs2 xs3 xs4 xs5 xs6 xs7 xs8 xs9 xs10))) (congrArg xo20 (one_index _ _))

end Cert.KernelIdeal.Body

end
-- ==== Proof.KFrame.lean ====
module

public import proofs.«01_k».proof.Proof.KOutB
public import Idealize.ShloMosaic.Lib.Claim

@[expose] public section

set_option maxRecDepth 16384

noncomputable section

/-! The idealized kernel's frame: what each buffer holds before and after each grid point, the body's obligation at
every point, and the run of the whole program. -/

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, lt_of_lt_of_eq (by decide : 0 < 8) (N_0 : cfg0.N = 8).symm⟩

/-- A grid point the first condition holds at is the first. -/
theorem eq_t0 (t : Fin cfg0.N) (h : t.val % 8 = 0) : t = t0 :=
  Fin.ext (by have hN : t.val < 8 := lt_of_lt_of_eq t.isLt (show cfg0.N = 8 from N_0); show t.val = 0; omega)

/-- What grid point `t` reads: its row block and bias rows, and the scratch as the first point filled it. -/
def insAt (c : Dev nD) (t : Fin cfg0.N) : Ins F :=
  ⟨iblk m c 0 t, iblk m c 2 t, iblk m c 4 t, iblk m c 6 t, iblk m c 8 t, iblk m c 10 t, iblk m c 12 t, iblk m c 14 t,
    iblk m c 16 t, k0_pay3 (iblk m c 1 t0), k0_pay4 (iblk m c 3 t0), k0_pay5 (iblk m c 5 t0), k0_pay6 (iblk m c 7 t0),
    k0_pay7 (iblk m c 9 t0), k0_pay8 (iblk m c 11 t0), k0_pay9 (iblk m c 13 t0), k0_pay10 (iblk m c 15 t0),
    k0_pay12 (iblk m c 17 t0), k0_pay13 (iblk m c 17 t0), k0_pay14 (iblk m c 17 t0)⟩

/-- The loss word after grid point `n`. -/
def lossW (c : Dev nD) : (n : ℕ) → n < cfg0.N → Elt F .f32
  | 0, hn => lossB (grid0.coords ⟨0, hn⟩) (insAt m c ⟨0, hn⟩) (Elt.inhabited F .f32).default
  | n + 1, hn => lossB (grid0.coords ⟨n + 1, hn⟩) (insAt m c ⟨n + 1, hn⟩) (lossW c n (Nat.lt_of_succ_lt hn))

/-- At the first grid point the word before it does not matter. -/
theorem lossB_first (a : Ins F) (p q : Elt F .f32) : lossB (grid0.coords t0) a p = lossB (grid0.coords t0) a q := rfl

theorem lossW_pos (c : Dev nD) (t : Fin cfg0.N) (hz : t.val ≠ 0) :
    lossW m c t.val t.isLt = lossB (grid0.coords t) (insAt m c t) (lossW m c (t.val - 1) (Nat.lt_of_le_of_lt (Nat.sub_le _ _) t.isLt)) := by
  obtain ⟨n, hn⟩ := t
  cases n with
  | zero => exact absurd rfl hz
  | succ n => rfl

/-- The invariant before position `n`: at the first point every scratch at anything, afterwards as the first point
    filled it. -/
def PhiS (c : Dev nD) : ℕ → sProp 𝕄
  | 0 => Pipeline.ΦA spec0 c
  | _ + 1 => iprop(iprop(owns (c : Thread nD τ) scM0_0 fullShare (insAt m c t0).s0 ∗ owns (c : Thread nD τ) scM0_1 fullShare (insAt m c t0).s1 ∗ owns (c : Thread nD τ) scM0_2 fullShare (insAt m c t0).s2 ∗ owns (c : Thread nD τ) scM0_3 fullShare (insAt m c t0).s3 ∗ owns (c : Thread nD τ) scM0_4 fullShare (insAt m c t0).s4 ∗ owns (c : Thread nD τ) scM0_5 fullShare (insAt m c t0).s5 ∗ owns (c : Thread nD τ) scM0_6 fullShare (insAt m c t0).s6 ∗ owns (c : Thread nD τ) scM0_7 fullShare (insAt m c t0).s7 ∗ owns (c : Thread nD τ) scM0_8 fullShare (insAt m c t0).s8 ∗ owns (c : Thread nD τ) scM0_9 fullShare (insAt m c t0).s9 ∗ owns (c : Thread nD τ) scM0_10 fullShare (insAt m c t0).s10) ∗ (∃ g, prngReg c g))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop(owns (c : Thread nD τ) scM0_0 fullShare (insAt m c t0).s0 ∗ owns (c : Thread nD τ) scM0_1 fullShare (insAt m c t0).s1 ∗ owns (c : Thread nD τ) scM0_2 fullShare (insAt m c t0).s2 ∗ owns (c : Thread nD τ) scM0_3 fullShare (insAt m c t0).s3 ∗ owns (c : Thread nD τ) scM0_4 fullShare (insAt m c t0).s4 ∗ owns (c : Thread nD τ) scM0_5 fullShare (insAt m c t0).s5 ∗ owns (c : Thread nD τ) scM0_6 fullShare (insAt m c t0).s6 ∗ owns (c : Thread nD τ) scM0_7 fullShare (insAt m c t0).s7 ∗ owns (c : Thread nD τ) scM0_8 fullShare (insAt m c t0).s8 ∗ owns (c : Thread nD τ) scM0_9 fullShare (insAt m c t0).s9 ∗ owns (c : Thread nD τ) scM0_10 fullShare (insAt m c t0).s10) ∗ (∃ g, prngReg c g)) := by
  cases n with
  | zero => exact absurd rfl hz
  | succ n => rfl

/-- The region's proof data: each input's buffer at its block, each result's at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outB (insAt m c t)
    | ⟨19, _⟩ => idxB (insAt m c t)
    | ⟨20, _⟩ => fun _ => lossW m c t.val t.isLt
    | ⟨_ + 21, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = outB (insAt m c t) := by dsimp only [dats]
theorem after0_19 (c : Dev nD) (t : Fin cfg0.N) : (dats m 0 c).after 19 t = idxB (insAt m c t) := by dsimp only [dats]
theorem after0_20 (c : Dev nD) (t : Fin cfg0.N) : (dats m 0 c).after 20 t = fun _ => lossW m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-- At a later point the loss word's buffer holds what the point before left. -/
theorem before0_20 (c : Dev nD) (t : Fin cfg0.N) (h0 : ¬t.val % 8 = 0) (d) :
    (dats m 0 c).before 20 t d = fun _ => lossW m c (t.val - 1) (Nat.lt_of_le_of_lt (Nat.sub_le _ _) t.isLt) := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 25600000 in
/-- The body at any point: the inputs' memrefs hold their blocks, the scratch and the loss word what the invariant says;
    the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) from rfl, PhiS_pos m c _ (Nat.succ_ne_zero _)]
  by_cases h0 : t.val % 8 = 0
  · obtain rfl := eq_t0 t h0
    rw [show (dats m 0 c).Φ t0.castSucc = PhiS m c 0 from rfl, PhiS_zero m c _ rfl, PhiA0_eq]
    iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRunA c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((isFirst_iff t0).mpr h0) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20)).2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexact H20
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, H10, H11, H12, H13, H14, H15, H16, H17, ⟨%e18, H18⟩, ⟨%e19, H19⟩, ⟨%e20, H20⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩⟩
    isplitl [HS0 HS1 HS2 HS3 HS4 HS5 HS6 HS7 HS8 HS9 HS10 Hg]
    · isplitl [HS0 HS1 HS2 HS3 HS4 HS5 HS6 HS7 HS8 HS9 HS10]
      · isplitl [HS0]
        · unfold owns; iexists _; isplitr
          swap; · iexact HS0
          ipureintro; exact wAS0 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS1]
        · unfold owns; iexists _; isplitr
          swap; · iexact HS1
          ipureintro; exact wAS1 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS2]
        · unfold owns; iexists _; isplitr
          swap; · iexact HS2
          ipureintro; exact wAS2 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS3]
        · unfold owns; iexists _; isplitr
          swap; · iexact HS3
          ipureintro; exact wAS3 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS4]
        · unfold owns; iexists _; isplitr
          swap; · iexact HS4
          ipureintro; exact wAS4 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS5]
        · unfold owns; iexists _; isplitr
          swap; · iexact HS5
          ipureintro; exact wAS5 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS6]
        · unfold owns; iexists _; isplitr
          swap; · iexact HS6
          ipureintro; exact wAS6 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS7]
        · unfold owns; iexists _; isplitr
          swap; · iexact HS7
          ipureintro; exact wAS7 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS8]
        · unfold owns; iexists _; isplitr
          swap; · iexact HS8
          ipureintro; exact wAS8 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        isplitl [HS9]
        · unfold owns; iexists _; isplitr
          swap; · iexact HS9
          ipureintro; exact wAS9 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
        unfold owns; iexists _; isplitr
        swap; · iexact HS10
        ipureintro; exact wAS10 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact wA18 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
    isplitl [H19]
    · unfold owns; iexists _; isplitr
      swap; · iexact H19
      ipureintro; exact wA19 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _
    unfold owns; iexists _; isplitr
    swap; · iexact H20
    ipureintro; exact (wA20 c (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) ((dats m 0 c).before 20 t0 d20) ((isFirst_iff t0).mpr h0) _).trans (funext fun _ => lossB_first _ _ _)
  · have hz : t.val ≠ 0 := fun h => h0 (by rw [h])
    rw [show (dats m 0 c).Φ t.castSucc = PhiS m c t.val from rfl, PhiS_pos m c _ hz]
    simp only [before0_20 m c t h0]
    iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRunB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (mt (isFirst_iff t).mp h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun _ => lossW m c (t.val - 1) (Nat.lt_of_le_of_lt (Nat.sub_le _ _) t.isLt)) (insAt m c t0).s0 (insAt m c t0).s1 (insAt m c t0).s2 (insAt m c t0).s3 (insAt m c t0).s4 (insAt m c t0).s5 (insAt m c t0).s6 (insAt m c t0).s7 (insAt m c t0).s8 (insAt m c t0).s9 (insAt m c t0).s10).2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexact H20
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, H10, H11, H12, H13, H14, H15, H16, H17, ⟨%e18, H18⟩, ⟨%e19, H19⟩, ⟨%e20, H20⟩, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact wB18 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun _ => lossW m c (t.val - 1) (Nat.lt_of_le_of_lt (Nat.sub_le _ _) t.isLt)) (insAt m c t0).s0 (insAt m c t0).s1 (insAt m c t0).s2 (insAt m c t0).s3 (insAt m c t0).s4 (insAt m c t0).s5 (insAt m c t0).s6 (insAt m c t0).s7 (insAt m c t0).s8 (insAt m c t0).s9 (insAt m c t0).s10 (mt (isFirst_iff t).mp h0) _
    isplitl [H19]
    · unfold owns; iexists _; isplitr
      swap; · iexact H19
      ipureintro; exact wB19 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun _ => lossW m c (t.val - 1) (Nat.lt_of_le_of_lt (Nat.sub_le _ _) t.isLt)) (insAt m c t0).s0 (insAt m c t0).s1 (insAt m c t0).s2 (insAt m c t0).s3 (insAt m c t0).s4 (insAt m c t0).s5 (insAt m c t0).s6 (insAt m c t0).s7 (insAt m c t0).s8 (insAt m c t0).s9 (insAt m c t0).s10 (mt (isFirst_iff t).mp h0) _
    unfold owns; iexists _; isplitr
    swap; · iexact H20
    ipureintro; exact (wB20 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun _ => lossW m c (t.val - 1) (Nat.lt_of_le_of_lt (Nat.sub_le _ _) t.isLt)) (insAt m c t0).s0 (insAt m c t0).s1 (insAt m c t0).s2 (insAt m c t0).s3 (insAt m c t0).s4 (insAt m c t0).s5 (insAt m c t0).s6 (insAt m c t0).s7 (insAt m c t0).s8 (insAt m c t0).s9 (insAt m c t0).s10 (mt (isFirst_iff t).mp h0) _).trans (funext fun _ => (lossW_pos m c t hz).symm)

/-- The body table's row at point `t` is the body at the point's buffers. -/
theorem body_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the region's scratch back. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 8 := N_0; omega), PhiA0_eq]
  iintro ⟨⟨HS0, HS1, HS2, HS3, HS4, HS5, HS6, HS7, HS8, HS9, HS10⟩, Hg⟩
  isplitl [HS0 HS1 HS2 HS3 HS4 HS5 HS6 HS7 HS8 HS9 HS10]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    isplitl [HS9]
    · iexists _; iexact HS9
    iexists _; iexact HS10
  iexact Hg

set_option backward.isDefEq.respectTransparency.types false in
set_option maxHeartbeats 800000 in
/-- The run of the whole program: the region's arrays at what the proof data says, the lines after it applied, and
    every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the run ends with every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.ROps.lean ====
module

public import proofs.«01_k».proof.Proof.Gen.ReferenceIdeal
public import Idealize.ShloMosaic.Lib.StableHlo.Run
public import Idealize.ShloMosaic.Lib.Pipeline.Frame

@[expose] public section

set_option Elab.async false

noncomputable section

/- The reference's `@main` as lists of host operations, cut where the mathematics has its steps. -/
namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- Four scalars in one array. -/
def cat4 (u0 u1 u2 u3 : (⟨S1, .f32⟩ : BufTy).Contents (Elt F)) : (⟨S4, .f32⟩ : BufTy).Contents (Elt F) :=
  (concatenate S4 0 [⟨S1, u0⟩, ⟨S1, u1⟩, ⟨S1, u2⟩, ⟨S1, u3⟩] concatenates_S1_S1_S1_S1_S4_d0 : (⟨S4, .f32⟩ : BufTy).Contents (Elt F))

/-- Four columns in one array. -/
def cols4 (u0 u1 u2 u3 : (⟨S16384x1, .i32⟩ : BufTy).Contents (Elt F)) : (⟨S16384x4, .i32⟩ : BufTy).Contents (Elt F) :=
  (concatenate S16384x4 1 [⟨S16384x1, u0⟩, ⟨S16384x1, u1⟩, ⟨S16384x1, u2⟩, ⟨S16384x1, u3⟩] concatenates_S16384x1_S16384x1_S16384x1_S16384x1_S16384x4_d1 : (⟨S16384x4, .i32⟩ : BufTy).Contents (Elt F))

/-- The operations of the encoder and the zero array. -/
abbrev opsE : List (HloOp τ sig (Elt F)) :=
  [ binary main_arg0 main_arg1 main_v0 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S16384x512 ![0, 1] bcast_S1x512_S16384x512_0_1 : (⟨S1x512, .f32⟩ : BufTy).Contents (Elt F) → (⟨S16384x512, .f32⟩ : BufTy).Contents (Elt F)),
    binary main_v0 main_v2 main_v3 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v3) (TRef.of (T := ⟨S16384x512, .f32⟩) main_call0_v0) (TRef.of (T := ⟨S16384x512, .f32⟩) main_v4) maximumf,
    binary main_v4 main_arg3 main_v5 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg4 main_v6 (broadcastInDim S1x256 ![1] bcast_S256_S1x256_1 : (⟨S256, .f32⟩ : BufTy).Contents (Elt F) → (⟨S1x256, .f32⟩ : BufTy).Contents (Elt F)),
    unary main_v6 main_v7 (broadcastInDim S16384x256 ![0, 1] bcast_S1x256_S16384x256_0_1 : (⟨S1x256, .f32⟩ : BufTy).Contents (Elt F) → (⟨S16384x256, .f32⟩ : BufTy).Contents (Elt F)),
    binary main_v5 main_v7 main_v8 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v8) (TRef.of (T := ⟨S16384x256, .f32⟩) main_call1_v0) (TRef.of (T := ⟨S16384x256, .f32⟩) main_v9) maximumf,
    binary main_v9 main_arg5 main_v10 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg6 main_v11 (broadcastInDim S1x128 ![1] bcast_S128_S1x128_1 : (⟨S128, .f32⟩ : BufTy).Contents (Elt F) → (⟨S1x128, .f32⟩ : BufTy).Contents (Elt F)),
    unary main_v11 main_v12 (broadcastInDim S16384x128 ![0, 1] bcast_S1x128_S16384x128_0_1 : (⟨S1x128, .f32⟩ : BufTy).Contents (Elt F) → (⟨S16384x128, .f32⟩ : BufTy).Contents (Elt F)),
    binary main_v10 main_v12 main_v13 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x128, .f32⟩) main_call2_v0) (broadcastInDim S16384x128 ![] bcast_S_S16384x128),
    TRef.binary (TRef.of (T := ⟨S16384x128, .f32⟩) main_v13) (TRef.of (T := ⟨S16384x128, .f32⟩) main_call2_v0) (TRef.of (T := ⟨S16384x128, .f32⟩) main_v14) maximumf,
    binary main_v14 main_arg7 main_v15 ((fun l r => Host.dotGeneral dot_S16384x128_S128x32_S16384x32_1_0_0_1_n_n none l r) : (⟨S16384x128, .f32⟩ : BufTy).Contents (Elt F) → (⟨S128x32, .f32⟩ : BufTy).Contents (Elt F) → (⟨S16384x32, .f32⟩ : BufTy).Contents (Elt F)),
    unary main_arg8 main_v16 (broadcastInDim S1x32 ![1] bcast_S32_S1x32_1 : (⟨S32, .f32⟩ : BufTy).Contents (Elt F) → (⟨S1x32, .f32⟩ : BufTy).Contents (Elt F)),
    unary main_v16 main_v17 (broadcastInDim S16384x32 ![0, 1] bcast_S1x32_S16384x32_0_1 : (⟨S1x32, .f32⟩ : BufTy).Contents (Elt F) → (⟨S16384x32, .f32⟩ : BufTy).Contents (Elt F)),
    binary main_v15 main_v17 main_v18 (addf : (⟨S16384x32, .f32⟩ : BufTy).Contents (Elt F) → (⟨S16384x32, .f32⟩ : BufTy).Contents (Elt F) → (⟨S16384x32, .f32⟩ : BufTy).Contents (Elt F)),
    nullary main_cst (constant S_ .f32 0x00000000#32),
    unary main_cst main_v19 (broadcastInDim S16384x32 ![] bcast_S_S16384x32 : (⟨S_, .f32⟩ : BufTy).Contents (Elt F) → (⟨S16384x32, .f32⟩ : BufTy).Contents (Elt F))]

/-- The operations of the distances of level 0. -/
abbrev opsD0 : List (HloOp τ sig (Elt F)) :=
  [ unary main_arg17 main_v20 ((extractStridedSlice S1x256x32 ![0, 0, 0] · slices_S4x256x32_S1x256x32_0_0_0) : (⟨S4x256x32, .f32⟩ : BufTy).Contents (Elt F) → (⟨S1x256x32, .f32⟩ : BufTy).Contents (Elt F)),
    reshape main_v20 main_v21 (rfl : (.f32 : EltTy) = .f32) shapeCasts_S1x256x32_S256x32,
    binary main_v18 main_v18 main_v22 (mulf : (⟨S16384x32, .f32⟩ : BufTy).Contents (Elt F) → (⟨S16384x32, .f32⟩ : BufTy).Contents (Elt F) → (⟨S16384x32, .f32⟩ : BufTy).Contents (Elt F)),
    nullary main_cst_0 (constant S_ .f32 0x00000000#32),
    binary main_v22 main_cst_0 main_v23 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v23 main_v24 (broadcastInDim S16384x1 ![0] bcast_S16384_S16384x1_0 : (⟨S16384, .f32⟩ : BufTy).Contents (Elt F) → (⟨S16384x1, .f32⟩ : BufTy).Contents (Elt F)),
    binary main_v21 main_v21 main_v25 (mulf : (⟨S256x32, .f32⟩ : BufTy).Contents (Elt F) → (⟨S256x32, .f32⟩ : BufTy).Contents (Elt F) → (⟨S256x32, .f32⟩ : BufTy).Contents (Elt F)),
    nullary main_cst_1 (constant S_ .f32 0x00000000#32),
    binary main_v25 main_cst_1 main_v26 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    unary main_v26 main_v27 (broadcastInDim S1x256 ![1] bcast_S256_S1x256_1 : (⟨S256, .f32⟩ : BufTy).Contents (Elt F) → (⟨S1x256, .f32⟩ : BufTy).Contents (Elt F)),
    unary main_v24 main_v28 (broadcastInDim S16384x256 ![0, 1] bcast_S16384x1_S16384x256_0_1 : (⟨S16384x1, .f32⟩ : BufTy).Contents (Elt F) → (⟨S16384x256, .f32⟩ : BufTy).Contents (Elt F)),
    unary main_v27 main_v29 (broadcastInDim S16384x256 ![0, 1] bcast_S1x256_S16384x256_0_1 : (⟨S1x256, .f32⟩ : BufTy).Contents (Elt F) → (⟨S16384x256, .f32⟩ : BufTy).Contents (Elt F)),
    binary main_v28 main_v29 main_v30 (addf : (⟨S16384x256, .f32⟩ : BufTy).Contents (Elt F) → (⟨S16384x256, .f32⟩ : BufTy).Contents (Elt F) → (⟨S16384x256, .f32⟩ : BufTy).Contents (Elt F)),
    unary main_v21 main_v31 ((transpose S32x256 [1, 0] · transposes_S256x32_S32x256_1_0) : (⟨S256x32, .f32⟩ : BufTy).Contents (Elt F) → (⟨S32x256, .f32⟩ : BufTy).Contents (Elt F)),
    binary main_v18 main_v31 main_v32 ((fun l r => Host.dotGeneral dot_S16384x32_S32x256_S16384x256_1_0_0_1_n_n none l r) : (⟨S16384x32, .f32⟩ : BufTy).Contents (Elt F) → (⟨S32x256, .f32⟩ : BufTy).Contents (Elt F) → (⟨S16384x256, .f32⟩ : BufTy).Contents (Elt F)),
    nullary main_cst_2 (constant S_ .f32 0x40000000#32),
    unary main_cst_2 main_v33 (broadcastInDim S16384x256 ![] bcast_S_S16384x256 : (⟨S_, .f32⟩ : BufTy).Contents (Elt F) → (⟨S16384x256, .f32⟩ : BufTy).Contents (Elt F)),
    binary main_v33 main_v32 main_v34 (mulf : (⟨S16384x256, .f32⟩ : BufTy).Contents (Elt F) → (⟨S16384x256, .f32⟩ : BufTy).Contents (Elt F) → (⟨S16384x256, .f32⟩ : BufTy).Contents (Elt F)),
    binary main_v30 main_v34 main_v35 (subf : (⟨S16384x256, .f32⟩ : BufTy).Contents (Elt F) → (⟨S16384x256, .f32⟩ : BufTy).Contents (Elt F) → (⟨S16384x256, .f32⟩ : BufTy).Contents (Elt F))]

/-- The operations of the argmin of level 0. -/
abbrev opsG0 : List (HloOp τ sig (Elt F)) :=
  [ TRef.nullary (TRef.of (T := ⟨S16384x256, .i32⟩) main_call3_v0) (iotaInDim S16384x256 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S16384x256, .f32⟩) main_v35) (TRef.of (T := ⟨S16384x256, .i32⟩) main_call3_v0) (TRef.of (T := ⟨S_, .f32⟩) main_call3_cst) (TRef.of (T := ⟨S_, .i32⟩) main_call3_c) (TRef.of (T := ⟨S16384, .f32⟩) main_call3_v1_0) (fun x y u v j => (Host.argReduce reducer_argmin_f32_i32 x y u v reducesTo_S16384x256_S16384_d1 h_S_ j).1),
    TRef.quaternary (TRef.of (T := ⟨S16384x256, .f32⟩) main_v35) (TRef.of (T := ⟨S16384x256, .i32⟩) main_call3_v0) (TRef.of (T := ⟨S_, .f32⟩) main_call3_cst) (TRef.of (T := ⟨S_, .i32⟩) main_call3_c) (TRef.of (T := ⟨S16384, .i32⟩) main_v36) (fun x y u v j => (Host.argReduce reducer_argmin_f32_i32 x y u v reducesTo_S16384x256_S16384_d1 h_S_ j).2)]

/-- The operations of the codebook rows taken at level 0. -/
abbrev opsB0 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S16384, .i32⟩) main_call4_v0) (broadcastInDim S16384 ![] bcast_S_S16384),
    TRef.binary (TRef.of (T := ⟨S16384, .i32⟩) main_v36) (TRef.of (T := ⟨S16384, .i32⟩) main_call4_v0) (TRef.of (T := ⟨S16384, .i1⟩) main_call4_v1) (cmpi .slt),
    TRef.nullary (TRef.of (T := ⟨S_, .i32⟩) main_call4_c_0) (constantI S_ 32 256#32),
    TRef.unary (TRef.of (T := ⟨S_, .i32⟩) main_call4_c_0) (TRef.of (T := ⟨S16384, .i32⟩) main_call4_v2) (broadcastInDim S16384 ![] bcast_S_S16384),
    TRef.binary (TRef.of (T := ⟨S16384, .i32⟩) main_v36) (TRef.of (T := ⟨S16384, .i32⟩) main_call4_v2) (TRef.of (T := ⟨S16384, .i32⟩) main_call4_v3) addi,
    TRef.ternary (TRef.of (T := ⟨S16384, .i1⟩) main_call4_v1) (TRef.of (T := ⟨S16384, .i32⟩) main_call4_v3) (TRef.of (T := ⟨S16384, .i32⟩) main_v36) (TRef.of (T := ⟨S16384, .i32⟩) main_call4_v4) select,
    TRef.unary (TRef.of (T := ⟨S16384, .i32⟩) main_call4_v4) (TRef.of (T := ⟨S16384x1, .i32⟩) main_call4_v5) (broadcastInDim S16384x1 ![0] bcast_S16384_S16384x1_0),
    TRef.nullary (TRef.of (T := ⟨S1, .i32⟩) main_call4_c_1) (constantI S1 32 255#32),
    TRef.nullary (TRef.of (T := ⟨S_, .i32⟩) main_call4_c_2) (constantI S_ 32 0#32),
    TRef.unary (TRef.of (T := ⟨S_, .i32⟩) main_call4_c_2) (TRef.of (T := ⟨S16384x1, .i32⟩) main_call4_v6) (broadcastInDim S16384x1 ![] bcast_S_S16384x1),
    TRef.binary (TRef.of (T := ⟨S16384x1, .i32⟩) main_call4_v5) (TRef.of (T := ⟨S16384x1, .i32⟩) main_call4_v6) (TRef.of (T := ⟨S16384x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S16384x1, .i32⟩) main_call4_v9) (broadcastInDim S16384x1 ![0, 1] bcast_S1x1_S16384x1_0_1),
    TRef.binary (TRef.of (T := ⟨S16384x1, .i32⟩) main_call4_v5) (TRef.of (T := ⟨S16384x1, .i32⟩) main_call4_v9) (TRef.of (T := ⟨S16384x1, .i1⟩) main_call4_v10) (cmpi .sle),
    TRef.binary (TRef.of (T := ⟨S16384x1, .i1⟩) main_call4_v7) (TRef.of (T := ⟨S16384x1, .i1⟩) main_call4_v10) (TRef.of (T := ⟨S16384x1, .i1⟩) main_call4_v11) andi,
    TRef.nullary (TRef.of (T := ⟨S_, .i1⟩) main_call4_c_3) (constantI S_ 1 1#1),
    TRef.binary (TRef.of (T := ⟨S16384x1, .i1⟩) main_call4_v11) (TRef.of (T := ⟨S_, .i1⟩) main_call4_c_3) (TRef.of (T := ⟨S16384, .i1⟩) main_call4_v12) (fun x v => Host.reduce IntOp.andi x v reducesTo_S16384x1_S16384_d1 h_S_),
    TRef.binary (TRef.of (T := ⟨S256x32, .f32⟩) main_v21) (TRef.of (T := ⟨S16384x1, .i32⟩) main_call4_v5) (TRef.of (T := ⟨S16384x32, .f32⟩) main_call4_v13) (fun x i => Host.gather gather_S256x32_S16384x1_S16384x32_1_0_n_n_0_1_132 x i),
    TRef.unary (TRef.of (T := ⟨S16384, .i1⟩) main_call4_v12) (TRef.of (T := ⟨S16384x32, .i1⟩) main_call4_v14) (broadcastInDim S16384x32 ![0] bcast_S16384_S16384x32_0),
    TRef.nullary (TRef.of (T := ⟨S_, .f32⟩) main_call4_cst) (constant S_ .f32 0x7FC00000#32),
    TRef.unary (TRef.of (T := ⟨S_, .f32⟩) main_call4_cst) (TRef.of (T := ⟨S16384x32, .f32⟩) main_call4_v15) (broadcastInDim S16384x32 ![] bcast_S_S16384x32),
    TRef.ternary (TRef.of (T := ⟨S16384x32, .i1⟩) main_call4_v14) (TRef.of (T := ⟨S16384x32, .f32⟩) main_call4_v13) (TRef.of (T := ⟨S16384x32, .f32⟩) main_call4_v15) (TRef.of (T := ⟨S16384x32, .f32⟩) main_v37) select]

/-- The operations of the loss and the accumulated code of level 0. -/
abbrev opsC0 : List (HloOp τ sig (Elt F)) :=
  [ binary main_v37 main_v18 main_v38 (subf : (⟨S16384x32, .f32⟩ : BufTy).Contents (Elt F) → (⟨S16384x32, .f32⟩ : BufTy).Contents (Elt F) → (⟨S16384x32, .f32⟩ : BufTy).Contents (Elt F)),
    binary main_v38 main_v38 main_v39 (mulf : (⟨S16384x32, .f32⟩ : BufTy).Contents (Elt F) → (⟨S16384x32, .f32⟩ : BufTy).Contents (Elt F) → (⟨S16384x32, .f32⟩ : BufTy).Contents (Elt F)),
    nullary main_cst_3 (constant S_ .f32 0x00000000#32),
    binary main_v39 main_cst_3 main_v40 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_4 (constant S_ .f32 0x49000000#32),
    binary main_v40 main_cst_4 main_v41 (Host.divf : (⟨S_, .f32⟩ : BufTy).Contents (Elt F) → (⟨S_, .f32⟩ : BufTy).Contents (Elt F) → (⟨S_, .f32⟩ : BufTy).Contents (Elt F)),
    binary main_v37 main_v18 main_v42 (subf : (⟨S16384x32, .f32⟩ : BufTy).Contents (Elt F) → (⟨S16384x32, .f32⟩ : BufTy).Contents (Elt F) → (⟨S16384x32, .f32⟩ : BufTy).Contents (Elt F)),
    binary main_v42 main_v42 main_v43 (mulf : (⟨S16384x32, .f32⟩ : BufTy).Contents (Elt F) → (⟨S16384x32, .f32⟩ : BufTy).Contents (Elt F) → (⟨S16384x32, .f32⟩ : BufTy).Contents (Elt F)),
    nullary main_cst_5 (constant S_ .f32 0x00000000#32),
    binary main_v43 main_cst_5 main_v44 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_6 (constant S_ .f32 0x49000000#32),
    binary main_v44 main_cst_6 main_v45 (Host.divf : (⟨S_, .f32⟩ : BufTy).Contents (Elt F) → (⟨S_, .f32⟩ : BufTy).Contents (Elt F) → (⟨S_, .f32⟩ : BufTy).Contents (Elt F)),
    nullary main_cst_7 (constant S_ .f32 0x3E800000#32),
    binary main_cst_7 main_v41 main_v46 (mulf : (⟨S_, .f32⟩ : BufTy).Contents (Elt F) → (⟨S_, .f32⟩ : BufTy).Contents (Elt F) → (⟨S_, .f32⟩ : BufTy).Contents (Elt F)),
    binary main_v45 main_v46 main_v47 (addf : (⟨S_, .f32⟩ : BufTy).Contents (Elt F) → (⟨S_, .f32⟩ : BufTy).Contents (Elt F) → (⟨S_, .f32⟩ : BufTy).Contents (Elt F)),
    binary main_v37 main_v18 main_v48 (subf : (⟨S16384x32, .f32⟩ : BufTy).Contents (Elt F) → (⟨S16384x32, .f32⟩ : BufTy).Contents (Elt F) → (⟨S16384x32, .f32⟩ : BufTy).Contents (Elt F)),
    binary main_v18 main_v48 main_v49 (addf : (⟨S16384x32, .f32⟩ : BufTy).Contents (Elt F) → (⟨S16384x32, .f32⟩ : BufTy).Contents (Elt F) → (⟨S16384x32, .f32⟩ : BufTy).Contents (Elt F)),
    binary main_v19 main_v49 main_v50 (addf : (⟨S16384x32, .f32⟩ : BufTy).Contents (Elt F) → (⟨S16384x32, .f32⟩ : BufTy).Contents (Elt F) → (⟨S16384x32, .f32⟩ : BufTy).Contents (Elt F))]

/-- The operations of the residual after level 0. -/
abbrev opsN0 : List (HloOp τ sig (Elt F)) :=
  [ binary main_v18 main_v49 main_v51 (subf : (⟨S16384x32, .f32⟩ : BufTy).Contents (Elt F) → (⟨S16384x32, .f32⟩ : BufTy).Contents (Elt F) → (⟨S16384x32, .f32⟩ : BufTy).Contents (Elt F))]

/-- The operations of the distances of level 1. -/
abbrev opsD1 : List (HloOp τ sig (Elt F)) :=
  [ unary main_arg17 main_v52 ((extractStridedSlice S1x256x32 ![1, 0, 0] · slices_S4x256x32_S1x256x32_1_0_0) : (⟨S4x256x32, .f32⟩ : BufTy).Contents (Elt F) → (⟨S1x256x32, .f32⟩ : BufTy).Contents (Elt F)),
    reshape main_v52 main_v53 (rfl : (.f32 : EltTy) = .f32) shapeCasts_S1x256x32_S256x32,
    binary main_v51 main_v51 main_v54 (mulf : (⟨S16384x32, .f32⟩ : BufTy).Contents (Elt F) → (⟨S16384x32, .f32⟩ : BufTy).Contents (Elt F) → (⟨S16384x32, .f32⟩ : BufTy).Contents (Elt F)),
    nullary main_cst_8 (constant S_ .f32 0x00000000#32),
    binary main_v54 main_cst_8 main_v55 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v55 main_v56 (broadcastInDim S16384x1 ![0] bcast_S16384_S16384x1_0 : (⟨S16384, .f32⟩ : BufTy).Contents (Elt F) → (⟨S16384x1, .f32⟩ : BufTy).Contents (Elt F)),
    binary main_v53 main_v53 main_v57 (mulf : (⟨S256x32, .f32⟩ : BufTy).Contents (Elt F) → (⟨S256x32, .f32⟩ : BufTy).Contents (Elt F) → (⟨S256x32, .f32⟩ : BufTy).Contents (Elt F)),
    nullary main_cst_9 (constant S_ .f32 0x00000000#32),
    binary main_v57 main_cst_9 main_v58 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    unary main_v58 main_v59 (broadcastInDim S1x256 ![1] bcast_S256_S1x256_1 : (⟨S256, .f32⟩ : BufTy).Contents (Elt F) → (⟨S1x256, .f32⟩ : BufTy).Contents (Elt F)),
    unary main_v56 main_v60 (broadcastInDim S16384x256 ![0, 1] bcast_S16384x1_S16384x256_0_1 : (⟨S16384x1, .f32⟩ : BufTy).Contents (Elt F) → (⟨S16384x256, .f32⟩ : BufTy).Contents (Elt F)),
    unary main_v59 main_v61 (broadcastInDim S16384x256 ![0, 1] bcast_S1x256_S16384x256_0_1 : (⟨S1x256, .f32⟩ : BufTy).Contents (Elt F) → (⟨S16384x256, .f32⟩ : BufTy).Contents (Elt F)),
    binary main_v60 main_v61 main_v62 (addf : (⟨S16384x256, .f32⟩ : BufTy).Contents (Elt F) → (⟨S16384x256, .f32⟩ : BufTy).Contents (Elt F) → (⟨S16384x256, .f32⟩ : BufTy).Contents (Elt F)),
    unary main_v53 main_v63 ((transpose S32x256 [1, 0] · transposes_S256x32_S32x256_1_0) : (⟨S256x32, .f32⟩ : BufTy).Contents (Elt F) → (⟨S32x256, .f32⟩ : BufTy).Contents (Elt F)),
    binary main_v51 main_v63 main_v64 ((fun l r => Host.dotGeneral dot_S16384x32_S32x256_S16384x256_1_0_0_1_n_n none l r) : (⟨S16384x32, .f32⟩ : BufTy).Contents (Elt F) → (⟨S32x256, .f32⟩ : BufTy).Contents (Elt F) → (⟨S16384x256, .f32⟩ : BufTy).Contents (Elt F)),
    nullary main_cst_10 (constant S_ .f32 0x40000000#32),
    unary main_cst_10 main_v65 (broadcastInDim S16384x256 ![] bcast_S_S16384x256 : (⟨S_, .f32⟩ : BufTy).Contents (Elt F) → (⟨S16384x256, .f32⟩ : BufTy).Contents (Elt F)),
    binary main_v65 main_v64 main_v66 (mulf : (⟨S16384x256, .f32⟩ : BufTy).Contents (Elt F) → (⟨S16384x256, .f32⟩ : BufTy).Contents (Elt F) → (⟨S16384x256, .f32⟩ : BufTy).Contents (Elt F)),
    binary main_v62 main_v66 main_v67 (subf : (⟨S16384x256, .f32⟩ : BufTy).Contents (Elt F) → (⟨S16384x256, .f32⟩ : BufTy).Contents (Elt F) → (⟨S16384x256, .f32⟩ : BufTy).Contents (Elt F))]

/-- The operations of the argmin of level 1. -/
abbrev opsG1 : List (HloOp τ sig (Elt F)) :=
  [ TRef.nullary (TRef.of (T := ⟨S16384x256, .i32⟩) main_call5_v0) (iotaInDim S16384x256 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S16384x256, .f32⟩) main_v67) (TRef.of (T := ⟨S16384x256, .i32⟩) main_call5_v0) (TRef.of (T := ⟨S_, .f32⟩) main_call5_cst) (TRef.of (T := ⟨S_, .i32⟩) main_call5_c) (TRef.of (T := ⟨S16384, .f32⟩) main_call5_v1_0) (fun x y u v j => (Host.argReduce reducer_argmin_f32_i32 x y u v reducesTo_S16384x256_S16384_d1 h_S_ j).1),
    TRef.quaternary (TRef.of (T := ⟨S16384x256, .f32⟩) main_v67) (TRef.of (T := ⟨S16384x256, .i32⟩) main_call5_v0) (TRef.of (T := ⟨S_, .f32⟩) main_call5_cst) (TRef.of (T := ⟨S_, .i32⟩) main_call5_c) (TRef.of (T := ⟨S16384, .i32⟩) main_v68) (fun x y u v j => (Host.argReduce reducer_argmin_f32_i32 x y u v reducesTo_S16384x256_S16384_d1 h_S_ j).2)]

/-- The operations of the codebook rows taken at level 1. -/
abbrev opsB1 : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S16384, .i32⟩) main_call6_v0) (broadcastInDim S16384 ![] bcast_S_S16384),
    TRef.binary (TRef.of (T := ⟨S16384, .i32⟩) main_v68) (TRef.of (T := ⟨S16384, .i32⟩) main_call6_v0) (TRef.of (T := ⟨S16384, .i1⟩) main_call6_v1) (cmpi .slt),
    TRef.nullary (TRef.of (T := ⟨S_, .i32⟩) main_call6_c_0) (constantI S_ 32 256#32),
    TRef.unary (TRef.of (T := ⟨S_, .i32⟩) main_call6_c_0) (TRef.of (T := ⟨S16384, .i32⟩) main_call6_v2) (broadcastInDim S16384 ![] bcast_S_S16384),
    TRef.binary (TRef.of (T := ⟨S16384, .i32⟩) main_v68) (TRef.of (T := ⟨S16384, .i32⟩) main_call6_v2) (TRef.of (T := ⟨S16384, .i32⟩) main_call6_v3) addi,
    TRef.ternary (TRef.of (T := ⟨S16384, .i1⟩) main_call6_v1) (TRef.of (T := ⟨S16384, .i32⟩) main_call6_v3) (TRef.of (T := ⟨S16384, .i32⟩) main_v68) (TRef.of (T := ⟨S16384, .i32⟩) main_call6_v4) select,
    TRef.unary (TRef.of (T := ⟨S16384, .i32⟩) main_call6_v4) (TRef.of (T := ⟨S16384x1, .i32⟩) main_call6_v5) (broadcastInDim S16384x1 ![0] bcast_S16384_S16384x1_0),
    TRef.nullary (TRef.of (T := ⟨S1, .i32⟩) main_call6_c_1) (constantI S1 32 255#32),
    TRef.nullary (TRef.of (T := ⟨S_, .i32⟩) main_call6_c_2) (constantI S_ 32 0#32),
    TRef.unary (TRef.of (T := ⟨S_, .i32⟩) main_call6_c_2) (TRef.of (T := ⟨S16384x1, .i32⟩) main_call6_v6) (broadcastInDim S16384x1 ![] bcast_S_S16384x1),
    TRef.binary (TRef.of (T := ⟨S16384x1, .i32⟩) main_call6_v5) (TRef.of (T := ⟨S16384x1, .i32⟩) main_call6_v6) (TRef.of (T := ⟨S16384x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S16384x1, .i32⟩) main_call6_v9) (broadcastInDim S16384x1 ![0, 1] bcast_S1x1_S16384x1_0_1),
    TRef.binary (TRef.of (T := ⟨S16384x1, .i32⟩) main_call6_v5) (TRef.of (T := ⟨S16384x1, .i32⟩) main_call6_v9) (TRef.of (T := ⟨S16384x1, .i1⟩) main_call6_v10) (cmpi .sle),
    TRef.binary (TRef.of (T := ⟨S16384x1, .i1⟩) main_call6_v7) (TRef.of (T := ⟨S16384x1, .i1⟩) main_call6_v10) (TRef.of (T := ⟨S16384x1, .i1⟩) main_call6_v11) andi,
    TRef.nullary (TRef.of (T := ⟨S_, .i1⟩) main_call6_c_3) (constantI S_ 1 1#1),
    TRef.binary (TRef.of (T := ⟨S16384x1, .i1⟩) main_call6_v11) (TRef.of (T := ⟨S_, .i1⟩) main_call6_c_3) (TRef.of (T := ⟨S16384, .i1⟩) main_call6_v12) (fun x v => Host.reduce IntOp.andi x v reducesTo_S16384x1_S16384_d1 h_S_),
    TRef.binary (TRef.of (T := ⟨S256x32, .f32⟩) main_v53) (TRef.of (T := ⟨S16384x1, .i32⟩) main_call6_v5) (TRef.of (T := ⟨S16384x32, .f32⟩) main_call6_v13) (fun x i => Host.gather gather_S256x32_S16384x1_S16384x32_1_0_n_n_0_1_132 x i),
    TRef.unary (TRef.of (T := ⟨S16384, .i1⟩) main_call6_v12) (TRef.of (T := ⟨S16384x32, .i1⟩) main_call6_v14) (broadcastInDim S16384x32 ![0] bcast_S16384_S16384x32_0),
    TRef.nullary (TRef.of (T := ⟨S_, .f32⟩) main_call6_cst) (constant S_ .f32 0x7FC00000#32),
    TRef.unary (TRef.of (T := ⟨S_, .f32⟩) main_call6_cst) (TRef.of (T := ⟨S16384x32, .f32⟩) main_call6_v15) (broadcastInDim S16384x32 ![] bcast_S_S16384x32),
    TRef.ternary (TRef.of (T := ⟨S16384x32, .i1⟩) main_call6_v14) (TRef.of (T := ⟨S16384x32, .f32⟩) main_call6_v13) (TRef.of (T := ⟨S16384x32, .f32⟩) main_call6_v15) (TRef.of (T := ⟨S16384x32, .f32⟩) main_v69) select]

/-- The operations of the loss and the accumulated code of level 1. -/
abbrev opsC1 : List (HloOp τ sig (Elt F)) :=
  [ binary main_v69 main_v51 main_v70 (subf : (⟨S16384x32, .f32⟩ : BufTy).Contents (Elt F) → (⟨S16384x32, .f32⟩ : BufTy).Contents (Elt F) → (⟨S16384x32, .f32⟩ : BufTy).Contents (Elt F)),
    binary main_v70 main_v70 main_v71 (mulf : (⟨S16384x32, .f32⟩ : BufTy).Contents (Elt F) → (⟨S16384x32, .f32⟩ : BufTy).Contents (Elt F) → (⟨S16384x32, .f32⟩ : BufTy).Contents (Elt F)),
    nullary main_cst_11 (constant S_ .f32 0x00000000#32),
    binary main_v71 main_cst_11 main_v72 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_12 (constant S_ .f32 0x49000000#32),
    binary main_v72 main_cst_12 main_v73 (Host.divf : (⟨S_, .f32⟩ : BufTy).Contents (Elt F) → (⟨S_, .f32⟩ : BufTy).Contents (Elt F) → (⟨S_, .f32⟩ : BufTy).Contents (Elt F)),
    binary main_v69 main_v51 main_v74 (subf : (⟨S16384x32, .f32⟩ : BufTy).Contents (Elt F) → (⟨S16384x32, .f32⟩ : BufTy).Contents (Elt F) → (⟨S16384x32, .f32⟩ : BufTy).Contents (Elt F)),
    binary main_v74 main_v74 main_v75 (mulf : (⟨S16384x32, .f32⟩ : BufTy).Contents (Elt F) → (⟨S16384x32, .f32⟩ : BufTy).Contents (Elt F) → (⟨S16384x32, .f32⟩ : BufTy).Contents (Elt F)),
    nullary main_cst_13 (constant S_ .f32 0x00000000#32),
    binary main_v75 main_cst_13 main_v76 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_14 (constant S_ .f32 0x49000000#32),
    binary main_v76 main_cst_14 main_v77 (Host.divf : (⟨S_, .f32⟩ : BufTy).Contents (Elt F) → (⟨S_, .f32⟩ : BufTy).Contents (Elt F) → (⟨S_, .f32⟩ : BufTy).Contents (Elt F)),
    nullary main_cst_15 (constant S_ .f32 0x3E800000#32),
    binary main_cst_15 main_v73 main_v78 (mulf : (⟨S_, .f32⟩ : BufTy).Contents (Elt F) → (⟨S_, .f32⟩ : BufTy).Contents (Elt F) → (⟨S_, .f32⟩ : BufTy).Contents (Elt F)),
    binary main_v77 main_v78 main_v79 (addf : (⟨S_, .f32⟩ : BufTy).Contents (Elt F) → (⟨S_, .f32⟩ : BufTy).Contents (Elt F) → (⟨S_, .f32⟩ : BufTy).Contents (Elt F)),
    binary main_v69 main_v51 main_v80 (subf : (⟨S16384x32, .f32⟩ : BufTy).Contents (Elt F) → (⟨S16384x32, .f32⟩ : BufTy).Contents (Elt F) → (⟨S16384x32, .f32⟩ : BufTy).Contents (Elt F)),
    binary main_v51 main_v80 main_v81 (addf : (⟨S16384x32, .f32⟩ : BufTy).Contents (Elt F) → (⟨S16384x32, .f32⟩ : BufTy).Contents (Elt F) → (⟨S16384x32, .f32⟩ : BufTy).Contents (Elt F)),
    binary main_v50 main_v81 main_v82 (addf : (⟨S16384x32, .f32⟩ : BufTy).Contents (Elt F) → (⟨S16384x32, .f32⟩ : BufTy).Contents (Elt F) → (⟨S16384x32, .f32⟩ : BufTy).Contents (Elt F))]

/-- The operations of the residual after level 1. -/
abbrev opsN1 : List (HloOp τ sig (Elt F)) :=
  [ binary main_v51 main_v81 main_v83 (subf : (⟨S16384x32, .f32⟩ : BufTy).Contents (Elt F) → (⟨S16384x32, .f32⟩ : BufTy).Contents (Elt F) → (⟨S16384x32, .f32⟩ : BufTy).Contents (Elt F))]

/-- The operations of the distances of level 2. -/
abbrev opsD2 : List (HloOp τ sig (Elt F)) :=
  [ unary main_arg17 main_v84 ((extractStridedSlice S1x256x32 ![2, 0, 0] · slices_S4x256x32_S1x256x32_2_0_0) : (⟨S4x256x32, .f32⟩ : BufTy).Contents (Elt F) → (⟨S1x256x32, .f32⟩ : BufTy).Contents (Elt F)),
    reshape main_v84 main_v85 (rfl : (.f32 : EltTy) = .f32) shapeCasts_S1x256x32_S256x32,
    binary main_v83 main_v83 main_v86 (mulf : (⟨S16384x32, .f32⟩ : BufTy).Contents (Elt F) → (⟨S16384x32, .f32⟩ : BufTy).Contents (Elt F) → (⟨S16384x32, .f32⟩ : BufTy).Contents (Elt F)),
    nullary main_cst_16 (constant S_ .f32 0x00000000#32),
    binary main_v86 main_cst_16 main_v87 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v87 main_v88 (broadcastInDim S16384x1 ![0] bcast_S16384_S16384x1_0 : (⟨S16384, .f32⟩ : BufTy).Contents (Elt F) → (⟨S16384x1, .f32⟩ : BufTy).Contents (Elt F)),
    binary main_v85 main_v85 main_v89 (mulf : (⟨S256x32, .f32⟩ : BufTy).Contents (Elt F) → (⟨S256x32, .f32⟩ : BufTy).Contents (Elt F) → (⟨S256x32, .f32⟩ : BufTy).Contents (Elt F)),
    nullary main_cst_17 (constant S_ .f32 0x00000000#32),
    binary main_v89 main_cst_17 main_v90 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    unary main_v90 main_v91 (broadcastInDim S1x256 ![1] bcast_S256_S1x256_1 : (⟨S256, .f32⟩ : BufTy).Contents (Elt F) → (⟨S1x256, .f32⟩ : BufTy).Contents (Elt F)),
    unary main_v88 main_v92 (broadcastInDim S16384x256 ![0, 1] bcast_S16384x1_S16384x256_0_1 : (⟨S16384x1, .f32⟩ : BufTy).Contents (Elt F) → (⟨S16384x256, .f32⟩ : BufTy).Contents (Elt F)),
    unary main_v91 main_v93 (broadcastInDim S16384x256 ![0, 1] bcast_S1x256_S16384x256_0_1 : (⟨S1x256, .f32⟩ : BufTy).Contents (Elt F) → (⟨S16384x256, .f32⟩ : BufTy).Contents (Elt F)),
    binary main_v92 main_v93 main_v94 (addf : (⟨S16384x256, .f32⟩ : BufTy).Contents (Elt F) → (⟨S16384x256, .f32⟩ : BufTy).Contents (Elt F) → (⟨S16384x256, .f32⟩ : BufTy).Contents (Elt F)),
    unary main_v85 main_v95 ((transpose S32x256 [1, 0] · transposes_S256x32_S32x256_1_0) : (⟨S256x32, .f32⟩ : BufTy).Contents (Elt F) → (⟨S32x256, .f32⟩ : BufTy).Contents (Elt F)),
    binary main_v83 main_v95 main_v96 ((fun l r => Host.dotGeneral dot_S16384x32_S32x256_S16384x256_1_0_0_1_n_n none l r) : (⟨S16384x32, .f32⟩ : BufTy).Contents (Elt F) → (⟨S32x256, .f32⟩ : BufTy).Contents (Elt F) → (⟨S16384x256, .f32⟩ : BufTy).Contents (Elt F)),
    nullary main_cst_18 (constant S_ .f32 0x40000000#32),
    unary main_cst_18 main_v97 (broadcastInDim S16384x256 ![] bcast_S_S16384x256 : (⟨S_, .f32⟩ : BufTy).Contents (Elt F) → (⟨S16384x256, .f32⟩ : BufTy).Contents (Elt F)),
    binary main_v97 main_v96 main_v98 (mulf : (⟨S16384x256, .f32⟩ : BufTy).Contents (Elt F) → (⟨S16384x256, .f32⟩ : BufTy).Contents (Elt F) → (⟨S16384x256, .f32⟩ : BufTy).Contents (Elt F)),
    binary main_v94 main_v98 main_v99 (subf : (⟨S16384x256, .f32⟩ : BufTy).Contents (Elt F) → (⟨S16384x256, .f32⟩ : BufTy).Contents (Elt F) → (⟨S16384x256, .f32⟩ : BufTy).Contents (Elt F))]

/-- The operations of the argmin of level 2. -/
abbrev opsG2 : List (HloOp τ sig (Elt F)) :=
  [ TRef.nullary (TRef.of (T := ⟨S16384x256, .i32⟩) main_call7_v0) (iotaInDim S16384x256 32 1),
    TRef.nullary (TRef.of (T := ⟨S_, .f32⟩) main_call7_cst) (constant S_ .f32 0x7F800000#32),
    TRef.nullary (TRef.of (T := ⟨S_, .i32⟩) main_call7_c) (constantI S_ 32 0#32),
    TRef.quaternary (TRef.of (T := ⟨S16384x256, .f32⟩) main_v99) (TRef.of (T := ⟨S16384x256, .i32⟩) main_call7_v0) (TRef.of (T := ⟨S_, .f32⟩) main_call7_cst) (TRef.of (T := ⟨S_, .i32⟩) main_call7_c) (TRef.of (T := ⟨S16384, .f32⟩) main_call7_v1_0) (fun x y u v j => (Host.argReduce reducer_argmin_f32_i32 x y u v reducesTo_S16384x256_S16384_d1 h_S_ j).1),
    TRef.quaternary (TRef.of (T := ⟨S16384x256, .f32⟩) main_v99) (TRef.of (T := ⟨S16384x256, .i32⟩) main_call7_v0) (TRef.of (T := ⟨S_, .f32⟩) main_call7_cst) (TRef.of (T := ⟨S_, .i32⟩) main_call7_c) (TRef.of (T := ⟨S16384, .i32⟩) main_v100) (fun x y u v j => (Host.argReduce reducer_argmin_f32_i32 x y u v reducesTo_S16384x256_S16384_d1 h_S_ j).2)]

/-- The operations of the codebook rows taken at level 2. -/
abbrev opsB2 : List (HloOp τ sig (Elt F)) :=
  [ TRef.nullary (TRef.of (T := ⟨S_, .i32⟩) main_call8_c) (constantI S_ 32 0#32),
    TRef.unary (TRef.of (T := ⟨S_, .i32⟩) main_call8_c) (TRef.of (T := ⟨S16384, .i32⟩) main_call8_v0) (broadcastInDim S16384 ![] bcast_S_S16384),
    TRef.binary (TRef.of (T := ⟨S16384, .i32⟩) main_v100) (TRef.of (T := ⟨S16384, .i32⟩) main_call8_v0) (TRef.of (T := ⟨S16384, .i1⟩) main_call8_v1) (cmpi .slt),
    TRef.nullary (TRef.of (T := ⟨S_, .i32⟩) main_call8_c_0) (constantI S_ 32 256#32),
    TRef.unary (TRef.of (T := ⟨S_, .i32⟩) main_call8_c_0) (TRef.of (T := ⟨S16384, .i32⟩) main_call8_v2) (broadcastInDim S16384 ![] bcast_S_S16384),
    TRef.binary (TRef.of (T := ⟨S16384, .i32⟩) main_v100) (TRef.of (T := ⟨S16384, .i32⟩) main_call8_v2) (TRef.of (T := ⟨S16384, .i32⟩) main_call8_v3) addi,
    TRef.ternary (TRef.of (T := ⟨S16384, .i1⟩) main_call8_v1) (TRef.of (T := ⟨S16384, .i32⟩) main_call8_v3) (TRef.of (T := ⟨S16384, .i32⟩) main_v100) (TRef.of (T := ⟨S16384, .i32⟩) main_call8_v4) select,
    TRef.unary (TRef.of (T := ⟨S16384, .i32⟩) main_call8_v4) (TRef.of (T := ⟨S16384x1, .i32⟩) main_call8_v5) (broadcastInDim S16384x1 ![0] bcast_S16384_S16384x1_0),
    TRef.nullary (TRef.of (T := ⟨S1, .i32⟩) main_call8_c_1) (constantI S1 32 255#32),
    TRef.nullary (TRef.of (T := ⟨S_, .i32⟩) main_call8_c_2) (constantI S_ 32 0#32),
    TRef.unary (TRef.of (T := ⟨S_, .i32⟩) main_call8_c_2) (TRef.of (T := ⟨S16384x1, .i32⟩) main_call8_v6) (broadcastInDim S16384x1 ![] bcast_S_S16384x1),
    TRef.binary (TRef.of (T := ⟨S16384x1, .i32⟩) main_call8_v5) (TRef.of (T := ⟨S16384x1, .i32⟩) main_call8_v6) (TRef.of (T := ⟨S16384x1, .i1⟩) main_call8_v7) (cmpi .sge),
    TRef.unary (TRef.of (T := ⟨S1, .i32⟩) main_call8_c_1) (TRef.of (T := ⟨S1x1, .i32⟩) main_call8_v8) (broadcastInDim S1x1 ![1] bcast_S1_S1x1_1),
    TRef.unary (TRef.of (T := ⟨S1x1, .i32⟩) main_call8_v8) (TRef.of (T := ⟨S16384x1, .i32⟩) main_call8_v9) (broadcastInDim S16384x1 ![0, 1] bcast_S1x1_S16384x1_0_1),
    TRef.binary (TRef.of (T := ⟨S16384x1, .i32⟩) main_call8_v5) (TRef.of (T := ⟨S16384x1, .i32⟩) main_call8_v9) (TRef.of (T := ⟨S16384x1, .i1⟩) main_call8_v10) (cmpi .sle),
    TRef.binary (TRef.of (T := ⟨S16384x1, .i1⟩) main_call8_v7) (TRef.of (T := ⟨S16384x1, .i1⟩) main_call8_v10) (TRef.of (T := ⟨S16384x1, .i1⟩) main_call8_v11) andi,
    TRef.nullary (TRef.of (T := ⟨S_, .i1⟩) main_call8_c_3) (constantI S_ 1 1#1),
    TRef.binary (TRef.of (T := ⟨S16384x1, .i1⟩) main_call8_v11) (TRef.of (T := ⟨S_, .i1⟩) main_call8_c_3) (TRef.of (T := ⟨S16384, .i1⟩) main_call8_v12) (fun x v => Host.reduce IntOp.andi x v reducesTo_S16384x1_S16384_d1 h_S_),
    TRef.binary (TRef.of (T := ⟨S256x32, .f32⟩) main_v85) (TRef.of (T := ⟨S16384x1, .i32⟩) main_call8_v5) (TRef.of (T := ⟨S16384x32, .f32⟩) main_call8_v13) (fun x i => Host.gather gather_S256x32_S16384x1_S16384x32_1_0_n_n_0_1_132 x i),
    TRef.unary (TRef.of (T := ⟨S16384, .i1⟩) main_call8_v12) (TRef.of (T := ⟨S16384x32, .i1⟩) main_call8_v14) (broadcastInDim S16384x32 ![0] bcast_S16384_S16384x32_0),
    TRef.nullary (TRef.of (T := ⟨S_, .f32⟩) main_call8_cst) (constant S_ .f32 0x7FC00000#32),
    TRef.unary (TRef.of (T := ⟨S_, .f32⟩) main_call8_cst) (TRef.of (T := ⟨S16384x32, .f32⟩) main_call8_v15) (broadcastInDim S16384x32 ![] bcast_S_S16384x32),
    TRef.ternary (TRef.of (T := ⟨S16384x32, .i1⟩) main_call8_v14) (TRef.of (T := ⟨S16384x32, .f32⟩) main_call8_v13) (TRef.of (T := ⟨S16384x32, .f32⟩) main_call8_v15) (TRef.of (T := ⟨S16384x32, .f32⟩) main_v101) select]

/-- The operations of the loss and the accumulated code of level 2. -/
abbrev opsC2 : List (HloOp τ sig (Elt F)) :=
  [ binary main_v101 main_v83 main_v102 (subf : (⟨S16384x32, .f32⟩ : BufTy).Contents (Elt F) → (⟨S16384x32, .f32⟩ : BufTy).Contents (Elt F) → (⟨S16384x32, .f32⟩ : BufTy).Contents (Elt F)),
    binary main_v102 main_v102 main_v103 (mulf : (⟨S16384x32, .f32⟩ : BufTy).Contents (Elt F) → (⟨S16384x32, .f32⟩ : BufTy).Contents (Elt F) → (⟨S16384x32, .f32⟩ : BufTy).Contents (Elt F)),
    nullary main_cst_19 (constant S_ .f32 0x00000000#32),
    binary main_v103 main_cst_19 main_v104 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_20 (constant S_ .f32 0x49000000#32),
    binary main_v104 main_cst_20 main_v105 (Host.divf : (⟨S_, .f32⟩ : BufTy).Contents (Elt F) → (⟨S_, .f32⟩ : BufTy).Contents (Elt F) → (⟨S_, .f32⟩ : BufTy).Contents (Elt F)),
    binary main_v101 main_v83 main_v106 (subf : (⟨S16384x32, .f32⟩ : BufTy).Contents (Elt F) → (⟨S16384x32, .f32⟩ : BufTy).Contents (Elt F) → (⟨S16384x32, .f32⟩ : BufTy).Contents (Elt F)),
    binary main_v106 main_v106 main_v107 (mulf : (⟨S16384x32, .f32⟩ : BufTy).Contents (Elt F) → (⟨S16384x32, .f32⟩ : BufTy).Contents (Elt F) → (⟨S16384x32, .f32⟩ : BufTy).Contents (Elt F)),
    nullary main_cst_21 (constant S_ .f32 0x00000000#32),
    binary main_v107 main_cst_21 main_v108 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_22 (constant S_ .f32 0x49000000#32),
    binary main_v108 main_cst_22 main_v109 (Host.divf : (⟨S_, .f32⟩ : BufTy).Contents (Elt F) → (⟨S_, .f32⟩ : BufTy).Contents (Elt F) → (⟨S_, .f32⟩ : BufTy).Contents (Elt F)),
    nullary main_cst_23 (constant S_ .f32 0x3E800000#32),
    binary main_cst_23 main_v105 main_v110 (mulf : (⟨S_, .f32⟩ : BufTy).Contents (Elt F) → (⟨S_, .f32⟩ : BufTy).Contents (Elt F) → (⟨S_, .f32⟩ : BufTy).Contents (Elt F)),
    binary main_v109 main_v110 main_v111 (addf : (⟨S_, .f32⟩ : BufTy).Contents (Elt F) → (⟨S_, .f32⟩ : BufTy).Contents (Elt F) → (⟨S_, .f32⟩ : BufTy).Contents (Elt F)),
    binary main_v101 main_v83 main_v112 (subf : (⟨S16384x32, .f32⟩ : BufTy).Contents (Elt F) → (⟨S16384x32, .f32⟩ : BufTy).Contents (Elt F) → (⟨S16384x32, .f32⟩ : BufTy).Contents (Elt F)),
    binary main_v83 main_v112 main_v113 (addf : (⟨S16384x32, .f32⟩ : BufTy).Contents (Elt F) → (⟨S16384x32, .f32⟩ : BufTy).Contents (Elt F) → (⟨S16384x32, .f32⟩ : BufTy).Contents (Elt F)),
    binary main_v82 main_v113 main_v114 (addf : (⟨S16384x32, .f32⟩ : BufTy).Contents (Elt F) → (⟨S16384x32, .f32⟩ : BufTy).Contents (Elt F) → (⟨S16384x32, .f32⟩ : BufTy).Contents (Elt F))]

/-- The operations of the residual after level 2. -/
abbrev opsN2 : List (HloOp τ sig (Elt F)) :=
  [ binary main_v83 main_v113 main_v115 (subf : (⟨S16384x32, .f32⟩ : BufTy).Contents (Elt F) → (⟨S16384x32, .f32⟩ : BufTy).Contents (Elt F) → (⟨S16384x32, .f32⟩ : BufTy).Contents (Elt F))]

/-- The operations of the distances of level 3. -/
abbrev opsD3 : List (HloOp τ sig (Elt F)) :=
  [ unary main_arg17 main_v116 ((extractStridedSlice S1x256x32 ![3, 0, 0] · slices_S4x256x32_S1x256x32_3_0_0) : (⟨S4x256x32, .f32⟩ : BufTy).Contents (Elt F) → (⟨S1x256x32, .f32⟩ : BufTy).Contents (Elt F)),
    reshape main_v116 main_v117 (rfl : (.f32 : EltTy) = .f32) shapeCasts_S1x256x32_S256x32,
    binary main_v115 main_v115 main_v118 (mulf : (⟨S16384x32, .f32⟩ : BufTy).Contents (Elt F) → (⟨S16384x32, .f32⟩ : BufTy).Contents (Elt F) → (⟨S16384x32, .f32⟩ : BufTy).Contents (Elt F)),
    nullary main_cst_24 (constant S_ .f32 0x00000000#32),
    binary main_v118 main_cst_24 main_v119 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v119 main_v120 (broadcastInDim S16384x1 ![0] bcast_S16384_S16384x1_0 : (⟨S16384, .f32⟩ : BufTy).Contents (Elt F) → (⟨S16384x1, .f32⟩ : BufTy).Contents (Elt F)),
    binary main_v117 main_v117 main_v121 (mulf : (⟨S256x32, .f32⟩ : BufTy).Contents (Elt F) → (⟨S256x32, .f32⟩ : BufTy).Contents (Elt F) → (⟨S256x32, .f32⟩ : BufTy).Contents (Elt F)),
    nullary main_cst_25 (constant S_ .f32 0x00000000#32),
    binary main_v121 main_cst_25 main_v122 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    unary main_v122 main_v123 (broadcastInDim S1x256 ![1] bcast_S256_S1x256_1 : (⟨S256, .f32⟩ : BufTy).Contents (Elt F) → (⟨S1x256, .f32⟩ : BufTy).Contents (Elt F)),
    unary main_v120 main_v124 (broadcastInDim S16384x256 ![0, 1] bcast_S16384x1_S16384x256_0_1 : (⟨S16384x1, .f32⟩ : BufTy).Contents (Elt F) → (⟨S16384x256, .f32⟩ : BufTy).Contents (Elt F)),
    unary main_v123 main_v125 (broadcastInDim S16384x256 ![0, 1] bcast_S1x256_S16384x256_0_1 : (⟨S1x256, .f32⟩ : BufTy).Contents (Elt F) → (⟨S16384x256, .f32⟩ : BufTy).Contents (Elt F)),
    binary main_v124 main_v125 main_v126 (addf : (⟨S16384x256, .f32⟩ : BufTy).Contents (Elt F) → (⟨S16384x256, .f32⟩ : BufTy).Contents (Elt F) → (⟨S16384x256, .f32⟩ : BufTy).Contents (Elt F)),
    unary main_v117 main_v127 ((transpose S32x256 [1, 0] · transposes_S256x32_S32x256_1_0) : (⟨S256x32, .f32⟩ : BufTy).Contents (Elt F) → (⟨S32x256, .f32⟩ : BufTy).Contents (Elt F)),
    binary main_v115 main_v127 main_v128 ((fun l r => Host.dotGeneral dot_S16384x32_S32x256_S16384x256_1_0_0_1_n_n none l r) : (⟨S16384x32, .f32⟩ : BufTy).Contents (Elt F) → (⟨S32x256, .f32⟩ : BufTy).Contents (Elt F) → (⟨S16384x256, .f32⟩ : BufTy).Contents (Elt F)),
    nullary main_cst_26 (constant S_ .f32 0x40000000#32),
    unary main_cst_26 main_v129 (broadcastInDim S16384x256 ![] bcast_S_S16384x256 : (⟨S_, .f32⟩ : BufTy).Contents (Elt F) → (⟨S16384x256, .f32⟩ : BufTy).Contents (Elt F)),
    binary main_v129 main_v128 main_v130 (mulf : (⟨S16384x256, .f32⟩ : BufTy).Contents (Elt F) → (⟨S16384x256, .f32⟩ : BufTy).Contents (Elt F) → (⟨S16384x256, .f32⟩ : BufTy).Contents (Elt F)),
    binary main_v126 main_v130 main_v131 (subf : (⟨S16384x256, .f32⟩ : BufTy).Contents (Elt F) → (⟨S16384x256, .f32⟩ : BufTy).Contents (Elt F) → (⟨S16384x256, .f32⟩ : BufTy).Contents (Elt F))]

/-- The operations of the argmin of level 3. -/
abbrev opsG3 : List (HloOp τ sig (Elt F)) :=
  [ TRef.nullary (TRef.of (T := ⟨S16384x256, .i32⟩) main_call9_v0) (iotaInDim S16384x256 32 1),
    TRef.nullary (TRef.of (T := ⟨S_, .f32⟩) main_call9_cst) (constant S_ .f32 0x7F800000#32),
    TRef.nullary (TRef.of (T := ⟨S_, .i32⟩) main_call9_c) (constantI S_ 32 0#32),
    TRef.quaternary (TRef.of (T := ⟨S16384x256, .f32⟩) main_v131) (TRef.of (T := ⟨S16384x256, .i32⟩) main_call9_v0) (TRef.of (T := ⟨S_, .f32⟩) main_call9_cst) (TRef.of (T := ⟨S_, .i32⟩) main_call9_c) (TRef.of (T := ⟨S16384, .f32⟩) main_call9_v1_0) (fun x y u v j => (Host.argReduce reducer_argmin_f32_i32 x y u v reducesTo_S16384x256_S16384_d1 h_S_ j).1),
    TRef.quaternary (TRef.of (T := ⟨S16384x256, .f32⟩) main_v131) (TRef.of (T := ⟨S16384x256, .i32⟩) main_call9_v0) (TRef.of (T := ⟨S_, .f32⟩) main_call9_cst) (TRef.of (T := ⟨S_, .i32⟩) main_call9_c) (TRef.of (T := ⟨S16384, .i32⟩) main_v132) (fun x y u v j => (Host.argReduce reducer_argmin_f32_i32 x y u v reducesTo_S16384x256_S16384_d1 h_S_ j).2)]

/-- The operations of the codebook rows taken at level 3. -/
abbrev opsB3 : List (HloOp τ sig (Elt F)) :=
  [ TRef.nullary (TRef.of (T := ⟨S_, .i32⟩) main_call10_c) (constantI S_ 32 0#32),
    TRef.unary (TRef.of (T := ⟨S_, .i32⟩) main_call10_c) (TRef.of (T := ⟨S16384, .i32⟩) main_call10_v0) (broadcastInDim S16384 ![] bcast_S_S16384),
    TRef.binary (TRef.of (T := ⟨S16384, .i32⟩) main_v132) (TRef.of (T := ⟨S16384, .i32⟩) main_call10_v0) (TRef.of (T := ⟨S16384, .i1⟩) main_call10_v1) (cmpi .slt),
    TRef.nullary (TRef.of (T := ⟨S_, .i32⟩) main_call10_c_0) (constantI S_ 32 256#32),
    TRef.unary (TRef.of (T := ⟨S_, .i32⟩) main_call10_c_0) (TRef.of (T := ⟨S16384, .i32⟩) main_call10_v2) (broadcastInDim S16384 ![] bcast_S_S16384),
    TRef.binary (TRef.of (T := ⟨S16384, .i32⟩) main_v132) (TRef.of (T := ⟨S16384, .i32⟩) main_call10_v2) (TRef.of (T := ⟨S16384, .i32⟩) main_call10_v3) addi,
    TRef.ternary (TRef.of (T := ⟨S16384, .i1⟩) main_call10_v1) (TRef.of (T := ⟨S16384, .i32⟩) main_call10_v3) (TRef.of (T := ⟨S16384, .i32⟩) main_v132) (TRef.of (T := ⟨S16384, .i32⟩) main_call10_v4) select,
    TRef.unary (TRef.of (T := ⟨S16384, .i32⟩) main_call10_v4) (TRef.of (T := ⟨S16384x1, .i32⟩) main_call10_v5) (broadcastInDim S16384x1 ![0] bcast_S16384_S16384x1_0),
    TRef.nullary (TRef.of (T := ⟨S1, .i32⟩) main_call10_c_1) (constantI S1 32 255#32),
    TRef.nullary (TRef.of (T := ⟨S_, .i32⟩) main_call10_c_2) (constantI S_ 32 0#32),
    TRef.unary (TRef.of (T := ⟨S_, .i32⟩) main_call10_c_2) (TRef.of (T := ⟨S16384x1, .i32⟩) main_call10_v6) (broadcastInDim S16384x1 ![] bcast_S_S16384x1),
    TRef.binary (TRef.of (T := ⟨S16384x1, .i32⟩) main_call10_v5) (TRef.of (T := ⟨S16384x1, .i32⟩) main_call10_v6) (TRef.of (T := ⟨S16384x1, .i1⟩) main_call10_v7) (cmpi .sge),
    TRef.unary (TRef.of (T := ⟨S1, .i32⟩) main_call10_c_1) (TRef.of (T := ⟨S1x1, .i32⟩) main_call10_v8) (broadcastInDim S1x1 ![1] bcast_S1_S1x1_1),
    TRef.unary (TRef.of (T := ⟨S1x1, .i32⟩) main_call10_v8) (TRef.of (T := ⟨S16384x1, .i32⟩) main_call10_v9) (broadcastInDim S16384x1 ![0, 1] bcast_S1x1_S16384x1_0_1),
    TRef.binary (TRef.of (T := ⟨S16384x1, .i32⟩) main_call10_v5) (TRef.of (T := ⟨S16384x1, .i32⟩) main_call10_v9) (TRef.of (T := ⟨S16384x1, .i1⟩) main_call10_v10) (cmpi .sle),
    TRef.binary (TRef.of (T := ⟨S16384x1, .i1⟩) main_call10_v7) (TRef.of (T := ⟨S16384x1, .i1⟩) main_call10_v10) (TRef.of (T := ⟨S16384x1, .i1⟩) main_call10_v11) andi,
    TRef.nullary (TRef.of (T := ⟨S_, .i1⟩) main_call10_c_3) (constantI S_ 1 1#1),
    TRef.binary (TRef.of (T := ⟨S16384x1, .i1⟩) main_call10_v11) (TRef.of (T := ⟨S_, .i1⟩) main_call10_c_3) (TRef.of (T := ⟨S16384, .i1⟩) main_call10_v12) (fun x v => Host.reduce IntOp.andi x v reducesTo_S16384x1_S16384_d1 h_S_),
    TRef.binary (TRef.of (T := ⟨S256x32, .f32⟩) main_v117) (TRef.of (T := ⟨S16384x1, .i32⟩) main_call10_v5) (TRef.of (T := ⟨S16384x32, .f32⟩) main_call10_v13) (fun x i => Host.gather gather_S256x32_S16384x1_S16384x32_1_0_n_n_0_1_132 x i),
    TRef.unary (TRef.of (T := ⟨S16384, .i1⟩) main_call10_v12) (TRef.of (T := ⟨S16384x32, .i1⟩) main_call10_v14) (broadcastInDim S16384x32 ![0] bcast_S16384_S16384x32_0),
    TRef.nullary (TRef.of (T := ⟨S_, .f32⟩) main_call10_cst) (constant S_ .f32 0x7FC00000#32),
    TRef.unary (TRef.of (T := ⟨S_, .f32⟩) main_call10_cst) (TRef.of (T := ⟨S16384x32, .f32⟩) main_call10_v15) (broadcastInDim S16384x32 ![] bcast_S_S16384x32),
    TRef.ternary (TRef.of (T := ⟨S16384x32, .i1⟩) main_call10_v14) (TRef.of (T := ⟨S16384x32, .f32⟩) main_call10_v13) (TRef.of (T := ⟨S16384x32, .f32⟩) main_call10_v15) (TRef.of (T := ⟨S16384x32, .f32⟩) main_v133) select]

/-- The operations of the loss and the accumulated code of level 3. -/
abbrev opsC3 : List (HloOp τ sig (Elt F)) :=
  [ binary main_v133 main_v115 main_v134 (subf : (⟨S16384x32, .f32⟩ : BufTy).Contents (Elt F) → (⟨S16384x32, .f32⟩ : BufTy).Contents (Elt F) → (⟨S16384x32, .f32⟩ : BufTy).Contents (Elt F)),
    binary main_v134 main_v134 main_v135 (mulf : (⟨S16384x32, .f32⟩ : BufTy).Contents (Elt F) → (⟨S16384x32, .f32⟩ : BufTy).Contents (Elt F) → (⟨S16384x32, .f32⟩ : BufTy).Contents (Elt F)),
    nullary main_cst_27 (constant S_ .f32 0x00000000#32),
    binary main_v135 main_cst_27 main_v136 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_28 (constant S_ .f32 0x49000000#32),
    binary main_v136 main_cst_28 main_v137 (Host.divf : (⟨S_, .f32⟩ : BufTy).Contents (Elt F) → (⟨S_, .f32⟩ : BufTy).Contents (Elt F) → (⟨S_, .f32⟩ : BufTy).Contents (Elt F)),
    binary main_v133 main_v115 main_v138 (subf : (⟨S16384x32, .f32⟩ : BufTy).Contents (Elt F) → (⟨S16384x32, .f32⟩ : BufTy).Contents (Elt F) → (⟨S16384x32, .f32⟩ : BufTy).Contents (Elt F)),
    binary main_v138 main_v138 main_v139 (mulf : (⟨S16384x32, .f32⟩ : BufTy).Contents (Elt F) → (⟨S16384x32, .f32⟩ : BufTy).Contents (Elt F) → (⟨S16384x32, .f32⟩ : BufTy).Contents (Elt F)),
    nullary main_cst_29 (constant S_ .f32 0x00000000#32),
    binary main_v139 main_cst_29 main_v140 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_30 (constant S_ .f32 0x49000000#32),
    binary main_v140 main_cst_30 main_v141 (Host.divf : (⟨S_, .f32⟩ : BufTy).Contents (Elt F) → (⟨S_, .f32⟩ : BufTy).Contents (Elt F) → (⟨S_, .f32⟩ : BufTy).Contents (Elt F)),
    nullary main_cst_31 (constant S_ .f32 0x3E800000#32),
    binary main_cst_31 main_v137 main_v142 (mulf : (⟨S_, .f32⟩ : BufTy).Contents (Elt F) → (⟨S_, .f32⟩ : BufTy).Contents (Elt F) → (⟨S_, .f32⟩ : BufTy).Contents (Elt F)),
    binary main_v141 main_v142 main_v143 (addf : (⟨S_, .f32⟩ : BufTy).Contents (Elt F) → (⟨S_, .f32⟩ : BufTy).Contents (Elt F) → (⟨S_, .f32⟩ : BufTy).Contents (Elt F)),
    binary main_v133 main_v115 main_v144 (subf : (⟨S16384x32, .f32⟩ : BufTy).Contents (Elt F) → (⟨S16384x32, .f32⟩ : BufTy).Contents (Elt F) → (⟨S16384x32, .f32⟩ : BufTy).Contents (Elt F)),
    binary main_v115 main_v144 main_v145 (addf : (⟨S16384x32, .f32⟩ : BufTy).Contents (Elt F) → (⟨S16384x32, .f32⟩ : BufTy).Contents (Elt F) → (⟨S16384x32, .f32⟩ : BufTy).Contents (Elt F)),
    binary main_v114 main_v145 main_v146 (addf : (⟨S16384x32, .f32⟩ : BufTy).Contents (Elt F) → (⟨S16384x32, .f32⟩ : BufTy).Contents (Elt F) → (⟨S16384x32, .f32⟩ : BufTy).Contents (Elt F))]

/-- The operations of the residual after level 3. -/
abbrev opsN3 : List (HloOp τ sig (Elt F)) :=
  [ binary main_v115 main_v145 main_v147 (subf : (⟨S16384x32, .f32⟩ : BufTy).Contents (Elt F) → (⟨S16384x32, .f32⟩ : BufTy).Contents (Elt F) → (⟨S16384x32, .f32⟩ : BufTy).Contents (Elt F))]

/-- The operations of the mean loss and the stacked indices. -/
abbrev opsS : List (HloOp τ sig (Elt F)) :=
  [ unary main_v47 main_v148 (broadcastInDim S1 ![] bcast_S_S1 : (⟨S_, .f32⟩ : BufTy).Contents (Elt F) → (⟨S1, .f32⟩ : BufTy).Contents (Elt F)),
    unary main_v79 main_v149 (broadcastInDim S1 ![] bcast_S_S1 : (⟨S_, .f32⟩ : BufTy).Contents (Elt F) → (⟨S1, .f32⟩ : BufTy).Contents (Elt F)),
    unary main_v111 main_v150 (broadcastInDim S1 ![] bcast_S_S1 : (⟨S_, .f32⟩ : BufTy).Contents (Elt F) → (⟨S1, .f32⟩ : BufTy).Contents (Elt F)),
    unary main_v143 main_v151 (broadcastInDim S1 ![] bcast_S_S1 : (⟨S_, .f32⟩ : BufTy).Contents (Elt F) → (⟨S1, .f32⟩ : BufTy).Contents (Elt F)),
    nary ![main_v148, main_v149, main_v150, main_v151] main_v152 (fun u => cat4 (u 0) (u 1) (u 2) (u 3)),
    nullary main_cst_32 (constant S_ .f32 0x00000000#32),
    binary main_v152 main_cst_32 main_v153 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_33 (constant S_ .f32 0x40800000#32),
    binary main_v153 main_cst_33 main_v154 (Host.divf : (⟨S_, .f32⟩ : BufTy).Contents (Elt F) → (⟨S_, .f32⟩ : BufTy).Contents (Elt F) → (⟨S_, .f32⟩ : BufTy).Contents (Elt F)),
    unary main_v36 main_v155 (broadcastInDim S16384x1 ![0] bcast_S16384_S16384x1_0 : (⟨S16384, .i32⟩ : BufTy).Contents (Elt F) → (⟨S16384x1, .i32⟩ : BufTy).Contents (Elt F)),
    unary main_v68 main_v156 (broadcastInDim S16384x1 ![0] bcast_S16384_S16384x1_0 : (⟨S16384, .i32⟩ : BufTy).Contents (Elt F) → (⟨S16384x1, .i32⟩ : BufTy).Contents (Elt F)),
    unary main_v100 main_v157 (broadcastInDim S16384x1 ![0] bcast_S16384_S16384x1_0 : (⟨S16384, .i32⟩ : BufTy).Contents (Elt F) → (⟨S16384x1, .i32⟩ : BufTy).Contents (Elt F)),
    unary main_v132 main_v158 (broadcastInDim S16384x1 ![0] bcast_S16384_S16384x1_0 : (⟨S16384, .i32⟩ : BufTy).Contents (Elt F) → (⟨S16384x1, .i32⟩ : BufTy).Contents (Elt F)),
    nary ![main_v155, main_v156, main_v157, main_v158] main_v159 (fun u => cols4 (u 0) (u 1) (u 2) (u 3))]

/-- The operations of the decoder. -/
abbrev opsT : List (HloOp τ sig (Elt F)) :=
  [ binary main_v146 main_arg9 main_v160 ((fun l r => Host.dotGeneral dot_S16384x32_S32x128_S16384x128_1_0_0_1_n_n none l r) : (⟨S16384x32, .f32⟩ : BufTy).Contents (Elt F) → (⟨S32x128, .f32⟩ : BufTy).Contents (Elt F) → (⟨S16384x128, .f32⟩ : BufTy).Contents (Elt F)),
    unary main_arg10 main_v161 (broadcastInDim S1x128 ![1] bcast_S128_S1x128_1 : (⟨S128, .f32⟩ : BufTy).Contents (Elt F) → (⟨S1x128, .f32⟩ : BufTy).Contents (Elt F)),
    unary main_v161 main_v162 (broadcastInDim S16384x128 ![0, 1] bcast_S1x128_S16384x128_0_1 : (⟨S1x128, .f32⟩ : BufTy).Contents (Elt F) → (⟨S16384x128, .f32⟩ : BufTy).Contents (Elt F)),
    binary main_v160 main_v162 main_v163 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S16384x128, .f32⟩) main_call11_v0) (broadcastInDim S16384x128 ![] bcast_S_S16384x128),
    TRef.binary (TRef.of (T := ⟨S16384x128, .f32⟩) main_v163) (TRef.of (T := ⟨S16384x128, .f32⟩) main_call11_v0) (TRef.of (T := ⟨S16384x128, .f32⟩) main_v164) maximumf,
    binary main_v164 main_arg11 main_v165 ((fun l r => Host.dotGeneral dot_S16384x128_S128x256_S16384x256_1_0_0_1_n_n none l r) : (⟨S16384x128, .f32⟩ : BufTy).Contents (Elt F) → (⟨S128x256, .f32⟩ : BufTy).Contents (Elt F) → (⟨S16384x256, .f32⟩ : BufTy).Contents (Elt F)),
    unary main_arg12 main_v166 (broadcastInDim S1x256 ![1] bcast_S256_S1x256_1 : (⟨S256, .f32⟩ : BufTy).Contents (Elt F) → (⟨S1x256, .f32⟩ : BufTy).Contents (Elt F)),
    unary main_v166 main_v167 (broadcastInDim S16384x256 ![0, 1] bcast_S1x256_S16384x256_0_1 : (⟨S1x256, .f32⟩ : BufTy).Contents (Elt F) → (⟨S16384x256, .f32⟩ : BufTy).Contents (Elt F)),
    binary main_v165 main_v167 main_v168 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S16384x256, .f32⟩) main_call12_v0) (broadcastInDim S16384x256 ![] bcast_S_S16384x256),
    TRef.binary (TRef.of (T := ⟨S16384x256, .f32⟩) main_v168) (TRef.of (T := ⟨S16384x256, .f32⟩) main_call12_v0) (TRef.of (T := ⟨S16384x256, .f32⟩) main_v169) maximumf,
    binary main_v169 main_arg13 main_v170 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg14 main_v171 (broadcastInDim S1x512 ![1] bcast_S512_S1x512_1 : (⟨S512, .f32⟩ : BufTy).Contents (Elt F) → (⟨S1x512, .f32⟩ : BufTy).Contents (Elt F)),
    unary main_v171 main_v172 (broadcastInDim S16384x512 ![0, 1] bcast_S1x512_S16384x512_0_1 : (⟨S1x512, .f32⟩ : BufTy).Contents (Elt F) → (⟨S16384x512, .f32⟩ : BufTy).Contents (Elt F)),
    binary main_v170 main_v172 main_v173 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S16384x512, .f32⟩) main_call13_v0) (broadcastInDim S16384x512 ![] bcast_S_S16384x512),
    TRef.binary (TRef.of (T := ⟨S16384x512, .f32⟩) main_v173) (TRef.of (T := ⟨S16384x512, .f32⟩) main_call13_v0) (TRef.of (T := ⟨S16384x512, .f32⟩) main_v174) maximumf,
    binary main_v174 main_arg15 main_v175 ((fun l r => Host.dotGeneral dot_S16384x512_S512x768_S16384x768_1_0_0_1_n_n none l r) : (⟨S16384x512, .f32⟩ : BufTy).Contents (Elt F) → (⟨S512x768, .f32⟩ : BufTy).Contents (Elt F) → (⟨S16384x768, .f32⟩ : BufTy).Contents (Elt F)),
    unary main_arg16 main_v176 (broadcastInDim S1x768 ![1] bcast_S768_S1x768_1 : (⟨S768, .f32⟩ : BufTy).Contents (Elt F) → (⟨S1x768, .f32⟩ : BufTy).Contents (Elt F)),
    unary main_v176 main_v177 (broadcastInDim S16384x768 ![0, 1] bcast_S1x768_S16384x768_0_1 : (⟨S1x768, .f32⟩ : BufTy).Contents (Elt F) → (⟨S16384x768, .f32⟩ : BufTy).Contents (Elt F)),
    binary main_v175 main_v177 main_v178 (addf : (⟨S16384x768, .f32⟩ : BufTy).Contents (Elt F) → (⟨S16384x768, .f32⟩ : BufTy).Contents (Elt F) → (⟨S16384x768, .f32⟩ : BufTy).Contents (Elt F))]

/-- The operations of the printed part 0. -/
def part0 : List (HloOp τ sig (Elt F)) := opsE ++ (opsD0 ++ (opsG0 ++ (opsB0 ++ opsC0)))

/-- The operations of the printed part 1. -/
def part1 : List (HloOp τ sig (Elt F)) := opsN0 ++ (opsD1 ++ (opsG1 ++ (opsB1 ++ (opsC1 ++ (opsN1 ++ opsD2)))))

/-- The operations of the printed part 2. -/
def part2 : List (HloOp τ sig (Elt F)) := opsG2 ++ (opsB2 ++ (opsC2 ++ (opsN2 ++ (opsD3 ++ (opsG3 ++ (opsB3 ++ opsC3))))))

/-- The operations of the printed part 3. -/
def part3 : List (HloOp τ sig (Elt F)) := opsN3 ++ (opsS ++ opsT)

/-- All operations of `@main`. -/
abbrev ops : List (HloOp τ sig (Elt F)) := part0 ++ (part1 ++ (part2 ++ part3))

set_option maxRecDepth 16384 in
set_option maxHeartbeats 8000000 in
/-- Part 0 performs its list. -/
theorem part0_eq (c : Dev nD) : main_part0 (F := F) c = seq part0 := rfl

set_option maxRecDepth 16384 in
set_option maxHeartbeats 8000000 in
/-- Part 1 performs its list. -/
theorem part1_eq (c : Dev nD) : main_part1 (F := F) c = seq part1 := rfl

set_option maxRecDepth 16384 in
set_option maxHeartbeats 8000000 in
/-- Part 2 performs its list. -/
theorem part2_eq (c : Dev nD) : main_part2 (F := F) c = seq part2 := rfl

set_option maxRecDepth 16384 in
set_option maxHeartbeats 8000000 in
/-- Part 3 performs its list. -/
theorem part3_eq (c : Dev nD) : main_part3 (F := F) c = seq part3 := rfl

/-- `@main` performs the whole list. -/
theorem main_eq (c : Dev nD) : main (F := F) c = seq ops := by
  simp only [ops, seq_append, ← part0_eq c, ← part1_eq c, ← part2_eq c, ← part3_eq c]; rfl

theorem noScopedRefs : (Finset.univ.filter fun b : Ref sig .tc => b.isScoped) = ∅ := by decide
theorem noScopedSems : (Finset.univ.filter fun sm : SemLoc sig => sm.isScoped .tc) = ∅ := by decide

theorem subE : (opsE : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub ..⟩
theorem freshE : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem subD0 : (opsD0 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem freshD0 : (opsD0 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem subG0 : (opsG0 : List (HloOp τ sig (Elt F))).Forall fun op => op.bufs ⊆ tcRefs τ sig :=
  ⟨nullary_bufs_sub .., nullary_bufs_sub .., nullary_bufs_sub .., quaternary_bufs_sub .., quaternary_bufs_sub ..⟩
theorem freshG0 : (opsG0 : List (HloOp τ sig (Elt F))).Forall fun op => op.fresh = ∅ :=
  ⟨rfl, rfl, rfl, rfl, rfl⟩
theorem subB0 : (opsB0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshB0 : (opsB0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem subC0 : (opsC0 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub ..⟩
theorem freshC0 : (opsC0 : List (HloOp τ sig (Elt F))).Forall fun op => op.fresh = ∅ :=
  ⟨rfl, rfl, rfl, rfl, rfl, rfl, rfl, rfl, rfl, rfl, rfl, rfl, rfl, rfl, rfl, rfl, rfl, rfl⟩
theorem subN0 : (opsN0 : List (HloOp τ sig (Elt F))).Forall fun op => op.bufs ⊆ tcRefs τ sig :=
  binary_bufs_sub ..
theorem freshN0 : (opsN0 : List (HloOp τ sig (Elt F))).Forall fun op => op.fresh = ∅ :=
  rfl
theorem subD1 : (opsD1 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem freshD1 : (opsD1 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem subG1 : (opsG1 : List (HloOp τ sig (Elt F))).Forall fun op => op.bufs ⊆ tcRefs τ sig :=
  ⟨nullary_bufs_sub .., nullary_bufs_sub .., nullary_bufs_sub .., quaternary_bufs_sub .., quaternary_bufs_sub ..⟩
theorem freshG1 : (opsG1 : List (HloOp τ sig (Elt F))).Forall fun op => op.fresh = ∅ :=
  ⟨rfl, rfl, rfl, rfl, rfl⟩
theorem subB1 : (opsB1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshB1 : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem subC1 : (opsC1 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub ..⟩
theorem freshC1 : (opsC1 : List (HloOp τ sig (Elt F))).Forall fun op => op.fresh = ∅ :=
  ⟨rfl, rfl, rfl, rfl, rfl, rfl, rfl, rfl, rfl, rfl, rfl, rfl, rfl, rfl, rfl, rfl, rfl, rfl⟩
theorem subN1 : (opsN1 : List (HloOp τ sig (Elt F))).Forall fun op => op.bufs ⊆ tcRefs τ sig :=
  binary_bufs_sub ..
theorem freshN1 : (opsN1 : List (HloOp τ sig (Elt F))).Forall fun op => op.fresh = ∅ :=
  rfl
theorem subD2 : (opsD2 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem freshD2 : (opsD2 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem subG2 : (opsG2 : List (HloOp τ sig (Elt F))).Forall fun op => op.bufs ⊆ tcRefs τ sig :=
  ⟨nullary_bufs_sub .., nullary_bufs_sub .., nullary_bufs_sub .., quaternary_bufs_sub .., quaternary_bufs_sub ..⟩
theorem freshG2 : (opsG2 : List (HloOp τ sig (Elt F))).Forall fun op => op.fresh = ∅ :=
  ⟨rfl, rfl, rfl, rfl, rfl⟩
theorem subB2 : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshB2 : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem subC2 : (opsC2 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub ..⟩
theorem freshC2 : (opsC2 : List (HloOp τ sig (Elt F))).Forall fun op => op.fresh = ∅ :=
  ⟨rfl, rfl, rfl, rfl, rfl, rfl, rfl, rfl, rfl, rfl, rfl, rfl, rfl, rfl, rfl, rfl, rfl, rfl⟩
theorem subN2 : (opsN2 : List (HloOp τ sig (Elt F))).Forall fun op => op.bufs ⊆ tcRefs τ sig :=
  binary_bufs_sub ..
theorem freshN2 : (opsN2 : List (HloOp τ sig (Elt F))).Forall fun op => op.fresh = ∅ :=
  rfl
theorem subD3 : (opsD3 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem freshD3 : (opsD3 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem subG3 : (opsG3 : List (HloOp τ sig (Elt F))).Forall fun op => op.bufs ⊆ tcRefs τ sig :=
  ⟨nullary_bufs_sub .., nullary_bufs_sub .., nullary_bufs_sub .., quaternary_bufs_sub .., quaternary_bufs_sub ..⟩
theorem freshG3 : (opsG3 : List (HloOp τ sig (Elt F))).Forall fun op => op.fresh = ∅ :=
  ⟨rfl, rfl, rfl, rfl, rfl⟩
theorem subB3 : (opsB3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshB3 : (opsB3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem subC3 : (opsC3 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub ..⟩
theorem freshC3 : (opsC3 : List (HloOp τ sig (Elt F))).Forall fun op => op.fresh = ∅ :=
  ⟨rfl, rfl, rfl, rfl, rfl, rfl, rfl, rfl, rfl, rfl, rfl, rfl, rfl, rfl, rfl, rfl, rfl, rfl⟩
theorem subN3 : (opsN3 : List (HloOp τ sig (Elt F))).Forall fun op => op.bufs ⊆ tcRefs τ sig :=
  binary_bufs_sub ..
theorem freshN3 : (opsN3 : List (HloOp τ sig (Elt F))).Forall fun op => op.fresh = ∅ :=
  rfl
theorem subS : (opsS : List (HloOp τ sig (Elt F))).Forall fun op => op.bufs ⊆ tcRefs τ sig :=
  ⟨unary_bufs_sub .., unary_bufs_sub .., unary_bufs_sub .., unary_bufs_sub .., nary_bufs_sub .., nullary_bufs_sub .., binary_bufs_sub .., nullary_bufs_sub .., binary_bufs_sub .., unary_bufs_sub .., unary_bufs_sub .., unary_bufs_sub .., unary_bufs_sub .., nary_bufs_sub ..⟩
theorem freshS : (opsS : List (HloOp τ sig (Elt F))).Forall fun op => op.fresh = ∅ :=
  ⟨rfl, rfl, rfl, rfl, rfl, rfl, rfl, rfl, rfl, rfl, rfl, rfl, rfl, rfl⟩
theorem subT : (opsT : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem freshT : (opsT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, part0, part1, part2, part3, List.mem_append, or_assoc] at h
    rcases h with h | h | h | h | h | h | h | h | h | h | h | h | h | h | h | h | h | h | h | h | h | h | h
    exacts [List.forall_iff_forall_mem.mp subE op h, List.forall_iff_forall_mem.mp subD0 op h, List.forall_iff_forall_mem.mp subG0 op h, List.forall_iff_forall_mem.mp subB0 op h, List.forall_iff_forall_mem.mp subC0 op h, List.forall_iff_forall_mem.mp subN0 op h, List.forall_iff_forall_mem.mp subD1 op h, List.forall_iff_forall_mem.mp subG1 op h, List.forall_iff_forall_mem.mp subB1 op h, List.forall_iff_forall_mem.mp subC1 op h, List.forall_iff_forall_mem.mp subN1 op h, List.forall_iff_forall_mem.mp subD2 op h, List.forall_iff_forall_mem.mp subG2 op h, List.forall_iff_forall_mem.mp subB2 op h, List.forall_iff_forall_mem.mp subC2 op h, List.forall_iff_forall_mem.mp subN2 op h, List.forall_iff_forall_mem.mp subD3 op h, List.forall_iff_forall_mem.mp subG3 op h, List.forall_iff_forall_mem.mp subB3 op h, List.forall_iff_forall_mem.mp subC3 op h, List.forall_iff_forall_mem.mp subN3 op h, List.forall_iff_forall_mem.mp subS op h, List.forall_iff_forall_mem.mp subT op h]

theorem ops_fresh : ∀ op ∈ (ops : List (HloOp τ sig (Elt F))), op.fresh = ∅ :=
  fun op h => by
    simp only [ops, part0, part1, part2, part3, List.mem_append, or_assoc] at h
    rcases h with h | h | h | h | h | h | h | h | h | h | h | h | h | h | h | h | h | h | h | h | h | h | h
    exacts [List.forall_iff_forall_mem.mp freshE op h, List.forall_iff_forall_mem.mp freshD0 op h, List.forall_iff_forall_mem.mp freshG0 op h, List.forall_iff_forall_mem.mp freshB0 op h, List.forall_iff_forall_mem.mp freshC0 op h, List.forall_iff_forall_mem.mp freshN0 op h, List.forall_iff_forall_mem.mp freshD1 op h, List.forall_iff_forall_mem.mp freshG1 op h, List.forall_iff_forall_mem.mp freshB1 op h, List.forall_iff_forall_mem.mp freshC1 op h, List.forall_iff_forall_mem.mp freshN1 op h, List.forall_iff_forall_mem.mp freshD2 op h, List.forall_iff_forall_mem.mp freshG2 op h, List.forall_iff_forall_mem.mp freshB2 op h, List.forall_iff_forall_mem.mp freshC2 op h, List.forall_iff_forall_mem.mp freshN2 op h, List.forall_iff_forall_mem.mp freshD3 op h, List.forall_iff_forall_mem.mp freshG3 op h, List.forall_iff_forall_mem.mp freshB3 op h, List.forall_iff_forall_mem.mp freshC3 op h, List.forall_iff_forall_mem.mp freshN3 op h, List.forall_iff_forall_mem.mp freshS op h, List.forall_iff_forall_mem.mp freshT op h]

/-- What the encoder and the zero array writes. -/
abbrev WE : List (Ref sig .tc) := [main_v0, main_v1, main_v2, main_v3, main_call0_cst, main_call0_v0, main_v4, main_v5, main_v6, main_v7, main_v8, main_call1_cst, main_call1_v0, main_v9, main_v10, main_v11, main_v12, main_v13, main_call2_cst, main_call2_v0, main_v14, main_v15, main_v16, main_v17, main_v18, main_cst, main_v19]
set_option maxRecDepth 8192 in
theorem writesE : (opsE : List (HloOp τ sig (Elt F))).Forall fun op => op.writes ⊆ (WE.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the distances of level 0 writes. -/
abbrev WD0 : List (Ref sig .tc) := [main_v20, main_v21, main_v22, main_cst_0, main_v23, main_v24, main_v25, main_cst_1, main_v26, main_v27, main_v28, main_v29, main_v30, main_v31, main_v32, main_cst_2, main_v33, main_v34, main_v35]
set_option maxRecDepth 8192 in
theorem writesD0 : (opsD0 : List (HloOp τ sig (Elt F))).Forall fun op => op.writes ⊆ (WD0.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the argmin of level 0 writes. -/
abbrev WG0 : List (Ref sig .tc) := [main_call3_v0, main_call3_cst, main_call3_c, main_call3_v1_0, main_v36]
set_option maxRecDepth 8192 in
theorem writesG0 : (opsG0 : List (HloOp τ sig (Elt F))).Forall fun op => op.writes ⊆ (WG0.map (Proc.devRef (τ := τ) .tc)).toFinset := by
  simp only [List.Forall]; refine ⟨?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the codebook rows taken at level 0 writes. -/
abbrev WB0 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v37]
set_option maxRecDepth 8192 in
theorem writesB0 : (opsB0 : List (HloOp τ sig (Elt F))).Forall fun op => op.writes ⊆ (WB0.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the loss and the accumulated code of level 0 writes. -/
abbrev WC0 : List (Ref sig .tc) := [main_v38, main_v39, main_cst_3, main_v40, main_cst_4, main_v41, main_v42, main_v43, main_cst_5, main_v44, main_cst_6, main_v45, main_cst_7, main_v46, main_v47, main_v48, main_v49, main_v50]
set_option maxRecDepth 8192 in
theorem writesC0 : (opsC0 : List (HloOp τ sig (Elt F))).Forall fun op => op.writes ⊆ (WC0.map (Proc.devRef (τ := τ) .tc)).toFinset := by
  simp only [List.Forall]; refine ⟨?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the residual after level 0 writes. -/
abbrev WN0 : List (Ref sig .tc) := [main_v51]
set_option maxRecDepth 8192 in
theorem writesN0 : (opsN0 : List (HloOp τ sig (Elt F))).Forall fun op => op.writes ⊆ (WN0.map (Proc.devRef (τ := τ) .tc)).toFinset := by
  simp only [List.Forall]; simp only [nullary_writes, unary_writes, binary_writes, ternary_writes, quaternary_writes, reshape_writes, nary_writes, Finset.singleton_subset_iff, List.mem_toFinset]; exact List.mem_map_of_mem (by decide)

/-- What the distances of level 1 writes. -/
abbrev WD1 : List (Ref sig .tc) := [main_v52, main_v53, main_v54, main_cst_8, main_v55, main_v56, main_v57, main_cst_9, main_v58, main_v59, main_v60, main_v61, main_v62, main_v63, main_v64, main_cst_10, main_v65, main_v66, main_v67]
set_option maxRecDepth 8192 in
theorem writesD1 : (opsD1 : List (HloOp τ sig (Elt F))).Forall fun op => op.writes ⊆ (WD1.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the argmin of level 1 writes. -/
abbrev WG1 : List (Ref sig .tc) := [main_call5_v0, main_call5_cst, main_call5_c, main_call5_v1_0, main_v68]
set_option maxRecDepth 8192 in
theorem writesG1 : (opsG1 : List (HloOp τ sig (Elt F))).Forall fun op => op.writes ⊆ (WG1.map (Proc.devRef (τ := τ) .tc)).toFinset := by
  simp only [List.Forall]; refine ⟨?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the codebook rows taken at level 1 writes. -/
abbrev WB1 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v69]
set_option maxRecDepth 8192 in
theorem writesB1 : (opsB1 : List (HloOp τ sig (Elt F))).Forall fun op => op.writes ⊆ (WB1.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the loss and the accumulated code of level 1 writes. -/
abbrev WC1 : List (Ref sig .tc) := [main_v70, main_v71, main_cst_11, main_v72, main_cst_12, main_v73, main_v74, main_v75, main_cst_13, main_v76, main_cst_14, main_v77, main_cst_15, main_v78, main_v79, main_v80, main_v81, main_v82]
set_option maxRecDepth 8192 in
theorem writesC1 : (opsC1 : List (HloOp τ sig (Elt F))).Forall fun op => op.writes ⊆ (WC1.map (Proc.devRef (τ := τ) .tc)).toFinset := by
  simp only [List.Forall]; refine ⟨?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the residual after level 1 writes. -/
abbrev WN1 : List (Ref sig .tc) := [main_v83]
set_option maxRecDepth 8192 in
theorem writesN1 : (opsN1 : List (HloOp τ sig (Elt F))).Forall fun op => op.writes ⊆ (WN1.map (Proc.devRef (τ := τ) .tc)).toFinset := by
  simp only [List.Forall]; simp only [nullary_writes, unary_writes, binary_writes, ternary_writes, quaternary_writes, reshape_writes, nary_writes, Finset.singleton_subset_iff, List.mem_toFinset]; exact List.mem_map_of_mem (by decide)

/-- What the distances of level 2 writes. -/
abbrev WD2 : List (Ref sig .tc) := [main_v84, main_v85, main_v86, main_cst_16, main_v87, main_v88, main_v89, main_cst_17, main_v90, main_v91, main_v92, main_v93, main_v94, main_v95, main_v96, main_cst_18, main_v97, main_v98, main_v99]
set_option maxRecDepth 8192 in
theorem writesD2 : (opsD2 : List (HloOp τ sig (Elt F))).Forall fun op => op.writes ⊆ (WD2.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the argmin of level 2 writes. -/
abbrev WG2 : List (Ref sig .tc) := [main_call7_v0, main_call7_cst, main_call7_c, main_call7_v1_0, main_v100]
set_option maxRecDepth 8192 in
theorem writesG2 : (opsG2 : List (HloOp τ sig (Elt F))).Forall fun op => op.writes ⊆ (WG2.map (Proc.devRef (τ := τ) .tc)).toFinset := by
  simp only [List.Forall]; refine ⟨?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the codebook rows taken at level 2 writes. -/
abbrev WB2 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v101]
set_option maxRecDepth 8192 in
theorem writesB2 : (opsB2 : List (HloOp τ sig (Elt F))).Forall fun op => op.writes ⊆ (WB2.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the loss and the accumulated code of level 2 writes. -/
abbrev WC2 : List (Ref sig .tc) := [main_v102, main_v103, main_cst_19, main_v104, main_cst_20, main_v105, main_v106, main_v107, main_cst_21, main_v108, main_cst_22, main_v109, main_cst_23, main_v110, main_v111, main_v112, main_v113, main_v114]
set_option maxRecDepth 8192 in
theorem writesC2 : (opsC2 : List (HloOp τ sig (Elt F))).Forall fun op => op.writes ⊆ (WC2.map (Proc.devRef (τ := τ) .tc)).toFinset := by
  simp only [List.Forall]; refine ⟨?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the residual after level 2 writes. -/
abbrev WN2 : List (Ref sig .tc) := [main_v115]
set_option maxRecDepth 8192 in
theorem writesN2 : (opsN2 : List (HloOp τ sig (Elt F))).Forall fun op => op.writes ⊆ (WN2.map (Proc.devRef (τ := τ) .tc)).toFinset := by
  simp only [List.Forall]; simp only [nullary_writes, unary_writes, binary_writes, ternary_writes, quaternary_writes, reshape_writes, nary_writes, Finset.singleton_subset_iff, List.mem_toFinset]; exact List.mem_map_of_mem (by decide)

/-- What the distances of level 3 writes. -/
abbrev WD3 : List (Ref sig .tc) := [main_v116, main_v117, main_v118, main_cst_24, main_v119, main_v120, main_v121, main_cst_25, main_v122, main_v123, main_v124, main_v125, main_v126, main_v127, main_v128, main_cst_26, main_v129, main_v130, main_v131]
set_option maxRecDepth 8192 in
theorem writesD3 : (opsD3 : List (HloOp τ sig (Elt F))).Forall fun op => op.writes ⊆ (WD3.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the argmin of level 3 writes. -/
abbrev WG3 : List (Ref sig .tc) := [main_call9_v0, main_call9_cst, main_call9_c, main_call9_v1_0, main_v132]
set_option maxRecDepth 8192 in
theorem writesG3 : (opsG3 : List (HloOp τ sig (Elt F))).Forall fun op => op.writes ⊆ (WG3.map (Proc.devRef (τ := τ) .tc)).toFinset := by
  simp only [List.Forall]; refine ⟨?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the codebook rows taken at level 3 writes. -/
abbrev WB3 : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v133]
set_option maxRecDepth 8192 in
theorem writesB3 : (opsB3 : List (HloOp τ sig (Elt F))).Forall fun op => op.writes ⊆ (WB3.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the loss and the accumulated code of level 3 writes. -/
abbrev WC3 : List (Ref sig .tc) := [main_v134, main_v135, main_cst_27, main_v136, main_cst_28, main_v137, main_v138, main_v139, main_cst_29, main_v140, main_cst_30, main_v141, main_cst_31, main_v142, main_v143, main_v144, main_v145, main_v146]
set_option maxRecDepth 8192 in
theorem writesC3 : (opsC3 : List (HloOp τ sig (Elt F))).Forall fun op => op.writes ⊆ (WC3.map (Proc.devRef (τ := τ) .tc)).toFinset := by
  simp only [List.Forall]; refine ⟨?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the residual after level 3 writes. -/
abbrev WN3 : List (Ref sig .tc) := [main_v147]
set_option maxRecDepth 8192 in
theorem writesN3 : (opsN3 : List (HloOp τ sig (Elt F))).Forall fun op => op.writes ⊆ (WN3.map (Proc.devRef (τ := τ) .tc)).toFinset := by
  simp only [List.Forall]; simp only [nullary_writes, unary_writes, binary_writes, ternary_writes, quaternary_writes, reshape_writes, nary_writes, Finset.singleton_subset_iff, List.mem_toFinset]; exact List.mem_map_of_mem (by decide)

/-- What the mean loss and the stacked indices writes. -/
abbrev WS : List (Ref sig .tc) := [main_v148, main_v149, main_v150, main_v151, main_v152, main_cst_32, main_v153, main_cst_33, main_v154, main_v155, main_v156, main_v157, main_v158, main_v159]
set_option maxRecDepth 8192 in
theorem writesS : (opsS : List (HloOp τ sig (Elt F))).Forall fun op => op.writes ⊆ (WS.map (Proc.devRef (τ := τ) .tc)).toFinset := by
  simp only [List.Forall]; refine ⟨?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

/-- What the decoder writes. -/
abbrev WT : List (Ref sig .tc) := [main_v160, main_v161, main_v162, main_v163, main_call11_cst, main_call11_v0, main_v164, main_v165, main_v166, main_v167, main_v168, main_call12_cst, main_call12_v0, main_v169, main_v170, main_v171, main_v172, main_v173, main_call13_cst, main_call13_v0, main_v174, main_v175, main_v176, main_v177, main_v178]
set_option maxRecDepth 8192 in
theorem writesT : (opsT : List (HloOp τ sig (Elt F))).Forall fun op => op.writes ⊆ (WT.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, nary_writes, Finset.singleton_subset_iff, List.mem_toFinset]; exact List.mem_map_of_mem (by decide))

end Cert.ReferenceIdeal.Steps

end
-- ==== Proof.RVal.lean ====
module

public import proofs.«01_k».proof.Proof.Gen.ReferenceIdeal
public import Idealize.ShloMosaic.Lib.StableHlo.Run
public import Idealize.ShloMosaic.Lib.Pipeline.Frame
public import proofs.«01_k».proof.Proof.ROps
public import Idealize.ShloMosaic.Lib.Quiescent

@[expose] public section

set_option Elab.async false

noncomputable section

/- What each list of the reference's operations computes, as named functions, and the reference's run: its three results as compositions of them. -/
namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The encoder: four affine layers, a relu between. -/
def encF (x : (⟨S16384x768, .f32⟩ : BufTy).Contents (Elt F)) (w0 : (⟨S768x512, .f32⟩ : BufTy).Contents (Elt F)) (b0 : (⟨S512, .f32⟩ : BufTy).Contents (Elt F)) (w1 : (⟨S512x256, .f32⟩ : BufTy).Contents (Elt F)) (b1 : (⟨S256, .f32⟩ : BufTy).Contents (Elt F)) (w2 : (⟨S256x128, .f32⟩ : BufTy).Contents (Elt F)) (b2 : (⟨S128, .f32⟩ : BufTy).Contents (Elt F)) (w3 : (⟨S128x32, .f32⟩ : BufTy).Contents (Elt F)) (b3 : (⟨S32, .f32⟩ : BufTy).Contents (Elt F)) : (⟨S16384x32, .f32⟩ : BufTy).Contents (Elt F) :=
  (addf (Host.dotGeneral dot_S16384x128_S128x32_S16384x32_1_0_0_1_n_n none (maximumf (addf (Host.dotGeneral dot_S16384x256_S256x128_S16384x128_1_0_0_1_n_n none (maximumf (addf (Host.dotGeneral dot_S16384x512_S512x256_S16384x256_1_0_0_1_n_n none (maximumf (addf (Host.dotGeneral dot_S16384x768_S768x512_S16384x512_1_0_0_1_n_n none x w0) (broadcastInDim S16384x512 ![0, 1] bcast_S1x512_S16384x512_0_1 (broadcastInDim S1x512 ![1] bcast_S512_S1x512_1 b0))) (broadcastInDim S16384x512 ![] bcast_S_S16384x512 (constant S_ .f32 0x00000000#32))) w1) (broadcastInDim S16384x256 ![0, 1] bcast_S1x256_S16384x256_0_1 (broadcastInDim S1x256 ![1] bcast_S256_S1x256_1 b1))) (broadcastInDim S16384x256 ![] bcast_S_S16384x256 (constant S_ .f32 0x00000000#32))) w2) (broadcastInDim S16384x128 ![0, 1] bcast_S1x128_S16384x128_0_1 (broadcastInDim S1x128 ![1] bcast_S128_S1x128_1 b2))) (broadcastInDim S16384x128 ![] bcast_S_S16384x128 (constant S_ .f32 0x00000000#32))) w3) (broadcastInDim S16384x32 ![0, 1] bcast_S1x32_S16384x32_0_1 (broadcastInDim S1x32 ![1] bcast_S32_S1x32_1 b3)))

/-- The array of zeros that the accumulated code starts from. -/
def zeroF : (⟨S16384x32, .f32⟩ : BufTy).Contents (Elt F) :=
  (broadcastInDim S16384x32 ![] bcast_S_S16384x32 (constant S_ .f32 0x00000000#32))

/-- Level 0 of the codebook. -/
def book0 (cb : (⟨S4x256x32, .f32⟩ : BufTy).Contents (Elt F)) : (⟨S256x32, .f32⟩ : BufTy).Contents (Elt F) :=
  (shapeCast _ (extractStridedSlice S1x256x32 ![0, 0, 0] cb slices_S4x256x32_S1x256x32_0_0_0) shapeCasts_S1x256x32_S256x32)

/-- Level 1 of the codebook. -/
def book1 (cb : (⟨S4x256x32, .f32⟩ : BufTy).Contents (Elt F)) : (⟨S256x32, .f32⟩ : BufTy).Contents (Elt F) :=
  (shapeCast _ (extractStridedSlice S1x256x32 ![1, 0, 0] cb slices_S4x256x32_S1x256x32_1_0_0) shapeCasts_S1x256x32_S256x32)

/-- Level 2 of the codebook. -/
def book2 (cb : (⟨S4x256x32, .f32⟩ : BufTy).Contents (Elt F)) : (⟨S256x32, .f32⟩ : BufTy).Contents (Elt F) :=
  (shapeCast _ (extractStridedSlice S1x256x32 ![2, 0, 0] cb slices_S4x256x32_S1x256x32_2_0_0) shapeCasts_S1x256x32_S256x32)

/-- Level 3 of the codebook. -/
def book3 (cb : (⟨S4x256x32, .f32⟩ : BufTy).Contents (Elt F)) : (⟨S256x32, .f32⟩ : BufTy).Contents (Elt F) :=
  (shapeCast _ (extractStridedSlice S1x256x32 ![3, 0, 0] cb slices_S4x256x32_S1x256x32_3_0_0) shapeCasts_S1x256x32_S256x32)

/-- The distances of the residuals to the codewords, squares expanded. -/
def distF (r : (⟨S16384x32, .f32⟩ : BufTy).Contents (Elt F)) (e : (⟨S256x32, .f32⟩ : BufTy).Contents (Elt F)) : (⟨S16384x256, .f32⟩ : BufTy).Contents (Elt F) :=
  (subf (addf (broadcastInDim S16384x256 ![0, 1] bcast_S16384x1_S16384x256_0_1 (broadcastInDim S16384x1 ![0] bcast_S16384_S16384x1_0 (Host.reduceAdd (mulf r r) (constant S_ .f32 0x00000000#32) reducesTo_S16384x32_S16384_d1 h_S_))) (broadcastInDim S16384x256 ![0, 1] bcast_S1x256_S16384x256_0_1 (broadcastInDim S1x256 ![1] bcast_S256_S1x256_1 (Host.reduceAdd (mulf e e) (constant S_ .f32 0x00000000#32) reducesTo_S256x32_S256_d1 h_S_)))) (mulf (broadcastInDim S16384x256 ![] bcast_S_S16384x256 (constant S_ .f32 0x40000000#32)) (Host.dotGeneral dot_S16384x32_S32x256_S16384x256_1_0_0_1_n_n none r (transpose S32x256 [1, 0] e transposes_S256x32_S32x256_1_0))))

/-- The index of the least distance of each row. -/
def argF (d : (⟨S16384x256, .f32⟩ : BufTy).Contents (Elt F)) : (⟨S16384, .i32⟩ : BufTy).Contents (Elt F) :=
  (fun j => (Host.argReduce reducer_argmin_f32_i32 d (iotaInDim S16384x256 32 1) (constant S_ .f32 0x7F800000#32) (constantI S_ 32 0#32) reducesTo_S16384x256_S16384_d1 h_S_ j).2)

/-- The rows of a table at the given indices. -/
def takeF (e : (⟨S256x32, .f32⟩ : BufTy).Contents (Elt F)) (ix : (⟨S16384, .i32⟩ : BufTy).Contents (Elt F)) : (⟨S16384x32, .f32⟩ : BufTy).Contents (Elt F) :=
  (select (broadcastInDim S16384x32 ![0] bcast_S16384_S16384x32_0 (Host.reduce IntOp.andi (andi ((cmpi .sge) (broadcastInDim S16384x1 ![0] bcast_S16384_S16384x1_0 (select ((cmpi .slt) ix (broadcastInDim S16384 ![] bcast_S_S16384 (constantI S_ 32 0#32))) (addi ix (broadcastInDim S16384 ![] bcast_S_S16384 (constantI S_ 32 256#32))) ix)) (broadcastInDim S16384x1 ![] bcast_S_S16384x1 (constantI S_ 32 0#32))) ((cmpi .sle) (broadcastInDim S16384x1 ![0] bcast_S16384_S16384x1_0 (select ((cmpi .slt) ix (broadcastInDim S16384 ![] bcast_S_S16384 (constantI S_ 32 0#32))) (addi ix (broadcastInDim S16384 ![] bcast_S_S16384 (constantI S_ 32 256#32))) ix)) (broadcastInDim S16384x1 ![0, 1] bcast_S1x1_S16384x1_0_1 (broadcastInDim S1x1 ![1] bcast_S1_S1x1_1 (constantI S1 32 255#32))))) (constantI S_ 1 1#1) reducesTo_S16384x1_S16384_d1 h_S_)) (Host.gather gather_S256x32_S16384x1_S16384x32_1_0_n_n_0_1_132 e (broadcastInDim S16384x1 ![0] bcast_S16384_S16384x1_0 (select ((cmpi .slt) ix (broadcastInDim S16384 ![] bcast_S_S16384 (constantI S_ 32 0#32))) (addi ix (broadcastInDim S16384 ![] bcast_S_S16384 (constantI S_ 32 256#32))) ix))) (broadcastInDim S16384x32 ![] bcast_S_S16384x32 (constant S_ .f32 0x7FC00000#32)))

/-- The loss of one level from its codewords and its residuals. -/
def lossF (q : (⟨S16384x32, .f32⟩ : BufTy).Contents (Elt F)) (r : (⟨S16384x32, .f32⟩ : BufTy).Contents (Elt F)) : (⟨S_, .f32⟩ : BufTy).Contents (Elt F) :=
  (addf (Host.divf (Host.reduceAdd (mulf (subf q r) (subf q r)) (constant S_ .f32 0x00000000#32) reducesTo_S16384x32_S_d0_1 h_S_) (constant S_ .f32 0x49000000#32)) (mulf (constant S_ .f32 0x3E800000#32) (Host.divf (Host.reduceAdd (mulf (subf q r) (subf q r)) (constant S_ .f32 0x00000000#32) reducesTo_S16384x32_S_d0_1 h_S_) (constant S_ .f32 0x49000000#32))))

/-- The code of one level passed straight through. -/
def stepF (q : (⟨S16384x32, .f32⟩ : BufTy).Contents (Elt F)) (r : (⟨S16384x32, .f32⟩ : BufTy).Contents (Elt F)) : (⟨S16384x32, .f32⟩ : BufTy).Contents (Elt F) :=
  (addf r (subf q r))

/-- The mean of the four losses. -/
def meanF (l0 : (⟨S_, .f32⟩ : BufTy).Contents (Elt F)) (l1 : (⟨S_, .f32⟩ : BufTy).Contents (Elt F)) (l2 : (⟨S_, .f32⟩ : BufTy).Contents (Elt F)) (l3 : (⟨S_, .f32⟩ : BufTy).Contents (Elt F)) : (⟨S_, .f32⟩ : BufTy).Contents (Elt F) :=
  (Host.divf (Host.reduceAdd (cat4 (broadcastInDim S1 ![] bcast_S_S1 l0) (broadcastInDim S1 ![] bcast_S_S1 l1) (broadcastInDim S1 ![] bcast_S_S1 l2) (broadcastInDim S1 ![] bcast_S_S1 l3)) (constant S_ .f32 0x00000000#32) reducesTo_S4_S_d0 h_S_) (constant S_ .f32 0x40800000#32))

/-- The four index arrays side by side. -/
def stackF (i0 : (⟨S16384, .i32⟩ : BufTy).Contents (Elt F)) (i1 : (⟨S16384, .i32⟩ : BufTy).Contents (Elt F)) (i2 : (⟨S16384, .i32⟩ : BufTy).Contents (Elt F)) (i3 : (⟨S16384, .i32⟩ : BufTy).Contents (Elt F)) : (⟨S16384x4, .i32⟩ : BufTy).Contents (Elt F) :=
  (cols4 (broadcastInDim S16384x1 ![0] bcast_S16384_S16384x1_0 i0) (broadcastInDim S16384x1 ![0] bcast_S16384_S16384x1_0 i1) (broadcastInDim S16384x1 ![0] bcast_S16384_S16384x1_0 i2) (broadcastInDim S16384x1 ![0] bcast_S16384_S16384x1_0 i3))

/-- The decoder: four affine layers, a relu between. -/
def decF (z : (⟨S16384x32, .f32⟩ : BufTy).Contents (Elt F)) (w0 : (⟨S32x128, .f32⟩ : BufTy).Contents (Elt F)) (b0 : (⟨S128, .f32⟩ : BufTy).Contents (Elt F)) (w1 : (⟨S128x256, .f32⟩ : BufTy).Contents (Elt F)) (b1 : (⟨S256, .f32⟩ : BufTy).Contents (Elt F)) (w2 : (⟨S256x512, .f32⟩ : BufTy).Contents (Elt F)) (b2 : (⟨S512, .f32⟩ : BufTy).Contents (Elt F)) (w3 : (⟨S512x768, .f32⟩ : BufTy).Contents (Elt F)) (b3 : (⟨S768, .f32⟩ : BufTy).Contents (Elt F)) : (⟨S16384x768, .f32⟩ : BufTy).Contents (Elt F) :=
  (addf (Host.dotGeneral dot_S16384x512_S512x768_S16384x768_1_0_0_1_n_n none (maximumf (addf (Host.dotGeneral dot_S16384x256_S256x512_S16384x512_1_0_0_1_n_n none (maximumf (addf (Host.dotGeneral dot_S16384x128_S128x256_S16384x256_1_0_0_1_n_n none (maximumf (addf (Host.dotGeneral dot_S16384x32_S32x128_S16384x128_1_0_0_1_n_n none z w0) (broadcastInDim S16384x128 ![0, 1] bcast_S1x128_S16384x128_0_1 (broadcastInDim S1x128 ![1] bcast_S128_S1x128_1 b0))) (broadcastInDim S16384x128 ![] bcast_S_S16384x128 (constant S_ .f32 0x00000000#32))) w1) (broadcastInDim S16384x256 ![0, 1] bcast_S1x256_S16384x256_0_1 (broadcastInDim S1x256 ![1] bcast_S256_S1x256_1 b1))) (broadcastInDim S16384x256 ![] bcast_S_S16384x256 (constant S_ .f32 0x00000000#32))) w2) (broadcastInDim S16384x512 ![0, 1] bcast_S1x512_S16384x512_0_1 (broadcastInDim S1x512 ![1] bcast_S512_S1x512_1 b2))) (broadcastInDim S16384x512 ![] bcast_S_S16384x512 (constant S_ .f32 0x00000000#32))) w3) (broadcastInDim S16384x768 ![0, 1] bcast_S1x768_S16384x768_0_1 (broadcastInDim S1x768 ![1] bcast_S768_S1x768_1 b3)))

/-- The arguments, by name. -/
structure Args (F : FTy → Type) where
  x : (⟨S16384x768, .f32⟩ : BufTy).Contents (Elt F)
  ew0 : (⟨S768x512, .f32⟩ : BufTy).Contents (Elt F)
  eb0 : (⟨S512, .f32⟩ : BufTy).Contents (Elt F)
  ew1 : (⟨S512x256, .f32⟩ : BufTy).Contents (Elt F)
  eb1 : (⟨S256, .f32⟩ : BufTy).Contents (Elt F)
  ew2 : (⟨S256x128, .f32⟩ : BufTy).Contents (Elt F)
  eb2 : (⟨S128, .f32⟩ : BufTy).Contents (Elt F)
  ew3 : (⟨S128x32, .f32⟩ : BufTy).Contents (Elt F)
  eb3 : (⟨S32, .f32⟩ : BufTy).Contents (Elt F)
  dw0 : (⟨S32x128, .f32⟩ : BufTy).Contents (Elt F)
  db0 : (⟨S128, .f32⟩ : BufTy).Contents (Elt F)
  dw1 : (⟨S128x256, .f32⟩ : BufTy).Contents (Elt F)
  db1 : (⟨S256, .f32⟩ : BufTy).Contents (Elt F)
  dw2 : (⟨S256x512, .f32⟩ : BufTy).Contents (Elt F)
  db2 : (⟨S512, .f32⟩ : BufTy).Contents (Elt F)
  dw3 : (⟨S512x768, .f32⟩ : BufTy).Contents (Elt F)
  db3 : (⟨S768, .f32⟩ : BufTy).Contents (Elt F)
  cb : (⟨S4x256x32, .f32⟩ : BufTy).Contents (Elt F)

/-- The arguments as a valuation holds them. -/
def argsOf (V : Valuation τ sig (Elt F)) : Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17)⟩

/-- The encoder's rows. -/
def r0 (a : Args F) : (⟨S16384x32, .f32⟩ : BufTy).Contents (Elt F) := encF a.x a.ew0 a.eb0 a.ew1 a.eb1 a.ew2 a.eb2 a.ew3 a.eb3
/-- The accumulated code before the levels. -/
def x0 (_a : Args F) : (⟨S16384x32, .f32⟩ : BufTy).Contents (Elt F) := zeroF
/-- The indices of level 0. -/
def i0 (a : Args F) : (⟨S16384, .i32⟩ : BufTy).Contents (Elt F) := argF (distF (r0 a) (book0 a.cb))
/-- The codewords of level 0. -/
def q0 (a : Args F) : (⟨S16384x32, .f32⟩ : BufTy).Contents (Elt F) := takeF (book0 a.cb) (i0 a)
/-- The loss of level 0. -/
def l0 (a : Args F) : (⟨S_, .f32⟩ : BufTy).Contents (Elt F) := lossF (q0 a) (r0 a)
/-- The code of level 0 passed straight through. -/
def t0 (a : Args F) : (⟨S16384x32, .f32⟩ : BufTy).Contents (Elt F) := stepF (q0 a) (r0 a)
/-- The accumulated code after level 0. -/
def x1 (a : Args F) : (⟨S16384x32, .f32⟩ : BufTy).Contents (Elt F) := addf (x0 a) (t0 a)
/-- The residuals after level 0. -/
def r1 (a : Args F) : (⟨S16384x32, .f32⟩ : BufTy).Contents (Elt F) := subf (r0 a) (t0 a)
/-- The indices of level 1. -/
def i1 (a : Args F) : (⟨S16384, .i32⟩ : BufTy).Contents (Elt F) := argF (distF (r1 a) (book1 a.cb))
/-- The codewords of level 1. -/
def q1 (a : Args F) : (⟨S16384x32, .f32⟩ : BufTy).Contents (Elt F) := takeF (book1 a.cb) (i1 a)
/-- The loss of level 1. -/
def l1 (a : Args F) : (⟨S_, .f32⟩ : BufTy).Contents (Elt F) := lossF (q1 a) (r1 a)
/-- The code of level 1 passed straight through. -/
def t1 (a : Args F) : (⟨S16384x32, .f32⟩ : BufTy).Contents (Elt F) := stepF (q1 a) (r1 a)
/-- The accumulated code after level 1. -/
def x2 (a : Args F) : (⟨S16384x32, .f32⟩ : BufTy).Contents (Elt F) := addf (x1 a) (t1 a)
/-- The residuals after level 1. -/
def r2 (a : Args F) : (⟨S16384x32, .f32⟩ : BufTy).Contents (Elt F) := subf (r1 a) (t1 a)
/-- The indices of level 2. -/
def i2 (a : Args F) : (⟨S16384, .i32⟩ : BufTy).Contents (Elt F) := argF (distF (r2 a) (book2 a.cb))
/-- The codewords of level 2. -/
def q2 (a : Args F) : (⟨S16384x32, .f32⟩ : BufTy).Contents (Elt F) := takeF (book2 a.cb) (i2 a)
/-- The loss of level 2. -/
def l2 (a : Args F) : (⟨S_, .f32⟩ : BufTy).Contents (Elt F) := lossF (q2 a) (r2 a)
/-- The code of level 2 passed straight through. -/
def t2 (a : Args F) : (⟨S16384x32, .f32⟩ : BufTy).Contents (Elt F) := stepF (q2 a) (r2 a)
/-- The accumulated code after level 2. -/
def x3 (a : Args F) : (⟨S16384x32, .f32⟩ : BufTy).Contents (Elt F) := addf (x2 a) (t2 a)
/-- The residuals after level 2. -/
def r3 (a : Args F) : (⟨S16384x32, .f32⟩ : BufTy).Contents (Elt F) := subf (r2 a) (t2 a)
/-- The indices of level 3. -/
def i3 (a : Args F) : (⟨S16384, .i32⟩ : BufTy).Contents (Elt F) := argF (distF (r3 a) (book3 a.cb))
/-- The codewords of level 3. -/
def q3 (a : Args F) : (⟨S16384x32, .f32⟩ : BufTy).Contents (Elt F) := takeF (book3 a.cb) (i3 a)
/-- The loss of level 3. -/
def l3 (a : Args F) : (⟨S_, .f32⟩ : BufTy).Contents (Elt F) := lossF (q3 a) (r3 a)
/-- The code of level 3 passed straight through. -/
def t3 (a : Args F) : (⟨S16384x32, .f32⟩ : BufTy).Contents (Elt F) := stepF (q3 a) (r3 a)
/-- The accumulated code after level 3. -/
def x4 (a : Args F) : (⟨S16384x32, .f32⟩ : BufTy).Contents (Elt F) := addf (x3 a) (t3 a)
/-- The residuals after level 3. -/
def r4 (a : Args F) : (⟨S16384x32, .f32⟩ : BufTy).Contents (Elt F) := subf (r3 a) (t3 a)
/-- The first result. -/
def outR (a : Args F) : (⟨S16384x768, .f32⟩ : BufTy).Contents (Elt F) := decF (x4 a) a.dw0 a.db0 a.dw1 a.db1 a.dw2 a.db2 a.dw3 a.db3
/-- The second result. -/
def lossR (a : Args F) : (⟨S_, .f32⟩ : BufTy).Contents (Elt F) := meanF (l0 a) (l1 a) (l2 a) (l3 a)
/-- The third result. -/
def idxR (a : Args F) : (⟨S16384x4, .i32⟩ : BufTy).Contents (Elt F) := stackF (i0 a) (i1 a) (i2 a) (i3 a)

set_option maxRecDepth 8192 in
set_option maxHeartbeats 4000000 in
theorem atE_v18 (V : Valuation τ sig (Elt F)) : after opsE V (Proc.devRef .tc main_v18) = encF (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [opsE, TRef.quaternary, TRef.ternary, TRef.binary, TRef.nullary, TRef.unary, TRef.toBuf, TRef.ofBuf, cast_eq]
  after_results_simp
  rfl

set_option maxRecDepth 8192 in
set_option maxHeartbeats 4000000 in
theorem atE_v19 (V : Valuation τ sig (Elt F)) : after opsE V (Proc.devRef .tc main_v19) = zeroF := by
  simp only [opsE, TRef.quaternary, TRef.ternary, TRef.binary, TRef.nullary, TRef.unary, TRef.toBuf, TRef.ofBuf, cast_eq]
  after_results_simp
  rfl

set_option maxRecDepth 8192 in
set_option maxHeartbeats 4000000 in
theorem atD0_v21 (V : Valuation τ sig (Elt F)) : after opsD0 V (Proc.devRef .tc main_v21) = book0 (V (Proc.devRef .tc main_arg17)) := by
  simp only [opsD0, TRef.quaternary, TRef.ternary, TRef.binary, TRef.nullary, TRef.unary, TRef.toBuf, TRef.ofBuf, cast_eq]
  after_results_simp
  rfl

set_option maxRecDepth 8192 in
set_option maxHeartbeats 4000000 in
theorem atD0_v35 (V : Valuation τ sig (Elt F)) : after opsD0 V (Proc.devRef .tc main_v35) = distF (V (Proc.devRef .tc main_v18)) (book0 (V (Proc.devRef .tc main_arg17))) := by
  simp only [opsD0, TRef.quaternary, TRef.ternary, TRef.binary, TRef.nullary, TRef.unary, TRef.toBuf, TRef.ofBuf, cast_eq]
  after_results_simp
  rfl

set_option maxRecDepth 8192 in
set_option maxHeartbeats 4000000 in
theorem atG0_v36 (V : Valuation τ sig (Elt F)) : after opsG0 V (Proc.devRef .tc main_v36) = argF (V (Proc.devRef .tc main_v35)) := by
  simp only [opsG0, TRef.quaternary, TRef.ternary, TRef.binary, TRef.nullary, TRef.unary, TRef.toBuf, TRef.ofBuf, cast_eq]
  after_results_simp
  rfl

set_option maxRecDepth 8192 in
set_option maxHeartbeats 4000000 in
theorem atB0_v37 (V : Valuation τ sig (Elt F)) : after opsB0 V (Proc.devRef .tc main_v37) = takeF (V (Proc.devRef .tc main_v21)) (V (Proc.devRef .tc main_v36)) := by
  simp only [opsB0, TRef.quaternary, TRef.ternary, TRef.binary, TRef.nullary, TRef.unary, TRef.toBuf, TRef.ofBuf, cast_eq]
  after_results_simp
  rfl

set_option maxRecDepth 8192 in
set_option maxHeartbeats 4000000 in
theorem atC0_v47 (V : Valuation τ sig (Elt F)) : after opsC0 V (Proc.devRef .tc main_v47) = lossF (V (Proc.devRef .tc main_v37)) (V (Proc.devRef .tc main_v18)) := by
  simp only [opsC0, TRef.quaternary, TRef.ternary, TRef.binary, TRef.nullary, TRef.unary, TRef.toBuf, TRef.ofBuf, cast_eq]
  after_results_simp
  rfl

set_option maxRecDepth 8192 in
set_option maxHeartbeats 4000000 in
theorem atC0_v49 (V : Valuation τ sig (Elt F)) : after opsC0 V (Proc.devRef .tc main_v49) = stepF (V (Proc.devRef .tc main_v37)) (V (Proc.devRef .tc main_v18)) := by
  simp only [opsC0, TRef.quaternary, TRef.ternary, TRef.binary, TRef.nullary, TRef.unary, TRef.toBuf, TRef.ofBuf, cast_eq]
  after_results_simp
  rfl

set_option maxRecDepth 8192 in
set_option maxHeartbeats 4000000 in
theorem atC0_v50 (V : Valuation τ sig (Elt F)) : after opsC0 V (Proc.devRef .tc main_v50) = addf (V (Proc.devRef .tc main_v19)) (stepF (V (Proc.devRef .tc main_v37)) (V (Proc.devRef .tc main_v18))) := by
  simp only [opsC0, TRef.quaternary, TRef.ternary, TRef.binary, TRef.nullary, TRef.unary, TRef.toBuf, TRef.ofBuf, cast_eq]
  after_results_simp
  rfl

set_option maxRecDepth 8192 in
set_option maxHeartbeats 4000000 in
theorem atN0_v51 (V : Valuation τ sig (Elt F)) : after opsN0 V (Proc.devRef .tc main_v51) = subf (V (Proc.devRef .tc main_v18)) (V (Proc.devRef .tc main_v49)) := by
  simp only [opsN0, TRef.quaternary, TRef.ternary, TRef.binary, TRef.nullary, TRef.unary, TRef.toBuf, TRef.ofBuf, cast_eq]
  after_results_simp

set_option maxRecDepth 8192 in
set_option maxHeartbeats 4000000 in
theorem atD1_v53 (V : Valuation τ sig (Elt F)) : after opsD1 V (Proc.devRef .tc main_v53) = book1 (V (Proc.devRef .tc main_arg17)) := by
  simp only [opsD1, TRef.quaternary, TRef.ternary, TRef.binary, TRef.nullary, TRef.unary, TRef.toBuf, TRef.ofBuf, cast_eq]
  after_results_simp
  rfl

set_option maxRecDepth 8192 in
set_option maxHeartbeats 4000000 in
theorem atD1_v67 (V : Valuation τ sig (Elt F)) : after opsD1 V (Proc.devRef .tc main_v67) = distF (V (Proc.devRef .tc main_v51)) (book1 (V (Proc.devRef .tc main_arg17))) := by
  simp only [opsD1, TRef.quaternary, TRef.ternary, TRef.binary, TRef.nullary, TRef.unary, TRef.toBuf, TRef.ofBuf, cast_eq]
  after_results_simp
  rfl

set_option maxRecDepth 8192 in
set_option maxHeartbeats 4000000 in
theorem atG1_v68 (V : Valuation τ sig (Elt F)) : after opsG1 V (Proc.devRef .tc main_v68) = argF (V (Proc.devRef .tc main_v67)) := by
  simp only [opsG1, TRef.quaternary, TRef.ternary, TRef.binary, TRef.nullary, TRef.unary, TRef.toBuf, TRef.ofBuf, cast_eq]
  after_results_simp
  rfl

set_option maxRecDepth 8192 in
set_option maxHeartbeats 4000000 in
theorem atB1_v69 (V : Valuation τ sig (Elt F)) : after opsB1 V (Proc.devRef .tc main_v69) = takeF (V (Proc.devRef .tc main_v53)) (V (Proc.devRef .tc main_v68)) := by
  simp only [opsB1, TRef.quaternary, TRef.ternary, TRef.binary, TRef.nullary, TRef.unary, TRef.toBuf, TRef.ofBuf, cast_eq]
  after_results_simp
  rfl

set_option maxRecDepth 8192 in
set_option maxHeartbeats 4000000 in
theorem atC1_v79 (V : Valuation τ sig (Elt F)) : after opsC1 V (Proc.devRef .tc main_v79) = lossF (V (Proc.devRef .tc main_v69)) (V (Proc.devRef .tc main_v51)) := by
  simp only [opsC1, TRef.quaternary, TRef.ternary, TRef.binary, TRef.nullary, TRef.unary, TRef.toBuf, TRef.ofBuf, cast_eq]
  after_results_simp
  rfl

set_option maxRecDepth 8192 in
set_option maxHeartbeats 4000000 in
theorem atC1_v81 (V : Valuation τ sig (Elt F)) : after opsC1 V (Proc.devRef .tc main_v81) = stepF (V (Proc.devRef .tc main_v69)) (V (Proc.devRef .tc main_v51)) := by
  simp only [opsC1, TRef.quaternary, TRef.ternary, TRef.binary, TRef.nullary, TRef.unary, TRef.toBuf, TRef.ofBuf, cast_eq]
  after_results_simp
  rfl

set_option maxRecDepth 8192 in
set_option maxHeartbeats 4000000 in
theorem atC1_v82 (V : Valuation τ sig (Elt F)) : after opsC1 V (Proc.devRef .tc main_v82) = addf (V (Proc.devRef .tc main_v50)) (stepF (V (Proc.devRef .tc main_v69)) (V (Proc.devRef .tc main_v51))) := by
  simp only [opsC1, TRef.quaternary, TRef.ternary, TRef.binary, TRef.nullary, TRef.unary, TRef.toBuf, TRef.ofBuf, cast_eq]
  after_results_simp
  rfl

set_option maxRecDepth 8192 in
set_option maxHeartbeats 4000000 in
theorem atN1_v83 (V : Valuation τ sig (Elt F)) : after opsN1 V (Proc.devRef .tc main_v83) = subf (V (Proc.devRef .tc main_v51)) (V (Proc.devRef .tc main_v81)) := by
  simp only [opsN1, TRef.quaternary, TRef.ternary, TRef.binary, TRef.nullary, TRef.unary, TRef.toBuf, TRef.ofBuf, cast_eq]
  after_results_simp

set_option maxRecDepth 8192 in
set_option maxHeartbeats 4000000 in
theorem atD2_v85 (V : Valuation τ sig (Elt F)) : after opsD2 V (Proc.devRef .tc main_v85) = book2 (V (Proc.devRef .tc main_arg17)) := by
  simp only [opsD2, TRef.quaternary, TRef.ternary, TRef.binary, TRef.nullary, TRef.unary, TRef.toBuf, TRef.ofBuf, cast_eq]
  after_results_simp
  rfl

set_option maxRecDepth 8192 in
set_option maxHeartbeats 4000000 in
theorem atD2_v99 (V : Valuation τ sig (Elt F)) : after opsD2 V (Proc.devRef .tc main_v99) = distF (V (Proc.devRef .tc main_v83)) (book2 (V (Proc.devRef .tc main_arg17))) := by
  simp only [opsD2, TRef.quaternary, TRef.ternary, TRef.binary, TRef.nullary, TRef.unary, TRef.toBuf, TRef.ofBuf, cast_eq]
  after_results_simp
  rfl

set_option maxRecDepth 8192 in
set_option maxHeartbeats 4000000 in
theorem atG2_v100 (V : Valuation τ sig (Elt F)) : after opsG2 V (Proc.devRef .tc main_v100) = argF (V (Proc.devRef .tc main_v99)) := by
  simp only [opsG2, TRef.quaternary, TRef.ternary, TRef.binary, TRef.nullary, TRef.unary, TRef.toBuf, TRef.ofBuf, cast_eq]
  after_results_simp
  rfl

set_option maxRecDepth 8192 in
set_option maxHeartbeats 4000000 in
theorem atB2_v101 (V : Valuation τ sig (Elt F)) : after opsB2 V (Proc.devRef .tc main_v101) = takeF (V (Proc.devRef .tc main_v85)) (V (Proc.devRef .tc main_v100)) := by
  simp only [opsB2, TRef.quaternary, TRef.ternary, TRef.binary, TRef.nullary, TRef.unary, TRef.toBuf, TRef.ofBuf, cast_eq]
  after_results_simp
  rfl

set_option maxRecDepth 8192 in
set_option maxHeartbeats 4000000 in
theorem atC2_v111 (V : Valuation τ sig (Elt F)) : after opsC2 V (Proc.devRef .tc main_v111) = lossF (V (Proc.devRef .tc main_v101)) (V (Proc.devRef .tc main_v83)) := by
  simp only [opsC2, TRef.quaternary, TRef.ternary, TRef.binary, TRef.nullary, TRef.unary, TRef.toBuf, TRef.ofBuf, cast_eq]
  after_results_simp
  rfl

set_option maxRecDepth 8192 in
set_option maxHeartbeats 4000000 in
theorem atC2_v113 (V : Valuation τ sig (Elt F)) : after opsC2 V (Proc.devRef .tc main_v113) = stepF (V (Proc.devRef .tc main_v101)) (V (Proc.devRef .tc main_v83)) := by
  simp only [opsC2, TRef.quaternary, TRef.ternary, TRef.binary, TRef.nullary, TRef.unary, TRef.toBuf, TRef.ofBuf, cast_eq]
  after_results_simp
  rfl

set_option maxRecDepth 8192 in
set_option maxHeartbeats 4000000 in
theorem atC2_v114 (V : Valuation τ sig (Elt F)) : after opsC2 V (Proc.devRef .tc main_v114) = addf (V (Proc.devRef .tc main_v82)) (stepF (V (Proc.devRef .tc main_v101)) (V (Proc.devRef .tc main_v83))) := by
  simp only [opsC2, TRef.quaternary, TRef.ternary, TRef.binary, TRef.nullary, TRef.unary, TRef.toBuf, TRef.ofBuf, cast_eq]
  after_results_simp
  rfl

set_option maxRecDepth 8192 in
set_option maxHeartbeats 4000000 in
theorem atN2_v115 (V : Valuation τ sig (Elt F)) : after opsN2 V (Proc.devRef .tc main_v115) = subf (V (Proc.devRef .tc main_v83)) (V (Proc.devRef .tc main_v113)) := by
  simp only [opsN2, TRef.quaternary, TRef.ternary, TRef.binary, TRef.nullary, TRef.unary, TRef.toBuf, TRef.ofBuf, cast_eq]
  after_results_simp

set_option maxRecDepth 8192 in
set_option maxHeartbeats 4000000 in
theorem atD3_v117 (V : Valuation τ sig (Elt F)) : after opsD3 V (Proc.devRef .tc main_v117) = book3 (V (Proc.devRef .tc main_arg17)) := by
  simp only [opsD3, TRef.quaternary, TRef.ternary, TRef.binary, TRef.nullary, TRef.unary, TRef.toBuf, TRef.ofBuf, cast_eq]
  after_results_simp
  rfl

set_option maxRecDepth 8192 in
set_option maxHeartbeats 4000000 in
theorem atD3_v131 (V : Valuation τ sig (Elt F)) : after opsD3 V (Proc.devRef .tc main_v131) = distF (V (Proc.devRef .tc main_v115)) (book3 (V (Proc.devRef .tc main_arg17))) := by
  simp only [opsD3, TRef.quaternary, TRef.ternary, TRef.binary, TRef.nullary, TRef.unary, TRef.toBuf, TRef.ofBuf, cast_eq]
  after_results_simp
  rfl

set_option maxRecDepth 8192 in
set_option maxHeartbeats 4000000 in
theorem atG3_v132 (V : Valuation τ sig (Elt F)) : after opsG3 V (Proc.devRef .tc main_v132) = argF (V (Proc.devRef .tc main_v131)) := by
  simp only [opsG3, TRef.quaternary, TRef.ternary, TRef.binary, TRef.nullary, TRef.unary, TRef.toBuf, TRef.ofBuf, cast_eq]
  after_results_simp
  rfl

set_option maxRecDepth 8192 in
set_option maxHeartbeats 4000000 in
theorem atB3_v133 (V : Valuation τ sig (Elt F)) : after opsB3 V (Proc.devRef .tc main_v133) = takeF (V (Proc.devRef .tc main_v117)) (V (Proc.devRef .tc main_v132)) := by
  simp only [opsB3, TRef.quaternary, TRef.ternary, TRef.binary, TRef.nullary, TRef.unary, TRef.toBuf, TRef.ofBuf, cast_eq]
  after_results_simp
  rfl

set_option maxRecDepth 8192 in
set_option maxHeartbeats 4000000 in
theorem atC3_v143 (V : Valuation τ sig (Elt F)) : after opsC3 V (Proc.devRef .tc main_v143) = lossF (V (Proc.devRef .tc main_v133)) (V (Proc.devRef .tc main_v115)) := by
  simp only [opsC3, TRef.quaternary, TRef.ternary, TRef.binary, TRef.nullary, TRef.unary, TRef.toBuf, TRef.ofBuf, cast_eq]
  after_results_simp
  rfl

set_option maxRecDepth 8192 in
set_option maxHeartbeats 4000000 in
theorem atC3_v145 (V : Valuation τ sig (Elt F)) : after opsC3 V (Proc.devRef .tc main_v145) = stepF (V (Proc.devRef .tc main_v133)) (V (Proc.devRef .tc main_v115)) := by
  simp only [opsC3, TRef.quaternary, TRef.ternary, TRef.binary, TRef.nullary, TRef.unary, TRef.toBuf, TRef.ofBuf, cast_eq]
  after_results_simp
  rfl

set_option maxRecDepth 8192 in
set_option maxHeartbeats 4000000 in
theorem atC3_v146 (V : Valuation τ sig (Elt F)) : after opsC3 V (Proc.devRef .tc main_v146) = addf (V (Proc.devRef .tc main_v114)) (stepF (V (Proc.devRef .tc main_v133)) (V (Proc.devRef .tc main_v115))) := by
  simp only [opsC3, TRef.quaternary, TRef.ternary, TRef.binary, TRef.nullary, TRef.unary, TRef.toBuf, TRef.ofBuf, cast_eq]
  after_results_simp
  rfl

set_option maxRecDepth 8192 in
set_option maxHeartbeats 4000000 in
theorem atN3_v147 (V : Valuation τ sig (Elt F)) : after opsN3 V (Proc.devRef .tc main_v147) = subf (V (Proc.devRef .tc main_v115)) (V (Proc.devRef .tc main_v145)) := by
  simp only [opsN3, TRef.quaternary, TRef.ternary, TRef.binary, TRef.nullary, TRef.unary, TRef.toBuf, TRef.ofBuf, cast_eq]
  after_results_simp

set_option maxRecDepth 8192 in
set_option maxHeartbeats 4000000 in
theorem atS_v154 (V : Valuation τ sig (Elt F)) : after opsS V (Proc.devRef .tc main_v154) = meanF (V (Proc.devRef .tc main_v47)) (V (Proc.devRef .tc main_v79)) (V (Proc.devRef .tc main_v111)) (V (Proc.devRef .tc main_v143)) := by
  simp only [opsS, TRef.quaternary, TRef.ternary, TRef.binary, TRef.nullary, TRef.unary, TRef.toBuf, TRef.ofBuf, cast_eq]
  after_results_simp
  rfl

set_option maxRecDepth 8192 in
set_option maxHeartbeats 4000000 in
theorem atS_v159 (V : Valuation τ sig (Elt F)) : after opsS V (Proc.devRef .tc main_v159) = stackF (V (Proc.devRef .tc main_v36)) (V (Proc.devRef .tc main_v68)) (V (Proc.devRef .tc main_v100)) (V (Proc.devRef .tc main_v132)) := by
  simp only [opsS, TRef.quaternary, TRef.ternary, TRef.binary, TRef.nullary, TRef.unary, TRef.toBuf, TRef.ofBuf, cast_eq]
  after_results_simp
  rfl

set_option maxRecDepth 8192 in
set_option maxHeartbeats 4000000 in
theorem atT_v178 (V : Valuation τ sig (Elt F)) : after opsT V (Proc.devRef .tc main_v178) = decF (V (Proc.devRef .tc main_v146)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [opsT, TRef.quaternary, TRef.ternary, TRef.binary, TRef.nullary, TRef.unary, TRef.toBuf, TRef.ofBuf, cast_eq]
  after_results_simp
  rfl

/-- The valuation before the first list. -/
def st0 (V : Valuation τ sig (Elt F)) : Valuation τ sig (Elt F) := V
/-- Written before the first list: nothing. -/
abbrev pre0 : List (Ref sig .tc) := []
theorem keep0 (V : Valuation τ sig (Elt F)) (r : Ref sig .tc) (_h : r ∉ pre0) : st0 V (Proc.devRef .tc r) = V (Proc.devRef .tc r) := rfl
/-- The valuation after the encoder and the zero array. -/
def st1 (V : Valuation τ sig (Elt F)) : Valuation τ sig (Elt F) := after opsE (st0 V)
/-- What is written up to the encoder and the zero array. -/
abbrev pre1 : List (Ref sig .tc) := WE ++ pre0
theorem step1 (V : Valuation τ sig (Elt F)) (r : Ref sig .tc) (h : r ∉ WE) : st1 V (Proc.devRef .tc r) = st0 V (Proc.devRef .tc r) :=
  after_of_writes_sub opsE _ writesE h
theorem keep1 (V : Valuation τ sig (Elt F)) (r : Ref sig .tc) (h : r ∉ pre1) : st1 V (Proc.devRef .tc r) = V (Proc.devRef .tc r) :=
  (step1 V r fun hm => h (List.mem_append_left _ hm)).trans (keep0 V r fun hm => h (List.mem_append_right _ hm))
/-- The valuation after the distances of level 0. -/
def st2 (V : Valuation τ sig (Elt F)) : Valuation τ sig (Elt F) := after opsD0 (st1 V)
/-- What is written up to the distances of level 0. -/
abbrev pre2 : List (Ref sig .tc) := WD0 ++ pre1
theorem step2 (V : Valuation τ sig (Elt F)) (r : Ref sig .tc) (h : r ∉ WD0) : st2 V (Proc.devRef .tc r) = st1 V (Proc.devRef .tc r) :=
  after_of_writes_sub opsD0 _ writesD0 h
theorem keep2 (V : Valuation τ sig (Elt F)) (r : Ref sig .tc) (h : r ∉ pre2) : st2 V (Proc.devRef .tc r) = V (Proc.devRef .tc r) :=
  (step2 V r fun hm => h (List.mem_append_left _ hm)).trans (keep1 V r fun hm => h (List.mem_append_right _ hm))
/-- The valuation after the argmin of level 0. -/
def st3 (V : Valuation τ sig (Elt F)) : Valuation τ sig (Elt F) := after opsG0 (st2 V)
/-- What is written up to the argmin of level 0. -/
abbrev pre3 : List (Ref sig .tc) := WG0 ++ pre2
theorem step3 (V : Valuation τ sig (Elt F)) (r : Ref sig .tc) (h : r ∉ WG0) : st3 V (Proc.devRef .tc r) = st2 V (Proc.devRef .tc r) :=
  after_of_writes_sub opsG0 _ writesG0 h
theorem keep3 (V : Valuation τ sig (Elt F)) (r : Ref sig .tc) (h : r ∉ pre3) : st3 V (Proc.devRef .tc r) = V (Proc.devRef .tc r) :=
  (step3 V r fun hm => h (List.mem_append_left _ hm)).trans (keep2 V r fun hm => h (List.mem_append_right _ hm))
/-- The valuation after the codebook rows taken at level 0. -/
def st4 (V : Valuation τ sig (Elt F)) : Valuation τ sig (Elt F) := after opsB0 (st3 V)
/-- What is written up to the codebook rows taken at level 0. -/
abbrev pre4 : List (Ref sig .tc) := WB0 ++ pre3
theorem step4 (V : Valuation τ sig (Elt F)) (r : Ref sig .tc) (h : r ∉ WB0) : st4 V (Proc.devRef .tc r) = st3 V (Proc.devRef .tc r) :=
  after_of_writes_sub opsB0 _ writesB0 h
theorem keep4 (V : Valuation τ sig (Elt F)) (r : Ref sig .tc) (h : r ∉ pre4) : st4 V (Proc.devRef .tc r) = V (Proc.devRef .tc r) :=
  (step4 V r fun hm => h (List.mem_append_left _ hm)).trans (keep3 V r fun hm => h (List.mem_append_right _ hm))
/-- The valuation after the loss and the accumulated code of level 0. -/
def st5 (V : Valuation τ sig (Elt F)) : Valuation τ sig (Elt F) := after opsC0 (st4 V)
/-- What is written up to the loss and the accumulated code of level 0. -/
abbrev pre5 : List (Ref sig .tc) := WC0 ++ pre4
theorem step5 (V : Valuation τ sig (Elt F)) (r : Ref sig .tc) (h : r ∉ WC0) : st5 V (Proc.devRef .tc r) = st4 V (Proc.devRef .tc r) :=
  after_of_writes_sub opsC0 _ writesC0 h
theorem keep5 (V : Valuation τ sig (Elt F)) (r : Ref sig .tc) (h : r ∉ pre5) : st5 V (Proc.devRef .tc r) = V (Proc.devRef .tc r) :=
  (step5 V r fun hm => h (List.mem_append_left _ hm)).trans (keep4 V r fun hm => h (List.mem_append_right _ hm))
/-- The valuation after the residual after level 0. -/
def st6 (V : Valuation τ sig (Elt F)) : Valuation τ sig (Elt F) := after opsN0 (st5 V)
/-- What is written up to the residual after level 0. -/
abbrev pre6 : List (Ref sig .tc) := WN0 ++ pre5
theorem step6 (V : Valuation τ sig (Elt F)) (r : Ref sig .tc) (h : r ∉ WN0) : st6 V (Proc.devRef .tc r) = st5 V (Proc.devRef .tc r) :=
  after_of_writes_sub opsN0 _ writesN0 h
theorem keep6 (V : Valuation τ sig (Elt F)) (r : Ref sig .tc) (h : r ∉ pre6) : st6 V (Proc.devRef .tc r) = V (Proc.devRef .tc r) :=
  (step6 V r fun hm => h (List.mem_append_left _ hm)).trans (keep5 V r fun hm => h (List.mem_append_right _ hm))
/-- The valuation after the distances of level 1. -/
def st7 (V : Valuation τ sig (Elt F)) : Valuation τ sig (Elt F) := after opsD1 (st6 V)
/-- What is written up to the distances of level 1. -/
abbrev pre7 : List (Ref sig .tc) := WD1 ++ pre6
theorem step7 (V : Valuation τ sig (Elt F)) (r : Ref sig .tc) (h : r ∉ WD1) : st7 V (Proc.devRef .tc r) = st6 V (Proc.devRef .tc r) :=
  after_of_writes_sub opsD1 _ writesD1 h
theorem keep7 (V : Valuation τ sig (Elt F)) (r : Ref sig .tc) (h : r ∉ pre7) : st7 V (Proc.devRef .tc r) = V (Proc.devRef .tc r) :=
  (step7 V r fun hm => h (List.mem_append_left _ hm)).trans (keep6 V r fun hm => h (List.mem_append_right _ hm))
/-- The valuation after the argmin of level 1. -/
def st8 (V : Valuation τ sig (Elt F)) : Valuation τ sig (Elt F) := after opsG1 (st7 V)
/-- What is written up to the argmin of level 1. -/
abbrev pre8 : List (Ref sig .tc) := WG1 ++ pre7
theorem step8 (V : Valuation τ sig (Elt F)) (r : Ref sig .tc) (h : r ∉ WG1) : st8 V (Proc.devRef .tc r) = st7 V (Proc.devRef .tc r) :=
  after_of_writes_sub opsG1 _ writesG1 h
theorem keep8 (V : Valuation τ sig (Elt F)) (r : Ref sig .tc) (h : r ∉ pre8) : st8 V (Proc.devRef .tc r) = V (Proc.devRef .tc r) :=
  (step8 V r fun hm => h (List.mem_append_left _ hm)).trans (keep7 V r fun hm => h (List.mem_append_right _ hm))
/-- The valuation after the codebook rows taken at level 1. -/
def st9 (V : Valuation τ sig (Elt F)) : Valuation τ sig (Elt F) := after opsB1 (st8 V)
/-- What is written up to the codebook rows taken at level 1. -/
abbrev pre9 : List (Ref sig .tc) := WB1 ++ pre8
theorem step9 (V : Valuation τ sig (Elt F)) (r : Ref sig .tc) (h : r ∉ WB1) : st9 V (Proc.devRef .tc r) = st8 V (Proc.devRef .tc r) :=
  after_of_writes_sub opsB1 _ writesB1 h
theorem keep9 (V : Valuation τ sig (Elt F)) (r : Ref sig .tc) (h : r ∉ pre9) : st9 V (Proc.devRef .tc r) = V (Proc.devRef .tc r) :=
  (step9 V r fun hm => h (List.mem_append_left _ hm)).trans (keep8 V r fun hm => h (List.mem_append_right _ hm))
/-- The valuation after the loss and the accumulated code of level 1. -/
def st10 (V : Valuation τ sig (Elt F)) : Valuation τ sig (Elt F) := after opsC1 (st9 V)
/-- What is written up to the loss and the accumulated code of level 1. -/
abbrev pre10 : List (Ref sig .tc) := WC1 ++ pre9
theorem step10 (V : Valuation τ sig (Elt F)) (r : Ref sig .tc) (h : r ∉ WC1) : st10 V (Proc.devRef .tc r) = st9 V (Proc.devRef .tc r) :=
  after_of_writes_sub opsC1 _ writesC1 h
theorem keep10 (V : Valuation τ sig (Elt F)) (r : Ref sig .tc) (h : r ∉ pre10) : st10 V (Proc.devRef .tc r) = V (Proc.devRef .tc r) :=
  (step10 V r fun hm => h (List.mem_append_left _ hm)).trans (keep9 V r fun hm => h (List.mem_append_right _ hm))
/-- The valuation after the residual after level 1. -/
def st11 (V : Valuation τ sig (Elt F)) : Valuation τ sig (Elt F) := after opsN1 (st10 V)
/-- What is written up to the residual after level 1. -/
abbrev pre11 : List (Ref sig .tc) := WN1 ++ pre10
theorem step11 (V : Valuation τ sig (Elt F)) (r : Ref sig .tc) (h : r ∉ WN1) : st11 V (Proc.devRef .tc r) = st10 V (Proc.devRef .tc r) :=
  after_of_writes_sub opsN1 _ writesN1 h
theorem keep11 (V : Valuation τ sig (Elt F)) (r : Ref sig .tc) (h : r ∉ pre11) : st11 V (Proc.devRef .tc r) = V (Proc.devRef .tc r) :=
  (step11 V r fun hm => h (List.mem_append_left _ hm)).trans (keep10 V r fun hm => h (List.mem_append_right _ hm))
/-- The valuation after the distances of level 2. -/
def st12 (V : Valuation τ sig (Elt F)) : Valuation τ sig (Elt F) := after opsD2 (st11 V)
/-- What is written up to the distances of level 2. -/
abbrev pre12 : List (Ref sig .tc) := WD2 ++ pre11
theorem step12 (V : Valuation τ sig (Elt F)) (r : Ref sig .tc) (h : r ∉ WD2) : st12 V (Proc.devRef .tc r) = st11 V (Proc.devRef .tc r) :=
  after_of_writes_sub opsD2 _ writesD2 h
theorem keep12 (V : Valuation τ sig (Elt F)) (r : Ref sig .tc) (h : r ∉ pre12) : st12 V (Proc.devRef .tc r) = V (Proc.devRef .tc r) :=
  (step12 V r fun hm => h (List.mem_append_left _ hm)).trans (keep11 V r fun hm => h (List.mem_append_right _ hm))
/-- The valuation after the argmin of level 2. -/
def st13 (V : Valuation τ sig (Elt F)) : Valuation τ sig (Elt F) := after opsG2 (st12 V)
/-- What is written up to the argmin of level 2. -/
abbrev pre13 : List (Ref sig .tc) := WG2 ++ pre12
theorem step13 (V : Valuation τ sig (Elt F)) (r : Ref sig .tc) (h : r ∉ WG2) : st13 V (Proc.devRef .tc r) = st12 V (Proc.devRef .tc r) :=
  after_of_writes_sub opsG2 _ writesG2 h
theorem keep13 (V : Valuation τ sig (Elt F)) (r : Ref sig .tc) (h : r ∉ pre13) : st13 V (Proc.devRef .tc r) = V (Proc.devRef .tc r) :=
  (step13 V r fun hm => h (List.mem_append_left _ hm)).trans (keep12 V r fun hm => h (List.mem_append_right _ hm))
/-- The valuation after the codebook rows taken at level 2. -/
def st14 (V : Valuation τ sig (Elt F)) : Valuation τ sig (Elt F) := after opsB2 (st13 V)
/-- What is written up to the codebook rows taken at level 2. -/
abbrev pre14 : List (Ref sig .tc) := WB2 ++ pre13
theorem step14 (V : Valuation τ sig (Elt F)) (r : Ref sig .tc) (h : r ∉ WB2) : st14 V (Proc.devRef .tc r) = st13 V (Proc.devRef .tc r) :=
  after_of_writes_sub opsB2 _ writesB2 h
theorem keep14 (V : Valuation τ sig (Elt F)) (r : Ref sig .tc) (h : r ∉ pre14) : st14 V (Proc.devRef .tc r) = V (Proc.devRef .tc r) :=
  (step14 V r fun hm => h (List.mem_append_left _ hm)).trans (keep13 V r fun hm => h (List.mem_append_right _ hm))
/-- The valuation after the loss and the accumulated code of level 2. -/
def st15 (V : Valuation τ sig (Elt F)) : Valuation τ sig (Elt F) := after opsC2 (st14 V)
/-- What is written up to the loss and the accumulated code of level 2. -/
abbrev pre15 : List (Ref sig .tc) := WC2 ++ pre14
theorem step15 (V : Valuation τ sig (Elt F)) (r : Ref sig .tc) (h : r ∉ WC2) : st15 V (Proc.devRef .tc r) = st14 V (Proc.devRef .tc r) :=
  after_of_writes_sub opsC2 _ writesC2 h
theorem keep15 (V : Valuation τ sig (Elt F)) (r : Ref sig .tc) (h : r ∉ pre15) : st15 V (Proc.devRef .tc r) = V (Proc.devRef .tc r) :=
  (step15 V r fun hm => h (List.mem_append_left _ hm)).trans (keep14 V r fun hm => h (List.mem_append_right _ hm))
/-- The valuation after the residual after level 2. -/
def st16 (V : Valuation τ sig (Elt F)) : Valuation τ sig (Elt F) := after opsN2 (st15 V)
/-- What is written up to the residual after level 2. -/
abbrev pre16 : List (Ref sig .tc) := WN2 ++ pre15
theorem step16 (V : Valuation τ sig (Elt F)) (r : Ref sig .tc) (h : r ∉ WN2) : st16 V (Proc.devRef .tc r) = st15 V (Proc.devRef .tc r) :=
  after_of_writes_sub opsN2 _ writesN2 h
theorem keep16 (V : Valuation τ sig (Elt F)) (r : Ref sig .tc) (h : r ∉ pre16) : st16 V (Proc.devRef .tc r) = V (Proc.devRef .tc r) :=
  (step16 V r fun hm => h (List.mem_append_left _ hm)).trans (keep15 V r fun hm => h (List.mem_append_right _ hm))
/-- The valuation after the distances of level 3. -/
def st17 (V : Valuation τ sig (Elt F)) : Valuation τ sig (Elt F) := after opsD3 (st16 V)
/-- What is written up to the distances of level 3. -/
abbrev pre17 : List (Ref sig .tc) := WD3 ++ pre16
theorem step17 (V : Valuation τ sig (Elt F)) (r : Ref sig .tc) (h : r ∉ WD3) : st17 V (Proc.devRef .tc r) = st16 V (Proc.devRef .tc r) :=
  after_of_writes_sub opsD3 _ writesD3 h
theorem keep17 (V : Valuation τ sig (Elt F)) (r : Ref sig .tc) (h : r ∉ pre17) : st17 V (Proc.devRef .tc r) = V (Proc.devRef .tc r) :=
  (step17 V r fun hm => h (List.mem_append_left _ hm)).trans (keep16 V r fun hm => h (List.mem_append_right _ hm))
/-- The valuation after the argmin of level 3. -/
def st18 (V : Valuation τ sig (Elt F)) : Valuation τ sig (Elt F) := after opsG3 (st17 V)
/-- What is written up to the argmin of level 3. -/
abbrev pre18 : List (Ref sig .tc) := WG3 ++ pre17
theorem step18 (V : Valuation τ sig (Elt F)) (r : Ref sig .tc) (h : r ∉ WG3) : st18 V (Proc.devRef .tc r) = st17 V (Proc.devRef .tc r) :=
  after_of_writes_sub opsG3 _ writesG3 h
theorem keep18 (V : Valuation τ sig (Elt F)) (r : Ref sig .tc) (h : r ∉ pre18) : st18 V (Proc.devRef .tc r) = V (Proc.devRef .tc r) :=
  (step18 V r fun hm => h (List.mem_append_left _ hm)).trans (keep17 V r fun hm => h (List.mem_append_right _ hm))
/-- The valuation after the codebook rows taken at level 3. -/
def st19 (V : Valuation τ sig (Elt F)) : Valuation τ sig (Elt F) := after opsB3 (st18 V)
/-- What is written up to the codebook rows taken at level 3. -/
abbrev pre19 : List (Ref sig .tc) := WB3 ++ pre18
theorem step19 (V : Valuation τ sig (Elt F)) (r : Ref sig .tc) (h : r ∉ WB3) : st19 V (Proc.devRef .tc r) = st18 V (Proc.devRef .tc r) :=
  after_of_writes_sub opsB3 _ writesB3 h
theorem keep19 (V : Valuation τ sig (Elt F)) (r : Ref sig .tc) (h : r ∉ pre19) : st19 V (Proc.devRef .tc r) = V (Proc.devRef .tc r) :=
  (step19 V r fun hm => h (List.mem_append_left _ hm)).trans (keep18 V r fun hm => h (List.mem_append_right _ hm))
/-- The valuation after the loss and the accumulated code of level 3. -/
def st20 (V : Valuation τ sig (Elt F)) : Valuation τ sig (Elt F) := after opsC3 (st19 V)
/-- What is written up to the loss and the accumulated code of level 3. -/
abbrev pre20 : List (Ref sig .tc) := WC3 ++ pre19
theorem step20 (V : Valuation τ sig (Elt F)) (r : Ref sig .tc) (h : r ∉ WC3) : st20 V (Proc.devRef .tc r) = st19 V (Proc.devRef .tc r) :=
  after_of_writes_sub opsC3 _ writesC3 h
theorem keep20 (V : Valuation τ sig (Elt F)) (r : Ref sig .tc) (h : r ∉ pre20) : st20 V (Proc.devRef .tc r) = V (Proc.devRef .tc r) :=
  (step20 V r fun hm => h (List.mem_append_left _ hm)).trans (keep19 V r fun hm => h (List.mem_append_right _ hm))
/-- The valuation after the residual after level 3. -/
def st21 (V : Valuation τ sig (Elt F)) : Valuation τ sig (Elt F) := after opsN3 (st20 V)
/-- What is written up to the residual after level 3. -/
abbrev pre21 : List (Ref sig .tc) := WN3 ++ pre20
theorem step21 (V : Valuation τ sig (Elt F)) (r : Ref sig .tc) (h : r ∉ WN3) : st21 V (Proc.devRef .tc r) = st20 V (Proc.devRef .tc r) :=
  after_of_writes_sub opsN3 _ writesN3 h
theorem keep21 (V : Valuation τ sig (Elt F)) (r : Ref sig .tc) (h : r ∉ pre21) : st21 V (Proc.devRef .tc r) = V (Proc.devRef .tc r) :=
  (step21 V r fun hm => h (List.mem_append_left _ hm)).trans (keep20 V r fun hm => h (List.mem_append_right _ hm))
/-- The valuation after the mean loss and the stacked indices. -/
def st22 (V : Valuation τ sig (Elt F)) : Valuation τ sig (Elt F) := after opsS (st21 V)
/-- What is written up to the mean loss and the stacked indices. -/
abbrev pre22 : List (Ref sig .tc) := WS ++ pre21
theorem step22 (V : Valuation τ sig (Elt F)) (r : Ref sig .tc) (h : r ∉ WS) : st22 V (Proc.devRef .tc r) = st21 V (Proc.devRef .tc r) :=
  after_of_writes_sub opsS _ writesS h
theorem keep22 (V : Valuation τ sig (Elt F)) (r : Ref sig .tc) (h : r ∉ pre22) : st22 V (Proc.devRef .tc r) = V (Proc.devRef .tc r) :=
  (step22 V r fun hm => h (List.mem_append_left _ hm)).trans (keep21 V r fun hm => h (List.mem_append_right _ hm))
/-- The valuation after the decoder. -/
def st23 (V : Valuation τ sig (Elt F)) : Valuation τ sig (Elt F) := after opsT (st22 V)
/-- What is written up to the decoder. -/
abbrev pre23 : List (Ref sig .tc) := WT ++ pre22
theorem step23 (V : Valuation τ sig (Elt F)) (r : Ref sig .tc) (h : r ∉ WT) : st23 V (Proc.devRef .tc r) = st22 V (Proc.devRef .tc r) :=
  after_of_writes_sub opsT _ writesT h
theorem keep23 (V : Valuation τ sig (Elt F)) (r : Ref sig .tc) (h : r ∉ pre23) : st23 V (Proc.devRef .tc r) = V (Proc.devRef .tc r) :=
  (step23 V r fun hm => h (List.mem_append_left _ hm)).trans (keep22 V r fun hm => h (List.mem_append_right _ hm))
set_option maxRecDepth 8192 in
theorem s1_v18 (V : Valuation τ sig (Elt F)) : st1 V (Proc.devRef .tc main_v18) = r0 (argsOf V) := by
  unfold st1
  rw [atE_v18, keep0 V main_arg0 (by decide), keep0 V main_arg1 (by decide), keep0 V main_arg2 (by decide), keep0 V main_arg3 (by decide), keep0 V main_arg4 (by decide), keep0 V main_arg5 (by decide), keep0 V main_arg6 (by decide), keep0 V main_arg7 (by decide), keep0 V main_arg8 (by decide)]
  rfl
set_option maxRecDepth 8192 in
theorem s1_v19 (V : Valuation τ sig (Elt F)) : st1 V (Proc.devRef .tc main_v19) = x0 (argsOf V) := by
  unfold st1
  rw [atE_v19]
  rfl
set_option maxRecDepth 8192 in
theorem s2_v18 (V : Valuation τ sig (Elt F)) : st2 V (Proc.devRef .tc main_v18) = r0 (argsOf V) :=
  (step2 V main_v18 (by decide)).trans (s1_v18 V)
set_option maxRecDepth 8192 in
theorem s2_v19 (V : Valuation τ sig (Elt F)) : st2 V (Proc.devRef .tc main_v19) = x0 (argsOf V) :=
  (step2 V main_v19 (by decide)).trans (s1_v19 V)
set_option maxRecDepth 8192 in
theorem s2_v21 (V : Valuation τ sig (Elt F)) : st2 V (Proc.devRef .tc main_v21) = book0 (argsOf V).cb := by
  unfold st2
  rw [atD0_v21, keep1 V main_arg17 (by decide)]; rfl
set_option maxRecDepth 8192 in
theorem s2_v35 (V : Valuation τ sig (Elt F)) : st2 V (Proc.devRef .tc main_v35) = distF (r0 (argsOf V)) (book0 (argsOf V).cb) := by
  unfold st2
  rw [atD0_v35, s1_v18, keep1 V main_arg17 (by decide)]; rfl
set_option maxRecDepth 8192 in
theorem s3_v18 (V : Valuation τ sig (Elt F)) : st3 V (Proc.devRef .tc main_v18) = r0 (argsOf V) :=
  (step3 V main_v18 (by decide)).trans (s2_v18 V)
set_option maxRecDepth 8192 in
theorem s3_v19 (V : Valuation τ sig (Elt F)) : st3 V (Proc.devRef .tc main_v19) = x0 (argsOf V) :=
  (step3 V main_v19 (by decide)).trans (s2_v19 V)
set_option maxRecDepth 8192 in
theorem s3_v21 (V : Valuation τ sig (Elt F)) : st3 V (Proc.devRef .tc main_v21) = book0 (argsOf V).cb :=
  (step3 V main_v21 (by decide)).trans (s2_v21 V)
set_option maxRecDepth 8192 in
theorem s3_v36 (V : Valuation τ sig (Elt F)) : st3 V (Proc.devRef .tc main_v36) = i0 (argsOf V) := by
  unfold st3
  rw [atG0_v36, s2_v35]
  rfl
set_option maxRecDepth 8192 in
theorem s4_v18 (V : Valuation τ sig (Elt F)) : st4 V (Proc.devRef .tc main_v18) = r0 (argsOf V) :=
  (step4 V main_v18 (by decide)).trans (s3_v18 V)
set_option maxRecDepth 8192 in
theorem s4_v19 (V : Valuation τ sig (Elt F)) : st4 V (Proc.devRef .tc main_v19) = x0 (argsOf V) :=
  (step4 V main_v19 (by decide)).trans (s3_v19 V)
set_option maxRecDepth 8192 in
theorem s4_v36 (V : Valuation τ sig (Elt F)) : st4 V (Proc.devRef .tc main_v36) = i0 (argsOf V) :=
  (step4 V main_v36 (by decide)).trans (s3_v36 V)
set_option maxRecDepth 8192 in
theorem s4_v37 (V : Valuation τ sig (Elt F)) : st4 V (Proc.devRef .tc main_v37) = q0 (argsOf V) := by
  unfold st4
  rw [atB0_v37, s3_v21, s3_v36]
  rfl
set_option maxRecDepth 8192 in
theorem s5_v18 (V : Valuation τ sig (Elt F)) : st5 V (Proc.devRef .tc main_v18) = r0 (argsOf V) :=
  (step5 V main_v18 (by decide)).trans (s4_v18 V)
set_option maxRecDepth 8192 in
theorem s5_v36 (V : Valuation τ sig (Elt F)) : st5 V (Proc.devRef .tc main_v36) = i0 (argsOf V) :=
  (step5 V main_v36 (by decide)).trans (s4_v36 V)
set_option maxRecDepth 8192 in
theorem s5_v47 (V : Valuation τ sig (Elt F)) : st5 V (Proc.devRef .tc main_v47) = l0 (argsOf V) := by
  unfold st5
  rw [atC0_v47, s4_v37, s4_v18]
  rfl
set_option maxRecDepth 8192 in
theorem s5_v49 (V : Valuation τ sig (Elt F)) : st5 V (Proc.devRef .tc main_v49) = t0 (argsOf V) := by
  unfold st5
  rw [atC0_v49, s4_v37, s4_v18]
  rfl
set_option maxRecDepth 8192 in
theorem s5_v50 (V : Valuation τ sig (Elt F)) : st5 V (Proc.devRef .tc main_v50) = x1 (argsOf V) := by
  unfold st5
  rw [atC0_v50, s4_v19, s4_v37, s4_v18]
  rfl
set_option maxRecDepth 8192 in
theorem s6_v36 (V : Valuation τ sig (Elt F)) : st6 V (Proc.devRef .tc main_v36) = i0 (argsOf V) :=
  (step6 V main_v36 (by decide)).trans (s5_v36 V)
set_option maxRecDepth 8192 in
theorem s6_v47 (V : Valuation τ sig (Elt F)) : st6 V (Proc.devRef .tc main_v47) = l0 (argsOf V) :=
  (step6 V main_v47 (by decide)).trans (s5_v47 V)
set_option maxRecDepth 8192 in
theorem s6_v50 (V : Valuation τ sig (Elt F)) : st6 V (Proc.devRef .tc main_v50) = x1 (argsOf V) :=
  (step6 V main_v50 (by decide)).trans (s5_v50 V)
set_option maxRecDepth 8192 in
theorem s6_v51 (V : Valuation τ sig (Elt F)) : st6 V (Proc.devRef .tc main_v51) = r1 (argsOf V) := by
  unfold st6
  rw [atN0_v51, s5_v18, s5_v49]
  rfl
set_option maxRecDepth 8192 in
theorem s7_v36 (V : Valuation τ sig (Elt F)) : st7 V (Proc.devRef .tc main_v36) = i0 (argsOf V) :=
  (step7 V main_v36 (by decide)).trans (s6_v36 V)
set_option maxRecDepth 8192 in
theorem s7_v47 (V : Valuation τ sig (Elt F)) : st7 V (Proc.devRef .tc main_v47) = l0 (argsOf V) :=
  (step7 V main_v47 (by decide)).trans (s6_v47 V)
set_option maxRecDepth 8192 in
theorem s7_v50 (V : Valuation τ sig (Elt F)) : st7 V (Proc.devRef .tc main_v50) = x1 (argsOf V) :=
  (step7 V main_v50 (by decide)).trans (s6_v50 V)
set_option maxRecDepth 8192 in
theorem s7_v51 (V : Valuation τ sig (Elt F)) : st7 V (Proc.devRef .tc main_v51) = r1 (argsOf V) :=
  (step7 V main_v51 (by decide)).trans (s6_v51 V)
set_option maxRecDepth 8192 in
theorem s7_v53 (V : Valuation τ sig (Elt F)) : st7 V (Proc.devRef .tc main_v53) = book1 (argsOf V).cb := by
  unfold st7
  rw [atD1_v53, keep6 V main_arg17 (by decide)]; rfl
set_option maxRecDepth 8192 in
theorem s7_v67 (V : Valuation τ sig (Elt F)) : st7 V (Proc.devRef .tc main_v67) = distF (r1 (argsOf V)) (book1 (argsOf V).cb) := by
  unfold st7
  rw [atD1_v67, s6_v51, keep6 V main_arg17 (by decide)]; rfl
set_option maxRecDepth 8192 in
theorem s8_v36 (V : Valuation τ sig (Elt F)) : st8 V (Proc.devRef .tc main_v36) = i0 (argsOf V) :=
  (step8 V main_v36 (by decide)).trans (s7_v36 V)
set_option maxRecDepth 8192 in
theorem s8_v47 (V : Valuation τ sig (Elt F)) : st8 V (Proc.devRef .tc main_v47) = l0 (argsOf V) :=
  (step8 V main_v47 (by decide)).trans (s7_v47 V)
set_option maxRecDepth 8192 in
theorem s8_v50 (V : Valuation τ sig (Elt F)) : st8 V (Proc.devRef .tc main_v50) = x1 (argsOf V) :=
  (step8 V main_v50 (by decide)).trans (s7_v50 V)
set_option maxRecDepth 8192 in
theorem s8_v51 (V : Valuation τ sig (Elt F)) : st8 V (Proc.devRef .tc main_v51) = r1 (argsOf V) :=
  (step8 V main_v51 (by decide)).trans (s7_v51 V)
set_option maxRecDepth 8192 in
theorem s8_v53 (V : Valuation τ sig (Elt F)) : st8 V (Proc.devRef .tc main_v53) = book1 (argsOf V).cb :=
  (step8 V main_v53 (by decide)).trans (s7_v53 V)
set_option maxRecDepth 8192 in
theorem s8_v68 (V : Valuation τ sig (Elt F)) : st8 V (Proc.devRef .tc main_v68) = i1 (argsOf V) := by
  unfold st8
  rw [atG1_v68, s7_v67]
  rfl
set_option maxRecDepth 8192 in
theorem s9_v36 (V : Valuation τ sig (Elt F)) : st9 V (Proc.devRef .tc main_v36) = i0 (argsOf V) :=
  (step9 V main_v36 (by decide)).trans (s8_v36 V)
set_option maxRecDepth 8192 in
theorem s9_v47 (V : Valuation τ sig (Elt F)) : st9 V (Proc.devRef .tc main_v47) = l0 (argsOf V) :=
  (step9 V main_v47 (by decide)).trans (s8_v47 V)
set_option maxRecDepth 8192 in
theorem s9_v50 (V : Valuation τ sig (Elt F)) : st9 V (Proc.devRef .tc main_v50) = x1 (argsOf V) :=
  (step9 V main_v50 (by decide)).trans (s8_v50 V)
set_option maxRecDepth 8192 in
theorem s9_v51 (V : Valuation τ sig (Elt F)) : st9 V (Proc.devRef .tc main_v51) = r1 (argsOf V) :=
  (step9 V main_v51 (by decide)).trans (s8_v51 V)
set_option maxRecDepth 8192 in
theorem s9_v68 (V : Valuation τ sig (Elt F)) : st9 V (Proc.devRef .tc main_v68) = i1 (argsOf V) :=
  (step9 V main_v68 (by decide)).trans (s8_v68 V)
set_option maxRecDepth 8192 in
theorem s9_v69 (V : Valuation τ sig (Elt F)) : st9 V (Proc.devRef .tc main_v69) = q1 (argsOf V) := by
  unfold st9
  rw [atB1_v69, s8_v53, s8_v68]
  rfl
set_option maxRecDepth 8192 in
theorem s10_v36 (V : Valuation τ sig (Elt F)) : st10 V (Proc.devRef .tc main_v36) = i0 (argsOf V) :=
  (step10 V main_v36 (by decide)).trans (s9_v36 V)
set_option maxRecDepth 8192 in
theorem s10_v47 (V : Valuation τ sig (Elt F)) : st10 V (Proc.devRef .tc main_v47) = l0 (argsOf V) :=
  (step10 V main_v47 (by decide)).trans (s9_v47 V)
set_option maxRecDepth 8192 in
theorem s10_v51 (V : Valuation τ sig (Elt F)) : st10 V (Proc.devRef .tc main_v51) = r1 (argsOf V) :=
  (step10 V main_v51 (by decide)).trans (s9_v51 V)
set_option maxRecDepth 8192 in
theorem s10_v68 (V : Valuation τ sig (Elt F)) : st10 V (Proc.devRef .tc main_v68) = i1 (argsOf V) :=
  (step10 V main_v68 (by decide)).trans (s9_v68 V)
set_option maxRecDepth 8192 in
theorem s10_v79 (V : Valuation τ sig (Elt F)) : st10 V (Proc.devRef .tc main_v79) = l1 (argsOf V) := by
  unfold st10
  rw [atC1_v79, s9_v69, s9_v51]
  rfl
set_option maxRecDepth 8192 in
theorem s10_v81 (V : Valuation τ sig (Elt F)) : st10 V (Proc.devRef .tc main_v81) = t1 (argsOf V) := by
  unfold st10
  rw [atC1_v81, s9_v69, s9_v51]
  rfl
set_option maxRecDepth 8192 in
theorem s10_v82 (V : Valuation τ sig (Elt F)) : st10 V (Proc.devRef .tc main_v82) = x2 (argsOf V) := by
  unfold st10
  rw [atC1_v82, s9_v50, s9_v69, s9_v51]
  rfl
set_option maxRecDepth 8192 in
theorem s11_v36 (V : Valuation τ sig (Elt F)) : st11 V (Proc.devRef .tc main_v36) = i0 (argsOf V) :=
  (step11 V main_v36 (by decide)).trans (s10_v36 V)
set_option maxRecDepth 8192 in
theorem s11_v47 (V : Valuation τ sig (Elt F)) : st11 V (Proc.devRef .tc main_v47) = l0 (argsOf V) :=
  (step11 V main_v47 (by decide)).trans (s10_v47 V)
set_option maxRecDepth 8192 in
theorem s11_v68 (V : Valuation τ sig (Elt F)) : st11 V (Proc.devRef .tc main_v68) = i1 (argsOf V) :=
  (step11 V main_v68 (by decide)).trans (s10_v68 V)
set_option maxRecDepth 8192 in
theorem s11_v79 (V : Valuation τ sig (Elt F)) : st11 V (Proc.devRef .tc main_v79) = l1 (argsOf V) :=
  (step11 V main_v79 (by decide)).trans (s10_v79 V)
set_option maxRecDepth 8192 in
theorem s11_v82 (V : Valuation τ sig (Elt F)) : st11 V (Proc.devRef .tc main_v82) = x2 (argsOf V) :=
  (step11 V main_v82 (by decide)).trans (s10_v82 V)
set_option maxRecDepth 8192 in
theorem s11_v83 (V : Valuation τ sig (Elt F)) : st11 V (Proc.devRef .tc main_v83) = r2 (argsOf V) := by
  unfold st11
  rw [atN1_v83, s10_v51, s10_v81]
  rfl
set_option maxRecDepth 8192 in
theorem s12_v36 (V : Valuation τ sig (Elt F)) : st12 V (Proc.devRef .tc main_v36) = i0 (argsOf V) :=
  (step12 V main_v36 (by decide)).trans (s11_v36 V)
set_option maxRecDepth 8192 in
theorem s12_v47 (V : Valuation τ sig (Elt F)) : st12 V (Proc.devRef .tc main_v47) = l0 (argsOf V) :=
  (step12 V main_v47 (by decide)).trans (s11_v47 V)
set_option maxRecDepth 8192 in
theorem s12_v68 (V : Valuation τ sig (Elt F)) : st12 V (Proc.devRef .tc main_v68) = i1 (argsOf V) :=
  (step12 V main_v68 (by decide)).trans (s11_v68 V)
set_option maxRecDepth 8192 in
theorem s12_v79 (V : Valuation τ sig (Elt F)) : st12 V (Proc.devRef .tc main_v79) = l1 (argsOf V) :=
  (step12 V main_v79 (by decide)).trans (s11_v79 V)
set_option maxRecDepth 8192 in
theorem s12_v82 (V : Valuation τ sig (Elt F)) : st12 V (Proc.devRef .tc main_v82) = x2 (argsOf V) :=
  (step12 V main_v82 (by decide)).trans (s11_v82 V)
set_option maxRecDepth 8192 in
theorem s12_v83 (V : Valuation τ sig (Elt F)) : st12 V (Proc.devRef .tc main_v83) = r2 (argsOf V) :=
  (step12 V main_v83 (by decide)).trans (s11_v83 V)
set_option maxRecDepth 8192 in
theorem s12_v85 (V : Valuation τ sig (Elt F)) : st12 V (Proc.devRef .tc main_v85) = book2 (argsOf V).cb := by
  unfold st12
  rw [atD2_v85, keep11 V main_arg17 (by decide)]; rfl
set_option maxRecDepth 8192 in
theorem s12_v99 (V : Valuation τ sig (Elt F)) : st12 V (Proc.devRef .tc main_v99) = distF (r2 (argsOf V)) (book2 (argsOf V).cb) := by
  unfold st12
  rw [atD2_v99, s11_v83, keep11 V main_arg17 (by decide)]; rfl
set_option maxRecDepth 8192 in
theorem s13_v36 (V : Valuation τ sig (Elt F)) : st13 V (Proc.devRef .tc main_v36) = i0 (argsOf V) :=
  (step13 V main_v36 (by decide)).trans (s12_v36 V)
set_option maxRecDepth 8192 in
theorem s13_v47 (V : Valuation τ sig (Elt F)) : st13 V (Proc.devRef .tc main_v47) = l0 (argsOf V) :=
  (step13 V main_v47 (by decide)).trans (s12_v47 V)
set_option maxRecDepth 8192 in
theorem s13_v68 (V : Valuation τ sig (Elt F)) : st13 V (Proc.devRef .tc main_v68) = i1 (argsOf V) :=
  (step13 V main_v68 (by decide)).trans (s12_v68 V)
set_option maxRecDepth 8192 in
theorem s13_v79 (V : Valuation τ sig (Elt F)) : st13 V (Proc.devRef .tc main_v79) = l1 (argsOf V) :=
  (step13 V main_v79 (by decide)).trans (s12_v79 V)
set_option maxRecDepth 8192 in
theorem s13_v82 (V : Valuation τ sig (Elt F)) : st13 V (Proc.devRef .tc main_v82) = x2 (argsOf V) :=
  (step13 V main_v82 (by decide)).trans (s12_v82 V)
set_option maxRecDepth 8192 in
theorem s13_v83 (V : Valuation τ sig (Elt F)) : st13 V (Proc.devRef .tc main_v83) = r2 (argsOf V) :=
  (step13 V main_v83 (by decide)).trans (s12_v83 V)
set_option maxRecDepth 8192 in
theorem s13_v85 (V : Valuation τ sig (Elt F)) : st13 V (Proc.devRef .tc main_v85) = book2 (argsOf V).cb :=
  (step13 V main_v85 (by decide)).trans (s12_v85 V)
set_option maxRecDepth 8192 in
theorem s13_v100 (V : Valuation τ sig (Elt F)) : st13 V (Proc.devRef .tc main_v100) = i2 (argsOf V) := by
  unfold st13
  rw [atG2_v100, s12_v99]
  rfl
set_option maxRecDepth 8192 in
theorem s14_v36 (V : Valuation τ sig (Elt F)) : st14 V (Proc.devRef .tc main_v36) = i0 (argsOf V) :=
  (step14 V main_v36 (by decide)).trans (s13_v36 V)
set_option maxRecDepth 8192 in
theorem s14_v47 (V : Valuation τ sig (Elt F)) : st14 V (Proc.devRef .tc main_v47) = l0 (argsOf V) :=
  (step14 V main_v47 (by decide)).trans (s13_v47 V)
set_option maxRecDepth 8192 in
theorem s14_v68 (V : Valuation τ sig (Elt F)) : st14 V (Proc.devRef .tc main_v68) = i1 (argsOf V) :=
  (step14 V main_v68 (by decide)).trans (s13_v68 V)
set_option maxRecDepth 8192 in
theorem s14_v79 (V : Valuation τ sig (Elt F)) : st14 V (Proc.devRef .tc main_v79) = l1 (argsOf V) :=
  (step14 V main_v79 (by decide)).trans (s13_v79 V)
set_option maxRecDepth 8192 in
theorem s14_v82 (V : Valuation τ sig (Elt F)) : st14 V (Proc.devRef .tc main_v82) = x2 (argsOf V) :=
  (step14 V main_v82 (by decide)).trans (s13_v82 V)
set_option maxRecDepth 8192 in
theorem s14_v83 (V : Valuation τ sig (Elt F)) : st14 V (Proc.devRef .tc main_v83) = r2 (argsOf V) :=
  (step14 V main_v83 (by decide)).trans (s13_v83 V)
set_option maxRecDepth 8192 in
theorem s14_v100 (V : Valuation τ sig (Elt F)) : st14 V (Proc.devRef .tc main_v100) = i2 (argsOf V) :=
  (step14 V main_v100 (by decide)).trans (s13_v100 V)
set_option maxRecDepth 8192 in
theorem s14_v101 (V : Valuation τ sig (Elt F)) : st14 V (Proc.devRef .tc main_v101) = q2 (argsOf V) := by
  unfold st14
  rw [atB2_v101, s13_v85, s13_v100]
  rfl
set_option maxRecDepth 8192 in
theorem s15_v36 (V : Valuation τ sig (Elt F)) : st15 V (Proc.devRef .tc main_v36) = i0 (argsOf V) :=
  (step15 V main_v36 (by decide)).trans (s14_v36 V)
set_option maxRecDepth 8192 in
theorem s15_v47 (V : Valuation τ sig (Elt F)) : st15 V (Proc.devRef .tc main_v47) = l0 (argsOf V) :=
  (step15 V main_v47 (by decide)).trans (s14_v47 V)
set_option maxRecDepth 8192 in
theorem s15_v68 (V : Valuation τ sig (Elt F)) : st15 V (Proc.devRef .tc main_v68) = i1 (argsOf V) :=
  (step15 V main_v68 (by decide)).trans (s14_v68 V)
set_option maxRecDepth 8192 in
theorem s15_v79 (V : Valuation τ sig (Elt F)) : st15 V (Proc.devRef .tc main_v79) = l1 (argsOf V) :=
  (step15 V main_v79 (by decide)).trans (s14_v79 V)
set_option maxRecDepth 8192 in
theorem s15_v83 (V : Valuation τ sig (Elt F)) : st15 V (Proc.devRef .tc main_v83) = r2 (argsOf V) :=
  (step15 V main_v83 (by decide)).trans (s14_v83 V)
set_option maxRecDepth 8192 in
theorem s15_v100 (V : Valuation τ sig (Elt F)) : st15 V (Proc.devRef .tc main_v100) = i2 (argsOf V) :=
  (step15 V main_v100 (by decide)).trans (s14_v100 V)
set_option maxRecDepth 8192 in
theorem s15_v111 (V : Valuation τ sig (Elt F)) : st15 V (Proc.devRef .tc main_v111) = l2 (argsOf V) := by
  unfold st15
  rw [atC2_v111, s14_v101, s14_v83]
  rfl
set_option maxRecDepth 8192 in
theorem s15_v113 (V : Valuation τ sig (Elt F)) : st15 V (Proc.devRef .tc main_v113) = t2 (argsOf V) := by
  unfold st15
  rw [atC2_v113, s14_v101, s14_v83]
  rfl
set_option maxRecDepth 8192 in
theorem s15_v114 (V : Valuation τ sig (Elt F)) : st15 V (Proc.devRef .tc main_v114) = x3 (argsOf V) := by
  unfold st15
  rw [atC2_v114, s14_v82, s14_v101, s14_v83]
  rfl
set_option maxRecDepth 8192 in
theorem s16_v36 (V : Valuation τ sig (Elt F)) : st16 V (Proc.devRef .tc main_v36) = i0 (argsOf V) :=
  (step16 V main_v36 (by decide)).trans (s15_v36 V)
set_option maxRecDepth 8192 in
theorem s16_v47 (V : Valuation τ sig (Elt F)) : st16 V (Proc.devRef .tc main_v47) = l0 (argsOf V) :=
  (step16 V main_v47 (by decide)).trans (s15_v47 V)
set_option maxRecDepth 8192 in
theorem s16_v68 (V : Valuation τ sig (Elt F)) : st16 V (Proc.devRef .tc main_v68) = i1 (argsOf V) :=
  (step16 V main_v68 (by decide)).trans (s15_v68 V)
set_option maxRecDepth 8192 in
theorem s16_v79 (V : Valuation τ sig (Elt F)) : st16 V (Proc.devRef .tc main_v79) = l1 (argsOf V) :=
  (step16 V main_v79 (by decide)).trans (s15_v79 V)
set_option maxRecDepth 8192 in
theorem s16_v100 (V : Valuation τ sig (Elt F)) : st16 V (Proc.devRef .tc main_v100) = i2 (argsOf V) :=
  (step16 V main_v100 (by decide)).trans (s15_v100 V)
set_option maxRecDepth 8192 in
theorem s16_v111 (V : Valuation τ sig (Elt F)) : st16 V (Proc.devRef .tc main_v111) = l2 (argsOf V) :=
  (step16 V main_v111 (by decide)).trans (s15_v111 V)
set_option maxRecDepth 8192 in
theorem s16_v114 (V : Valuation τ sig (Elt F)) : st16 V (Proc.devRef .tc main_v114) = x3 (argsOf V) :=
  (step16 V main_v114 (by decide)).trans (s15_v114 V)
set_option maxRecDepth 8192 in
theorem s16_v115 (V : Valuation τ sig (Elt F)) : st16 V (Proc.devRef .tc main_v115) = r3 (argsOf V) := by
  unfold st16
  rw [atN2_v115, s15_v83, s15_v113]
  rfl
set_option maxRecDepth 8192 in
theorem s17_v36 (V : Valuation τ sig (Elt F)) : st17 V (Proc.devRef .tc main_v36) = i0 (argsOf V) :=
  (step17 V main_v36 (by decide)).trans (s16_v36 V)
set_option maxRecDepth 8192 in
theorem s17_v47 (V : Valuation τ sig (Elt F)) : st17 V (Proc.devRef .tc main_v47) = l0 (argsOf V) :=
  (step17 V main_v47 (by decide)).trans (s16_v47 V)
set_option maxRecDepth 8192 in
theorem s17_v68 (V : Valuation τ sig (Elt F)) : st17 V (Proc.devRef .tc main_v68) = i1 (argsOf V) :=
  (step17 V main_v68 (by decide)).trans (s16_v68 V)
set_option maxRecDepth 8192 in
theorem s17_v79 (V : Valuation τ sig (Elt F)) : st17 V (Proc.devRef .tc main_v79) = l1 (argsOf V) :=
  (step17 V main_v79 (by decide)).trans (s16_v79 V)
set_option maxRecDepth 8192 in
theorem s17_v100 (V : Valuation τ sig (Elt F)) : st17 V (Proc.devRef .tc main_v100) = i2 (argsOf V) :=
  (step17 V main_v100 (by decide)).trans (s16_v100 V)
set_option maxRecDepth 8192 in
theorem s17_v111 (V : Valuation τ sig (Elt F)) : st17 V (Proc.devRef .tc main_v111) = l2 (argsOf V) :=
  (step17 V main_v111 (by decide)).trans (s16_v111 V)
set_option maxRecDepth 8192 in
theorem s17_v114 (V : Valuation τ sig (Elt F)) : st17 V (Proc.devRef .tc main_v114) = x3 (argsOf V) :=
  (step17 V main_v114 (by decide)).trans (s16_v114 V)
set_option maxRecDepth 8192 in
theorem s17_v115 (V : Valuation τ sig (Elt F)) : st17 V (Proc.devRef .tc main_v115) = r3 (argsOf V) :=
  (step17 V main_v115 (by decide)).trans (s16_v115 V)
set_option maxRecDepth 8192 in
theorem s17_v117 (V : Valuation τ sig (Elt F)) : st17 V (Proc.devRef .tc main_v117) = book3 (argsOf V).cb := by
  unfold st17
  rw [atD3_v117, keep16 V main_arg17 (by decide)]; rfl
set_option maxRecDepth 8192 in
theorem s17_v131 (V : Valuation τ sig (Elt F)) : st17 V (Proc.devRef .tc main_v131) = distF (r3 (argsOf V)) (book3 (argsOf V).cb) := by
  unfold st17
  rw [atD3_v131, s16_v115, keep16 V main_arg17 (by decide)]; rfl
set_option maxRecDepth 8192 in
theorem s18_v36 (V : Valuation τ sig (Elt F)) : st18 V (Proc.devRef .tc main_v36) = i0 (argsOf V) :=
  (step18 V main_v36 (by decide)).trans (s17_v36 V)
set_option maxRecDepth 8192 in
theorem s18_v47 (V : Valuation τ sig (Elt F)) : st18 V (Proc.devRef .tc main_v47) = l0 (argsOf V) :=
  (step18 V main_v47 (by decide)).trans (s17_v47 V)
set_option maxRecDepth 8192 in
theorem s18_v68 (V : Valuation τ sig (Elt F)) : st18 V (Proc.devRef .tc main_v68) = i1 (argsOf V) :=
  (step18 V main_v68 (by decide)).trans (s17_v68 V)
set_option maxRecDepth 8192 in
theorem s18_v79 (V : Valuation τ sig (Elt F)) : st18 V (Proc.devRef .tc main_v79) = l1 (argsOf V) :=
  (step18 V main_v79 (by decide)).trans (s17_v79 V)
set_option maxRecDepth 8192 in
theorem s18_v100 (V : Valuation τ sig (Elt F)) : st18 V (Proc.devRef .tc main_v100) = i2 (argsOf V) :=
  (step18 V main_v100 (by decide)).trans (s17_v100 V)
set_option maxRecDepth 8192 in
theorem s18_v111 (V : Valuation τ sig (Elt F)) : st18 V (Proc.devRef .tc main_v111) = l2 (argsOf V) :=
  (step18 V main_v111 (by decide)).trans (s17_v111 V)
set_option maxRecDepth 8192 in
theorem s18_v114 (V : Valuation τ sig (Elt F)) : st18 V (Proc.devRef .tc main_v114) = x3 (argsOf V) :=
  (step18 V main_v114 (by decide)).trans (s17_v114 V)
set_option maxRecDepth 8192 in
theorem s18_v115 (V : Valuation τ sig (Elt F)) : st18 V (Proc.devRef .tc main_v115) = r3 (argsOf V) :=
  (step18 V main_v115 (by decide)).trans (s17_v115 V)
set_option maxRecDepth 8192 in
theorem s18_v117 (V : Valuation τ sig (Elt F)) : st18 V (Proc.devRef .tc main_v117) = book3 (argsOf V).cb :=
  (step18 V main_v117 (by decide)).trans (s17_v117 V)
set_option maxRecDepth 8192 in
theorem s18_v132 (V : Valuation τ sig (Elt F)) : st18 V (Proc.devRef .tc main_v132) = i3 (argsOf V) := by
  unfold st18
  rw [atG3_v132, s17_v131]
  rfl
set_option maxRecDepth 8192 in
theorem s19_v36 (V : Valuation τ sig (Elt F)) : st19 V (Proc.devRef .tc main_v36) = i0 (argsOf V) :=
  (step19 V main_v36 (by decide)).trans (s18_v36 V)
set_option maxRecDepth 8192 in
theorem s19_v47 (V : Valuation τ sig (Elt F)) : st19 V (Proc.devRef .tc main_v47) = l0 (argsOf V) :=
  (step19 V main_v47 (by decide)).trans (s18_v47 V)
set_option maxRecDepth 8192 in
theorem s19_v68 (V : Valuation τ sig (Elt F)) : st19 V (Proc.devRef .tc main_v68) = i1 (argsOf V) :=
  (step19 V main_v68 (by decide)).trans (s18_v68 V)
set_option maxRecDepth 8192 in
theorem s19_v79 (V : Valuation τ sig (Elt F)) : st19 V (Proc.devRef .tc main_v79) = l1 (argsOf V) :=
  (step19 V main_v79 (by decide)).trans (s18_v79 V)
set_option maxRecDepth 8192 in
theorem s19_v100 (V : Valuation τ sig (Elt F)) : st19 V (Proc.devRef .tc main_v100) = i2 (argsOf V) :=
  (step19 V main_v100 (by decide)).trans (s18_v100 V)
set_option maxRecDepth 8192 in
theorem s19_v111 (V : Valuation τ sig (Elt F)) : st19 V (Proc.devRef .tc main_v111) = l2 (argsOf V) :=
  (step19 V main_v111 (by decide)).trans (s18_v111 V)
set_option maxRecDepth 8192 in
theorem s19_v114 (V : Valuation τ sig (Elt F)) : st19 V (Proc.devRef .tc main_v114) = x3 (argsOf V) :=
  (step19 V main_v114 (by decide)).trans (s18_v114 V)
set_option maxRecDepth 8192 in
theorem s19_v115 (V : Valuation τ sig (Elt F)) : st19 V (Proc.devRef .tc main_v115) = r3 (argsOf V) :=
  (step19 V main_v115 (by decide)).trans (s18_v115 V)
set_option maxRecDepth 8192 in
theorem s19_v132 (V : Valuation τ sig (Elt F)) : st19 V (Proc.devRef .tc main_v132) = i3 (argsOf V) :=
  (step19 V main_v132 (by decide)).trans (s18_v132 V)
set_option maxRecDepth 8192 in
theorem s19_v133 (V : Valuation τ sig (Elt F)) : st19 V (Proc.devRef .tc main_v133) = q3 (argsOf V) := by
  unfold st19
  rw [atB3_v133, s18_v117, s18_v132]
  rfl
set_option maxRecDepth 8192 in
theorem s20_v36 (V : Valuation τ sig (Elt F)) : st20 V (Proc.devRef .tc main_v36) = i0 (argsOf V) :=
  (step20 V main_v36 (by decide)).trans (s19_v36 V)
set_option maxRecDepth 8192 in
theorem s20_v47 (V : Valuation τ sig (Elt F)) : st20 V (Proc.devRef .tc main_v47) = l0 (argsOf V) :=
  (step20 V main_v47 (by decide)).trans (s19_v47 V)
set_option maxRecDepth 8192 in
theorem s20_v68 (V : Valuation τ sig (Elt F)) : st20 V (Proc.devRef .tc main_v68) = i1 (argsOf V) :=
  (step20 V main_v68 (by decide)).trans (s19_v68 V)
set_option maxRecDepth 8192 in
theorem s20_v79 (V : Valuation τ sig (Elt F)) : st20 V (Proc.devRef .tc main_v79) = l1 (argsOf V) :=
  (step20 V main_v79 (by decide)).trans (s19_v79 V)
set_option maxRecDepth 8192 in
theorem s20_v100 (V : Valuation τ sig (Elt F)) : st20 V (Proc.devRef .tc main_v100) = i2 (argsOf V) :=
  (step20 V main_v100 (by decide)).trans (s19_v100 V)
set_option maxRecDepth 8192 in
theorem s20_v111 (V : Valuation τ sig (Elt F)) : st20 V (Proc.devRef .tc main_v111) = l2 (argsOf V) :=
  (step20 V main_v111 (by decide)).trans (s19_v111 V)
set_option maxRecDepth 8192 in
theorem s20_v115 (V : Valuation τ sig (Elt F)) : st20 V (Proc.devRef .tc main_v115) = r3 (argsOf V) :=
  (step20 V main_v115 (by decide)).trans (s19_v115 V)
set_option maxRecDepth 8192 in
theorem s20_v132 (V : Valuation τ sig (Elt F)) : st20 V (Proc.devRef .tc main_v132) = i3 (argsOf V) :=
  (step20 V main_v132 (by decide)).trans (s19_v132 V)
set_option maxRecDepth 8192 in
theorem s20_v143 (V : Valuation τ sig (Elt F)) : st20 V (Proc.devRef .tc main_v143) = l3 (argsOf V) := by
  unfold st20
  rw [atC3_v143, s19_v133, s19_v115]
  rfl
set_option maxRecDepth 8192 in
theorem s20_v145 (V : Valuation τ sig (Elt F)) : st20 V (Proc.devRef .tc main_v145) = t3 (argsOf V) := by
  unfold st20
  rw [atC3_v145, s19_v133, s19_v115]
  rfl
set_option maxRecDepth 8192 in
theorem s20_v146 (V : Valuation τ sig (Elt F)) : st20 V (Proc.devRef .tc main_v146) = x4 (argsOf V) := by
  unfold st20
  rw [atC3_v146, s19_v114, s19_v133, s19_v115]
  rfl
set_option maxRecDepth 8192 in
theorem s21_v36 (V : Valuation τ sig (Elt F)) : st21 V (Proc.devRef .tc main_v36) = i0 (argsOf V) :=
  (step21 V main_v36 (by decide)).trans (s20_v36 V)
set_option maxRecDepth 8192 in
theorem s21_v47 (V : Valuation τ sig (Elt F)) : st21 V (Proc.devRef .tc main_v47) = l0 (argsOf V) :=
  (step21 V main_v47 (by decide)).trans (s20_v47 V)
set_option maxRecDepth 8192 in
theorem s21_v68 (V : Valuation τ sig (Elt F)) : st21 V (Proc.devRef .tc main_v68) = i1 (argsOf V) :=
  (step21 V main_v68 (by decide)).trans (s20_v68 V)
set_option maxRecDepth 8192 in
theorem s21_v79 (V : Valuation τ sig (Elt F)) : st21 V (Proc.devRef .tc main_v79) = l1 (argsOf V) :=
  (step21 V main_v79 (by decide)).trans (s20_v79 V)
set_option maxRecDepth 8192 in
theorem s21_v100 (V : Valuation τ sig (Elt F)) : st21 V (Proc.devRef .tc main_v100) = i2 (argsOf V) :=
  (step21 V main_v100 (by decide)).trans (s20_v100 V)
set_option maxRecDepth 8192 in
theorem s21_v111 (V : Valuation τ sig (Elt F)) : st21 V (Proc.devRef .tc main_v111) = l2 (argsOf V) :=
  (step21 V main_v111 (by decide)).trans (s20_v111 V)
set_option maxRecDepth 8192 in
theorem s21_v132 (V : Valuation τ sig (Elt F)) : st21 V (Proc.devRef .tc main_v132) = i3 (argsOf V) :=
  (step21 V main_v132 (by decide)).trans (s20_v132 V)
set_option maxRecDepth 8192 in
theorem s21_v143 (V : Valuation τ sig (Elt F)) : st21 V (Proc.devRef .tc main_v143) = l3 (argsOf V) :=
  (step21 V main_v143 (by decide)).trans (s20_v143 V)
set_option maxRecDepth 8192 in
theorem s21_v146 (V : Valuation τ sig (Elt F)) : st21 V (Proc.devRef .tc main_v146) = x4 (argsOf V) :=
  (step21 V main_v146 (by decide)).trans (s20_v146 V)
set_option maxRecDepth 8192 in
theorem s21_v147 (V : Valuation τ sig (Elt F)) : st21 V (Proc.devRef .tc main_v147) = r4 (argsOf V) := by
  unfold st21
  rw [atN3_v147, s20_v115, s20_v145]
  rfl
set_option maxRecDepth 8192 in
theorem s22_v146 (V : Valuation τ sig (Elt F)) : st22 V (Proc.devRef .tc main_v146) = x4 (argsOf V) :=
  (step22 V main_v146 (by decide)).trans (s21_v146 V)
set_option maxRecDepth 8192 in
theorem s22_v154 (V : Valuation τ sig (Elt F)) : st22 V (Proc.devRef .tc main_v154) = lossR (argsOf V) := by
  unfold st22
  rw [atS_v154, s21_v47, s21_v79, s21_v111, s21_v143]
  rfl
set_option maxRecDepth 8192 in
theorem s22_v159 (V : Valuation τ sig (Elt F)) : st22 V (Proc.devRef .tc main_v159) = idxR (argsOf V) := by
  unfold st22
  rw [atS_v159, s21_v36, s21_v68, s21_v100, s21_v132]
  rfl
set_option maxRecDepth 8192 in
theorem s23_v154 (V : Valuation τ sig (Elt F)) : st23 V (Proc.devRef .tc main_v154) = lossR (argsOf V) :=
  (step23 V main_v154 (by decide)).trans (s22_v154 V)
set_option maxRecDepth 8192 in
theorem s23_v159 (V : Valuation τ sig (Elt F)) : st23 V (Proc.devRef .tc main_v159) = idxR (argsOf V) :=
  (step23 V main_v159 (by decide)).trans (s22_v159 V)
set_option maxRecDepth 8192 in
theorem s23_v178 (V : Valuation τ sig (Elt F)) : st23 V (Proc.devRef .tc main_v178) = outR (argsOf V) := by
  unfold st23
  rw [atT_v178, s22_v146, keep22 V main_arg9 (by decide), keep22 V main_arg10 (by decide), keep22 V main_arg11 (by decide), keep22 V main_arg12 (by decide), keep22 V main_arg13 (by decide), keep22 V main_arg14 (by decide), keep22 V main_arg15 (by decide), keep22 V main_arg16 (by decide)]
  rfl

/-- The whole list is the lists one after another. -/
theorem after_ops (V : Valuation τ sig (Elt F)) : after ops V = st23 V := by
  simp only [ops, part0, part1, part2, part3, after_append]
  rfl

set_option maxRecDepth 16384 in
/-- Every run of the reference ends with its three results and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v178) = outR (argsOf (launchContents m c))
      ∧ r.2.mem ((c.tc : Thread nD τ).loc main_v154) = lossR (argsOf (launchContents m c))
      ∧ r.2.mem ((c.tc : Thread nD τ).loc main_v159) = idxR (argsOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v178).trans ((congrFun (after_ops (launchContents m c)) _).trans (s23_v178 (launchContents m c))),
      (h c main_v154).trans ((congrFun (after_ops (launchContents m c)) _).trans (s23_v154 (launchContents m c))),
      (h c main_v159).trans ((congrFun (after_ops (launchContents m c)) _).trans (s23_v159 (launchContents m c))),
      (h c main_arg0).trans ((congrFun (after_ops (launchContents m c)) _).trans (keep23 (launchContents m c) main_arg0 (by decide))),
      (h c main_arg1).trans ((congrFun (after_ops (launchContents m c)) _).trans (keep23 (launchContents m c) main_arg1 (by decide))),
      (h c main_arg2).trans ((congrFun (after_ops (launchContents m c)) _).trans (keep23 (launchContents m c) main_arg2 (by decide))),
      (h c main_arg3).trans ((congrFun (after_ops (launchContents m c)) _).trans (keep23 (launchContents m c) main_arg3 (by decide))),
      (h c main_arg4).trans ((congrFun (after_ops (launchContents m c)) _).trans (keep23 (launchContents m c) main_arg4 (by decide))),
      (h c main_arg5).trans ((congrFun (after_ops (launchContents m c)) _).trans (keep23 (launchContents m c) main_arg5 (by decide))),
      (h c main_arg6).trans ((congrFun (after_ops (launchContents m c)) _).trans (keep23 (launchContents m c) main_arg6 (by decide))),
      (h c main_arg7).trans ((congrFun (after_ops (launchContents m c)) _).trans (keep23 (launchContents m c) main_arg7 (by decide))),
      (h c main_arg8).trans ((congrFun (after_ops (launchContents m c)) _).trans (keep23 (launchContents m c) main_arg8 (by decide))),
      (h c main_arg9).trans ((congrFun (after_ops (launchContents m c)) _).trans (keep23 (launchContents m c) main_arg9 (by decide))),
      (h c main_arg10).trans ((congrFun (after_ops (launchContents m c)) _).trans (keep23 (launchContents m c) main_arg10 (by decide))),
      (h c main_arg11).trans ((congrFun (after_ops (launchContents m c)) _).trans (keep23 (launchContents m c) main_arg11 (by decide))),
      (h c main_arg12).trans ((congrFun (after_ops (launchContents m c)) _).trans (keep23 (launchContents m c) main_arg12 (by decide))),
      (h c main_arg13).trans ((congrFun (after_ops (launchContents m c)) _).trans (keep23 (launchContents m c) main_arg13 (by decide))),
      (h c main_arg14).trans ((congrFun (after_ops (launchContents m c)) _).trans (keep23 (launchContents m c) main_arg14 (by decide))),
      (h c main_arg15).trans ((congrFun (after_ops (launchContents m c)) _).trans (keep23 (launchContents m c) main_arg15 (by decide))),
      (h c main_arg16).trans ((congrFun (after_ops (launchContents m c)) _).trans (keep23 (launchContents m c) main_arg16 (by decide))),
      (h c main_arg17).trans ((congrFun (after_ops (launchContents m c)) _).trans (keep23 (launchContents m c) main_arg17 (by decide)))⟩)
    (run_seq noScopedRefs noScopedSems defs main (fun _ => ops) main_eq (fun _ => ops_sub) m ρ fun _ => ops_fresh)

/-- The reference runs, leaves its arguments unchanged and its semaphores at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0 :=
  (θ_run defs _ _).mono (fun r h => ⟨fun c => (h c).2.2.2, sem_eq_zero_of_no_sems (by decide) r.2⟩) (run m ρ)

end Cert.ReferenceIdeal.Steps

end
-- ==== Proof.Spec.lean ====
module

public import Idealize.ShloMosaic.Lib.Pointwise
public import Idealize.ShloMosaic.Lib.IdealHost

@[expose] public section

noncomputable section

/-! The mathematics of the residual quantiser, one row at a time, over the extended reals. -/

namespace Cert.Quant

/-- An affine layer at one row. -/
def lin {k n : ℕ} (w : Fin k → Fin n → EReal) (b : Fin n → EReal) (r : Fin k → EReal) : Fin n → EReal :=
  fun j => (∑ i, r i * w i j) + b j

/-- The relu of a row. -/
def relu {n : ℕ} (r : Fin n → EReal) : Fin n → EReal := fun j => max (r j) 0

/-- The distance of a row to codeword `j`, its square expanded. -/
def dist (e : Fin 256 → Fin 32 → EReal) (r : Fin 32 → EReal) (j : Fin 256) : EReal :=
  ((∑ k, r k * r k) + ∑ k, e j k * e j k) - 2 * ∑ k, r k * e j k

/-- The first place where a row of 256 values is least. -/
def IsFirst (d : Fin 256 → EReal) (j : Fin 256) : Prop := (∀ k, d j ≤ d k) ∧ ∀ k, k < j → d j < d k

theorem exists_isFirst (d : Fin 256 → EReal) : ∃ j, IsFirst d j := by
  obtain ⟨m, -, hm⟩ := Finset.exists_min_image Finset.univ d ⟨0, Finset.mem_univ _⟩
  have hne : (Finset.univ.filter fun j => d j = d m).Nonempty := ⟨m, by simp⟩
  refine ⟨(Finset.univ.filter fun j => d j = d m).min' hne, ?_, ?_⟩
  · have := (Finset.mem_filter.mp (Finset.min'_mem _ hne)).2
    intro k; rw [this]; exact hm k (Finset.mem_univ _)
  · intro k hk
    have h1 := (Finset.mem_filter.mp (Finset.min'_mem _ hne)).2
    rw [h1]
    refine lt_of_le_of_ne (hm k (Finset.mem_univ _)) fun he => ?_
    exact absurd (Finset.min'_le _ k (Finset.mem_filter.mpr ⟨Finset.mem_univ _, he.symm⟩)) (not_le.mpr hk)

theorem IsFirst.unique {d : Fin 256 → EReal} {i j : Fin 256} (hi : IsFirst d i) (hj : IsFirst d j) : i = j := by
  rcases lt_trichotomy i j with h | h | h
  · exact absurd (hi.1 j) (not_le.mpr (hj.2 i h))
  · exact h
  · exact absurd (hj.1 i) (not_le.mpr (hi.2 j h))

/-- The index of the first least value. -/
def amin (d : Fin 256 → EReal) : Fin 256 := (exists_isFirst d).choose

theorem amin_spec (d : Fin 256 → EReal) : IsFirst d (amin d) := (exists_isFirst d).choose_spec

theorem amin_eq {d : Fin 256 → EReal} {j : Fin 256} (h : IsFirst d j) : amin d = j := (amin_spec d).unique h

/-- The codeword nearest to a row. -/
def near (e : Fin 256 → Fin 32 → EReal) (r : Fin 32 → EReal) : Fin 32 → EReal := e (amin (dist e r))

/-- What a level passes on: the row plus its difference to the codeword. -/
def pass (e : Fin 256 → Fin 32 → EReal) (r : Fin 32 → EReal) : Fin 32 → EReal := fun k => r k + (near e r k - r k)

/-- The residual after a level. -/
def rest (e : Fin 256 → Fin 32 → EReal) (r : Fin 32 → EReal) : Fin 32 → EReal := fun k => r k - pass e r k

/-- The squared error of a level at one row. -/
def err (e : Fin 256 → Fin 32 → EReal) (r : Fin 32 → EReal) : EReal := ∑ k, (near e r k - r k) * (near e r k - r k)

/-- An extended real that is a real number. -/
def IsFin (x : EReal) : Prop := x ≠ ⊤ ∧ x ≠ ⊥

theorem isFin_coe (x : ℝ) : IsFin (x : EReal) := ⟨EReal.coe_ne_top x, EReal.coe_ne_bot x⟩

theorem IsFin.exists {x : EReal} (h : IsFin x) : ∃ r : ℝ, x = r := ⟨x.toReal, (EReal.coe_toReal h.1 h.2).symm⟩

theorem IsFin.add {x y : EReal} (hx : IsFin x) (hy : IsFin y) : IsFin (x + y) := by
  obtain ⟨a, rfl⟩ := hx.exists; obtain ⟨b, rfl⟩ := hy.exists; rw [← EReal.coe_add]; exact isFin_coe _

theorem IsFin.sub {x y : EReal} (hx : IsFin x) (hy : IsFin y) : IsFin (x - y) := by
  obtain ⟨a, rfl⟩ := hx.exists; obtain ⟨b, rfl⟩ := hy.exists; rw [← EReal.coe_sub]; exact isFin_coe _

theorem IsFin.mul {x y : EReal} (hx : IsFin x) (hy : IsFin y) : IsFin (x * y) := by
  obtain ⟨a, rfl⟩ := hx.exists; obtain ⟨b, rfl⟩ := hy.exists; rw [← EReal.coe_mul]; exact isFin_coe _

theorem IsFin.max {x y : EReal} (hx : IsFin x) (hy : IsFin y) : IsFin (max x y) := by
  rcases max_choice x y with h | h <;> rw [h] <;> assumption

theorem isFin_zero : IsFin 0 := isFin_coe 0

theorem IsFin.sum {ι : Type} (s : Finset ι) (f : ι → EReal) (h : ∀ i ∈ s, IsFin (f i)) : IsFin (∑ i ∈ s, f i) := by
  classical
  induction s using Finset.induction_on with
  | empty => exact isFin_zero
  | insert a s ha ih =>
    rw [Finset.sum_insert ha]
    exact (h a (Finset.mem_insert_self a s)).add (ih fun i hi => h i (Finset.mem_insert_of_mem hi))

theorem isFin_lin {k n : ℕ} {w : Fin k → Fin n → EReal} {b : Fin n → EReal} {r : Fin k → EReal} (hw : ∀ i j, IsFin (w i j))
    (hb : ∀ j, IsFin (b j)) (hr : ∀ i, IsFin (r i)) (j : Fin n) : IsFin (lin w b r j) :=
  (IsFin.sum _ _ fun i _ => (hr i).mul (hw i j)).add (hb j)

theorem isFin_relu {n : ℕ} {r : Fin n → EReal} (hr : ∀ i, IsFin (r i)) (j : Fin n) : IsFin (relu r j) :=
  (hr j).max isFin_zero

theorem isFin_near {e : Fin 256 → Fin 32 → EReal} {r : Fin 32 → EReal} (he : ∀ j k, IsFin (e j k)) (k : Fin 32) :
    IsFin (near e r k) := he _ k

theorem isFin_pass {e : Fin 256 → Fin 32 → EReal} {r : Fin 32 → EReal} (he : ∀ j k, IsFin (e j k)) (hr : ∀ k, IsFin (r k))
    (k : Fin 32) : IsFin (pass e r k) := (hr k).add ((isFin_near he k).sub (hr k))

theorem isFin_rest {e : Fin 256 → Fin 32 → EReal} {r : Fin 32 → EReal} (he : ∀ j k, IsFin (e j k)) (hr : ∀ k, IsFin (r k))
    (k : Fin 32) : IsFin (rest e r k) := (hr k).sub (isFin_pass he hr k)

theorem isFin_err {e : Fin 256 → Fin 32 → EReal} {r : Fin 32 → EReal} (he : ∀ j k, IsFin (e j k)) (hr : ∀ k, IsFin (r k)) :
    IsFin (err e r) := IsFin.sum _ _ fun k _ => ((isFin_near he k).sub (hr k)).mul ((isFin_near he k).sub (hr k))

/-- A finite sum times a real number, term by term. -/
theorem sum_mul_coe {ι : Type} (s : Finset ι) (f : ι → EReal) (c : ℝ) (h : ∀ i ∈ s, IsFin (f i)) :
    (∑ i ∈ s, f i) * (c : EReal) = ∑ i ∈ s, f i * (c : EReal) := by
  classical
  induction s using Finset.induction_on with
  | empty => simp
  | insert a s ha ih =>
    have h1 := h a (Finset.mem_insert_self a s)
    have h2 := IsFin.sum s f fun i hi => h i (Finset.mem_insert_of_mem hi)
    rw [Finset.sum_insert ha, Finset.sum_insert ha, ← ih fun i hi => h i (Finset.mem_insert_of_mem hi)]
    obtain ⟨x, hx⟩ := h1.exists; obtain ⟨y, hy⟩ := h2.exists
    rw [hx, hy, ← EReal.coe_add, ← EReal.coe_mul, ← EReal.coe_mul, ← EReal.coe_mul, ← EReal.coe_add, add_mul]

/-- The distance with the factor minus two moved onto the codeword. -/
theorem dist_neg {e : Fin 256 → Fin 32 → EReal} {r : Fin 32 → EReal} (he : ∀ j k, IsFin (e j k)) (hr : ∀ k, IsFin (r k))
    (j : Fin 256) :
    ((∑ k, r k * r k) + ∑ k, e j k * e j k) + ∑ k, r k * (e j k * ((-2 : ℝ) : EReal)) = dist e r j := by
  have h : (∑ k, r k * (e j k * ((-2 : ℝ) : EReal))) = (∑ k, r k * e j k) * ((-2 : ℝ) : EReal) := by
    rw [sum_mul_coe _ _ _ fun k _ => (hr k).mul (he j k)]
    exact Finset.sum_congr rfl fun k _ => (mul_assoc _ _ _).symm
  unfold dist
  rw [h, sub_eq_add_neg]
  congr 1
  obtain ⟨y, hy⟩ := (IsFin.sum Finset.univ _ fun k _ => (hr k).mul (he j k)).exists
  rw [hy, show (2 : EReal) = ((2 : ℝ) : EReal) from rfl, ← EReal.coe_mul, ← EReal.coe_mul, ← EReal.coe_neg]
  congr 1; ring

/-- A one-hot combination of codewords is the codeword. -/
theorem sum_onehot (j : Fin 256) (f : Fin 256 → EReal) : ∑ k, (if k = j then (1 : EReal) else 0) * f k = f j := by
  rw [Finset.sum_eq_single j]
  · simp
  · intro k _ hk; simp [hk]
  · intro h; exact absurd (Finset.mem_univ j) h

end Cert.Quant

end
-- ==== Proof.KLevel.lean ====
module

public import proofs.«01_k».proof.Proof.KVal
public import proofs.«01_k».proof.Proof.Spec

@[expose] public section

set_option maxRecDepth 16384

noncomputable section

/-! One level of the kernel's quantiser as functions of its residual block and its part of the scratch; the four levels of
a grid point are these functions at four arguments. -/

namespace Cert.KernelIdeal.Body

open Cert.KernelIdeal Cert.KernelIdeal.Gen Idealize.ShloMosaic Idealize.ShloMosaic.TcCoe

variable {F : FTy → Type} [FloatOps F]

/-- The distances of a block's rows to the codewords. -/
def kd (r : FVec F S2048x32 .f32) (n : Vec F S1x256 .f32) (g : Vec F S1x256x32 .bf16) : FVec F S2048x256 .f32 :=
  addf (addf (broadcastTo S2048x256 (shapeCast S2048x1 (multiReduction .add [1] S2048 (mulf r r) 0x00000000#32 reduces_S2048x32_S2048 (.inl rfl) rfl) shapeCasts_S2048_S2048x1) broadcasts_S2048x1_S2048x256)
      (broadcastTo S2048x256 (shapeCast S1x256 (shapeCast S256 n shapeCasts_S1x256_S256) shapeCasts_S256_S1x256) broadcasts_S1x256_S2048x256))
    (matmul dot_S2048x32_S256x32_S2048x256_1_1_0_0_n_n none (truncf .bf16 r bitsLt_bf16_f32) (shapeCast S256x32 g shapeCasts_S1x256x32_S256x32) (constant S2048x256 .f32 0x00000000#32))

/-- The least distance of each row, along the row. -/
def km (d : FVec F S2048x256 .f32) : FVec F S2048x256 .f32 :=
  broadcastTo S2048x256 (shapeCast S2048x1 (multiReduction .minimumf [1] S2048 d 0x7F800000#32 reduces_S2048x256_S2048 (.inl rfl) rfl) shapeCasts_S2048_S2048x1) broadcasts_S2048x1_S2048x256

/-- The number of the first codeword at the least distance. -/
def ki (d : FVec F S2048x256 .f32) : FVec F S2048 .f32 :=
  multiReduction .minimumf [1] S2048 (select (cmpf .oeq d (km d)) (k0_pay18 (F := F)) (broadcast S2048x256 (Scalar.ofBits .f32 0x43800000#32))) 0x7F800000#32 reduces_S2048x256_S2048 (.inl rfl) rfl

/-- The one-hot rows of codeword numbers. -/
def ko (v : FVec F S2048 .f32) : FVec F S2048x256 .bf16 :=
  truncf .bf16 (sitofp .f32 (extui 32 (cmpf .oeq (k0_pay18 (F := F)) (broadcastTo S2048x256 (shapeCast S2048x1 v shapeCasts_S2048_S2048x1) broadcasts_S2048x1_S2048x256)) natLt_1_32)) bitsLt_bf16_f32

/-- The product of one-hot rows with one part of the codebook. -/
def kp (o : FVec F S2048x256 .bf16) (h : Vec F S1x256x32 .bf16) : FVec F S2048x32 .f32 :=
  matmul dot_S2048x256_S256x32_S2048x32_1_0_0_1_n_n none o (shapeCast S256x32 h shapeCasts_S1x256x32_S256x32) (constant S2048x32 .f32 0x00000000#32)

/-- The difference of the chosen codewords to the residuals, from the three parts of the codebook. -/
def kt (o : FVec F S2048x256 .bf16) (h m l : Vec F S1x256x32 .bf16) (r : FVec F S2048x32 .f32) : FVec F S2048x32 .f32 :=
  subf (addf (addf (kp o h) (kp o m)) (kp o l)) r

/-- The sum of squares of a block. -/
def kl (t : FVec F S2048x32 .f32) : F .f32 :=
  extractAt ![0, 0, 0] (shapeCast S1x1x1 (multiReduction .add [1, 2] S1 (shapeCast S1x2048x32 (mulf t t) shapeCasts_S2048x32_S1x2048x32) 0x00000000#32 reduces_S1x2048x32_S1 (.inl rfl) rfl) shapeCasts_S1_S1x1x1) inpos_S1x1x1_p0_0_0

/-- Codeword numbers as a column of words. -/
def kc (v : FVec F S2048 .f32) : IVec S2048x1 32 := shapeCast S2048x1 (fptosi 32 v) shapeCasts_S2048_S2048x1

/-- Level 0's distances. -/
def d0 (a : Ins F) : FVec F S2048x256 .f32 := kd (v37 a) (nrm0 a) (neg0 a)
/-- Level 0's differences. -/
def t0' (a : Ins F) : FVec F S2048x32 .f32 := kt (ko (ki (d0 a))) (hi0 a) (mid0 a) (lo0 a) (v37 a)
/-- Level 1's distances. -/
def d1 (a : Ins F) : FVec F S2048x256 .f32 := kd (v88 a) (nrm1 a) (neg1 a)
/-- Level 1's differences. -/
def t1' (a : Ins F) : FVec F S2048x32 .f32 := kt (ko (ki (d1 a))) (hi1 a) (mid1 a) (lo1 a) (v88 a)
/-- Level 2's distances. -/
def d2 (a : Ins F) : FVec F S2048x256 .f32 := kd (v140 a) (nrm2 a) (neg2 a)
/-- Level 2's differences. -/
def t2' (a : Ins F) : FVec F S2048x32 .f32 := kt (ko (ki (d2 a))) (hi2 a) (mid2 a) (lo2 a) (v140 a)
/-- Level 3's distances. -/
def d3 (a : Ins F) : FVec F S2048x256 .f32 := kd (v192 a) (nrm3 a) (neg3 a)
/-- Level 3's differences. -/
def t3' (a : Ins F) : FVec F S2048x32 .f32 := kt (ko (ki (d3 a))) (hi3 a) (mid3 a) (lo3 a) (v192 a)

theorem c0_eq (a : Ins F) : c0 a = kc (ki (d0 a)) := rfl
theorem c1_eq (a : Ins F) : c1 a = kc (ki (d1 a)) := rfl
theorem c2_eq (a : Ins F) : c2 a = kc (ki (d2 a)) := rfl
theorem c3_eq (a : Ins F) : c3 a = kc (ki (d3 a)) := rfl
theorem v88_eq (a : Ins F) : v88 a = subf (v37 a) (addf (v37 a) (t0' a)) := rfl
theorem v140_eq (a : Ins F) : v140 a = subf (v88 a) (addf (v88 a) (t1' a)) := rfl
theorem v192_eq (a : Ins F) : v192 a = subf (v140 a) (addf (v140 a) (t2' a)) := rfl
theorem v87_eq (a : Ins F) : v87 a = addf (v38 a) (addf (v37 a) (t0' a)) := rfl
theorem v139_eq (a : Ins F) : v139 a = addf (v87 a) (addf (v88 a) (t1' a)) := rfl
theorem v191_eq (a : Ins F) : v191 a = addf (v139 a) (addf (v140 a) (t2' a)) := rfl
theorem v85_eq (a : Ins F) : v85 a = Scalar.addf (Scalar.ofBits .f32 0x00000000#32) (kl (t0' a)) := rfl
theorem v137_eq (a : Ins F) : v137 a = Scalar.addf (v85 a) (kl (t1' a)) := rfl
theorem v189_eq (a : Ins F) : v189 a = Scalar.addf (v137 a) (kl (t2' a)) := rfl
theorem v241_eq (a : Ins F) : v241 a = Scalar.addf (v189 a) (kl (t3' a)) := rfl

end Cert.KernelIdeal.Body

end
-- ==== Proof.KRow.lean ====
module

public import proofs.«01_k».proof.Proof.KLevel

@[expose] public section

set_option maxRecDepth 16384

noncomputable section
namespace Cert.KernelIdeal.Body

open Cert.KernelIdeal Cert.KernelIdeal.Gen Idealize.ShloMosaic Idealize.ShloMosaic.TcCoe Cert.Quant

theorem ofBits_top : Ideal.ofBits FTy.f32 0x7F800000#32 = ⊤ := by
  simp [Ideal.ofBits, Ideal.ieee]

theorem ofBits_256 : Ideal.ofBits FTy.f32 0x43800000#32 = ((256 : ℝ) : EReal) := by
  simp [Ideal.ofBits, Ideal.ieee]; rw [← EReal.coe_mul]; norm_num

theorem sitofp_nat (n : ℕ) (h : n < 256) : FloatOps.sitofp (F := Ideal) FTy.f32 (BitVec.ofNat 32 n) = ((n : ℝ) : EReal) := by
  show (((BitVec.ofNat 32 n).toInt : ℝ) : EReal) = _
  have h1 : (BitVec.ofNat 32 n).toNat = n := by rw [BitVec.toNat_ofNat]; omega
  rw [BitVec.toInt_eq_toNat_of_lt (by rw [h1]; omega), h1]
  rfl

theorem fptosi_nat (n : ℕ) (h : n < 256) : FloatOps.fptosi (F := Ideal) (φ := FTy.f32) 32 ((n : ℝ) : EReal) = BitVec.ofNat 32 n := by
  show Ideal.fptosi 32 _ = _
  show BitVec.ofInt 32 (max (-(2 ^ (32 - 1) : Nat) : Int) (min ((2 ^ (32 - 1) : Nat) - 1) (if 0 ≤ (n : ℝ) then ⌊(n : ℝ)⌋ else ⌈(n : ℝ)⌉))) = _
  rw [if_pos (Nat.cast_nonneg n), Int.floor_natCast, min_eq_right (by norm_num <;> omega), max_eq_right (by norm_num <;> omega), BitVec.ofInt_natCast]

/-- The least of a row is its value at the first least place. -/
theorem fold_min (d : Fin 256 → EReal) : Finset.fold min ⊤ d Finset.univ = d (amin d) :=
  le_antisymm ((Finset.fold_min_le _).2 (Or.inr ⟨amin d, Finset.mem_univ _, le_refl _⟩))
    ((Finset.le_fold_min _).2 ⟨le_top, fun x _ => (amin_spec d).1 x⟩)

theorem kd_apply (r : FVec Ideal S2048x32 .f32) (n : Vec Ideal S1x256 .f32) (g : Vec Ideal S1x256x32 .bf16) (i : Fin 2048) (j : Fin 256) :
    kd r n g (ix2 i j) = ((∑ k : Fin 32, r (ix2 i k) * r (ix2 i k)) + n (ix2 0 j)) + ∑ k : Fin 32, r (ix2 i k) * g (ix3 0 j k) := by
  unfold kd
  pointwise

theorem km_apply (d : FVec Ideal S2048x256 .f32) (i : Fin 2048) (j : Fin 256) : km d (ix2 i j) = d (ix2 i (amin fun j => d (ix2 i j))) := by
  unfold km
  pointwise
  rw [ofBits_top]
  exact fold_min fun j => d (ix2 i j)

theorem ki_apply (d : FVec Ideal S2048x256 .f32) (i : Fin 2048)  : ki d (ix1 i) = (((amin fun j => d (ix2 i j)).val : ℝ) : EReal) := by
  unfold ki
  pointwise [k0_pay18]
  simp only [km_apply, ofBits_top, ofBits_256, sitofp_nat _ (Fin.isLt _)]
  have hs := amin_spec fun j => d (ix2 i j)
  generalize (amin fun j => d (ix2 i j)) = q at hs ⊢
  refine le_antisymm ((Finset.fold_min_le _).2 (Or.inr ⟨q, Finset.mem_univ _, ?_⟩)) ((Finset.le_fold_min _).2 ⟨le_top, fun x _ => ?_⟩)
  · rw [if_pos rfl]
  · split
    · rename_i hx
      have : q ≤ x := by
        by_contra hlt
        exact absurd hx (ne_of_gt (hs.2 x (not_le.mp hlt)))
      exact EReal.coe_le_coe_iff.2 (by exact_mod_cast this)
    · exact EReal.coe_le_coe_iff.2 (by have := q.isLt; exact_mod_cast this.le)

theorem ko_apply (v : FVec Ideal S2048 .f32) (i : Fin 2048) (j q : Fin 256) (hv : v (ix1 i) = ((q.val : ℝ) : EReal)) :
    ko v (ix2 i j) = if j = q then 1 else 0 := by
  unfold ko
  pointwise [k0_pay18]
  rw [sitofp_nat _ j.isLt, hv]
  by_cases h : j = q
  · subst h; simp; exact (sitofp_nat 1 (by norm_num)).trans (by simp)
  · have hne : ¬ (((j.val : ℝ) : EReal) = ((q.val : ℝ) : EReal)) := fun he => h (Fin.ext (by exact_mod_cast EReal.coe_injective he))
    simp only [hne, h]; simp; exact (sitofp_nat 0 (by norm_num)).trans (by simp)

theorem kp_apply (o : FVec Ideal S2048x256 .bf16) (h : Vec Ideal S1x256x32 .bf16) (i : Fin 2048) (k : Fin 32)  : kp o h (ix2 i k) = ∑ j : Fin 256, o (ix2 i j) * h (ix3 0 j k) := by
  unfold kp
  pointwise

theorem kl_apply (t : FVec Ideal S2048x32 .f32)  : kl t = ∑ i : Fin 2048, ∑ k : Fin 32, t (ix2 i k) * t (ix2 i k) := by
  unfold kl
  pointwise

theorem kc_apply (v : FVec Ideal S2048 .f32) (i : Fin 2048)  : kc v (ix2 i 0) = FloatOps.fptosi 32 (v (ix1 i)) := by
  unfold kc
  pointwise

end Cert.KernelIdeal.Body

end
-- ==== Proof.Levels.lean ====
module

public import proofs.«01_k».proof.Proof.Spec

@[expose] public section

noncomputable section

/-! The whole network at one row: four affine layers with relu between them, and the quantiser's four levels. -/

namespace Cert.Quant

/-- Four affine layers with relu between them, at one row. -/
def mlp {n0 n1 n2 n3 n4 : ℕ} (w0 : Fin n0 → Fin n1 → EReal) (b0 : Fin n1 → EReal) (w1 : Fin n1 → Fin n2 → EReal) (b1 : Fin n2 → EReal)
    (w2 : Fin n2 → Fin n3 → EReal) (b2 : Fin n3 → EReal) (w3 : Fin n3 → Fin n4 → EReal) (b3 : Fin n4 → EReal) (x : Fin n0 → EReal) :
    Fin n4 → EReal :=
  lin w3 b3 (relu (lin w2 b2 (relu (lin w1 b1 (relu (lin w0 b0 x))))))

theorem isFin_mlp {n0 n1 n2 n3 n4 : ℕ} {w0 : Fin n0 → Fin n1 → EReal} {b0 : Fin n1 → EReal} {w1 : Fin n1 → Fin n2 → EReal} {b1 : Fin n2 → EReal}
    {w2 : Fin n2 → Fin n3 → EReal} {b2 : Fin n3 → EReal} {w3 : Fin n3 → Fin n4 → EReal} {b3 : Fin n4 → EReal} {x : Fin n0 → EReal}
    (h0 : ∀ i j, IsFin (w0 i j)) (g0 : ∀ j, IsFin (b0 j)) (h1 : ∀ i j, IsFin (w1 i j)) (g1 : ∀ j, IsFin (b1 j))
    (h2 : ∀ i j, IsFin (w2 i j)) (g2 : ∀ j, IsFin (b2 j)) (h3 : ∀ i j, IsFin (w3 i j)) (g3 : ∀ j, IsFin (b3 j))
    (hx : ∀ i, IsFin (x i)) (j : Fin n4) : IsFin (mlp w0 b0 w1 b1 w2 b2 w3 b3 x j) :=
  isFin_lin h3 g3 (isFin_relu (isFin_lin h2 g2 (isFin_relu (isFin_lin h1 g1 (isFin_relu (isFin_lin h0 g0 hx)))))) j

/-- The four codebooks. -/
abbrev Books := Fin 4 → Fin 256 → Fin 32 → EReal

/-- The residual before level 1. -/
def res1 (E : Books) (z : Fin 32 → EReal) : Fin 32 → EReal := rest (E 0) z
/-- The residual before level 2. -/
def res2 (E : Books) (z : Fin 32 → EReal) : Fin 32 → EReal := rest (E 1) (res1 E z)
/-- The residual before level 3. -/
def res3 (E : Books) (z : Fin 32 → EReal) : Fin 32 → EReal := rest (E 2) (res2 E z)

/-- The sum of what the four levels pass on. -/
def tot (E : Books) (z : Fin 32 → EReal) : Fin 32 → EReal := fun k =>
  (((0 + pass (E 0) z k) + pass (E 1) (res1 E z) k) + pass (E 2) (res2 E z) k) + pass (E 3) (res3 E z) k

/-- The codeword number of a row at a level. -/
def code (E : Books) (z : Fin 32 → EReal) : Fin 4 → Fin 256
  | 0 => amin (dist (E 0) z)
  | 1 => amin (dist (E 1) (res1 E z))
  | 2 => amin (dist (E 2) (res2 E z))
  | 3 => amin (dist (E 3) (res3 E z))

/-- The squared error of a row at a level. -/
def erl (E : Books) (z : Fin 32 → EReal) : Fin 4 → EReal
  | 0 => err (E 0) z
  | 1 => err (E 1) (res1 E z)
  | 2 => err (E 2) (res2 E z)
  | 3 => err (E 3) (res3 E z)

variable {E : Books} {z : Fin 32 → EReal}

theorem isFin_res1 (hE : ∀ l j k, IsFin (E l j k)) (hz : ∀ k, IsFin (z k)) : ∀ k, IsFin (res1 E z k) := isFin_rest (hE 0) hz

theorem isFin_res2 (hE : ∀ l j k, IsFin (E l j k)) (hz : ∀ k, IsFin (z k)) : ∀ k, IsFin (res2 E z k) :=
  isFin_rest (hE 1) (isFin_res1 hE hz)

theorem isFin_res3 (hE : ∀ l j k, IsFin (E l j k)) (hz : ∀ k, IsFin (z k)) : ∀ k, IsFin (res3 E z k) :=
  isFin_rest (hE 2) (isFin_res2 hE hz)

theorem isFin_erl (hE : ∀ l j k, IsFin (E l j k)) (hz : ∀ k, IsFin (z k)) : ∀ l, IsFin (erl E z l)
  | 0 => isFin_err (hE 0) hz
  | 1 => isFin_err (hE 1) (isFin_res1 hE hz)
  | 2 => isFin_err (hE 2) (isFin_res2 hE hz)
  | 3 => isFin_err (hE 3) (isFin_res3 hE hz)

end Cert.Quant

end
-- ==== Proof.KPoint.lean ====
module

public import proofs.«01_k».proof.Proof.KRow
public import proofs.«01_k».proof.Proof.Levels

@[expose] public section

set_option maxRecDepth 16384

noncomputable section

/-! What a grid point of the idealized kernel computes at each of its rows, from a row's data and the codebooks. -/

namespace Cert.KernelIdeal.Body

open Cert.KernelIdeal Cert.KernelIdeal.Gen Cert.Quant Idealize.ShloMosaic Idealize.ShloMosaic.TcCoe

/-- One level's part of the scratch holds codebook `e`: its high part is `e`, the other two parts vanish, and with it are
`e` times minus two and the squared norms. -/
structure Holds (e : Fin 256 → Fin 32 → EReal) (h m l g : Vec Ideal S1x256x32 .bf16) (n : Vec Ideal S1x256 .f32) : Prop where
  fin : ∀ j k, IsFin (e j k)
  hi : ∀ j k, h (ix3 0 j k) = e j k
  mid : ∀ j k, m (ix3 0 j k) = 0
  lo : ∀ j k, l (ix3 0 j k) = 0
  neg : ∀ j k, g (ix3 0 j k) = e j k * ((-2 : ℝ) : EReal)
  nrm : ∀ j, n (ix2 0 j) = ∑ k, e j k * e j k

variable {e : Fin 256 → Fin 32 → EReal} {h m l g : Vec Ideal S1x256x32 .bf16} {n : Vec Ideal S1x256 .f32}
variable {r : FVec Ideal S2048x32 .f32} {i : Fin 2048} {z : Fin 32 → EReal}

theorem Holds.dist (H : Holds e h m l g n) (hr : ∀ k, r (ix2 i k) = z k) (hz : ∀ k, IsFin (z k)) :
    (fun j => kd r n g (ix2 i j)) = Quant.dist e z := by
  funext j
  rw [kd_apply, H.nrm]
  simp only [hr, H.neg]
  exact dist_neg H.fin hz j

theorem Holds.num (H : Holds e h m l g n) (hr : ∀ k, r (ix2 i k) = z k) (hz : ∀ k, IsFin (z k)) :
    ki (kd r n g) (ix1 i) = (((amin (Quant.dist e z)).val : ℝ) : EReal) := by
  rw [ki_apply, H.dist hr hz]

theorem Holds.col (H : Holds e h m l g n) (hr : ∀ k, r (ix2 i k) = z k) (hz : ∀ k, IsFin (z k)) :
    kc (ki (kd r n g)) (ix2 i 0) = BitVec.ofNat 32 (amin (Quant.dist e z)).val := by
  rw [kc_apply, H.num hr hz, fptosi_nat _ (Fin.isLt _)]

theorem Holds.diff (H : Holds e h m l g n) (hr : ∀ k, r (ix2 i k) = z k) (hz : ∀ k, IsFin (z k)) (k : Fin 32) :
    kt (ko (ki (kd r n g))) h m l r (ix2 i k) = near e z k - z k := by
  have hp : ∀ (f : Fin 256 → Fin 32 → EReal) (b : Vec Ideal S1x256x32 .bf16), (∀ j k, b (ix3 0 j k) = f j k) →
      kp (ko (ki (kd r n g))) b (ix2 i k) = f (amin (Quant.dist e z)) k := by
    intro f b hb
    rw [kp_apply]
    simp only [ko_apply _ i _ _ (H.num hr hz), hb]
    exact sum_onehot _ fun j => f j k
  show ((kp (ko (ki (kd r n g))) h (ix2 i k) + kp (ko (ki (kd r n g))) m (ix2 i k)) + kp (ko (ki (kd r n g))) l (ix2 i k)) - r (ix2 i k) = _
  rw [hp _ h H.hi, hp (fun _ _ => 0) m H.mid, hp (fun _ _ => 0) l H.lo, hr, add_zero, add_zero]
  rfl

theorem Holds.err (H : Holds e h m l g n) (hr : ∀ k, r (ix2 i k) = z k) (hz : ∀ k, IsFin (z k)) :
    (∑ k, kt (ko (ki (kd r n g))) h m l r (ix2 i k) * kt (ko (ki (kd r n g))) h m l r (ix2 i k)) = Quant.err e z := by
  simp only [H.diff hr hz]; rfl

/-- A bias row laid out as a matrix of one row. -/
def brow {n : ℕ} (b : (⟨2, ![1, n]⟩ : Shape).Idx → EReal) : Fin n → EReal := fun j => b (ix2 0 j)

/-- The scratch of grid point inputs `a` holds the codebooks `E`. -/
structure Scr (a : Ins Ideal) (E : Books) : Prop where
  l0 : Holds (E 0) (hi0 a) (mid0 a) (lo0 a) (neg0 a) (nrm0 a)
  l1 : Holds (E 1) (hi1 a) (mid1 a) (lo1 a) (neg1 a) (nrm1 a)
  l2 : Holds (E 2) (hi2 a) (mid2 a) (lo2 a) (neg2 a) (nrm2 a)
  l3 : Holds (E 3) (hi3 a) (mid3 a) (lo3 a) (neg3 a) (nrm3 a)

theorem v37_row (a : Ins Ideal) (i : Fin 2048) (k : Fin 32) :
    v37 a (ix2 i k) = mlp (fun i j => a.s0 (ix2 i j)) (brow a.b0) (fun i j => a.s1 (ix2 i j)) (brow a.b1) (fun i j => a.s2 (ix2 i j)) (brow a.b2)
      (fun i j => a.s3 (ix2 i j)) (brow a.b3) (fun j => a.x (ix2 i j)) k := by
  unfold v37 v32 mlp lin relu brow
  pointwise [k0_pay16, k0_pay15]

/-- The sum of the four levels' passed rows. -/
def vq (a : Ins Ideal) : FVec Ideal S2048x32 .f32 := addf (v191 a) (addf (v192 a) (t3' a))

/-- The decoder's block from its first input. -/
def dec (v243 : FVec Ideal S2048x32 .f32) (a : Ins Ideal) : FVec Ideal S2048x768 .f32 :=
  k0_pay1 (matmul (φ₂ := .bf16) dot_S2048x256_S256x512_S2048x512_1_0_0_1_n_n none (truncf .bf16 (maximumf (addf (matmul (φ₂ := .bf16) dot_S2048x128_S128x256_S2048x256_1_0_0_1_n_n none (truncf .bf16 (maximumf (addf (matmul (φ₂ := .bf16) dot_S2048x32_S32x128_S2048x128_1_0_0_1_n_n none (truncf .bf16 v243 bitsLt_bf16_f32) a.s4 (constant S2048x128 .f32 0x00000000#32))
    (broadcastTo S2048x128 (shapeCast S1x128 a.b4 shapeCasts_S1x128_S1x128) broadcasts_S1x128_S2048x128)) (broadcast S2048x128 (Scalar.ofBits .f32 0x00000000#32))) bitsLt_bf16_f32) a.s5 (constant S2048x256 .f32 0x00000000#32))
    (broadcastTo S2048x256 (shapeCast S1x256 a.b5 shapeCasts_S1x256_S1x256) broadcasts_S1x256_S2048x256)) (broadcast S2048x256 (Scalar.ofBits .f32 0x00000000#32))) bitsLt_bf16_f32) a.s6 (constant S2048x512 .f32 0x00000000#32)) a.b6 a.s7 a.b7

theorem outB_eq (a : Ins Ideal) : outB a = dec (vq a) a := rfl

theorem dec_row (v : FVec Ideal S2048x32 .f32) (a : Ins Ideal) (i : Fin 2048) (k : Fin 768) :
    dec v a (ix2 i k) = mlp (fun i j => a.s4 (ix2 i j)) (brow a.b4) (fun i j => a.s5 (ix2 i j)) (brow a.b5) (fun i j => a.s6 (ix2 i j)) (brow a.b6)
      (fun i j => a.s7 (ix2 i j)) (brow a.b7) (fun j => v (ix2 i j)) k := by
  unfold dec mlp lin relu brow
  pointwise [k0_pay1]

variable {a : Ins Ideal} {E : Books}

theorem r1_row (H : Scr a E) (hz : ∀ k, IsFin (z k)) (hr : ∀ k, v37 a (ix2 i k) = z k) (k : Fin 32) : v88 a (ix2 i k) = res1 E z k := by
  rw [v88_eq]
  show v37 a (ix2 i k) - (v37 a (ix2 i k) + t0' a (ix2 i k)) = _
  rw [show t0' a (ix2 i k) = near (E 0) z k - z k from H.l0.diff hr hz k, hr]; rfl

theorem r2_row (H : Scr a E) (hE : ∀ l j k, IsFin (E l j k)) (hz : ∀ k, IsFin (z k)) (hr : ∀ k, v37 a (ix2 i k) = z k) (k : Fin 32) :
    v140 a (ix2 i k) = res2 E z k := by
  rw [v140_eq]
  show v88 a (ix2 i k) - (v88 a (ix2 i k) + t1' a (ix2 i k)) = _
  rw [show t1' a (ix2 i k) = near (E 1) (res1 E z) k - res1 E z k from H.l1.diff (r1_row H hz hr) (isFin_res1 hE hz) k, r1_row H hz hr]; rfl

theorem r3_row (H : Scr a E) (hE : ∀ l j k, IsFin (E l j k)) (hz : ∀ k, IsFin (z k)) (hr : ∀ k, v37 a (ix2 i k) = z k) (k : Fin 32) :
    v192 a (ix2 i k) = res3 E z k := by
  rw [v192_eq]
  show v140 a (ix2 i k) - (v140 a (ix2 i k) + t2' a (ix2 i k)) = _
  rw [show t2' a (ix2 i k) = near (E 2) (res2 E z) k - res2 E z k from H.l2.diff (r2_row H hE hz hr) (isFin_res2 hE hz) k, r2_row H hE hz hr]; rfl

theorem vq_row (H : Scr a E) (hE : ∀ l j k, IsFin (E l j k)) (hz : ∀ k, IsFin (z k)) (hr : ∀ k, v37 a (ix2 i k) = z k) (k : Fin 32) :
    vq a (ix2 i k) = tot E z k := by
  unfold vq
  rw [v191_eq, v139_eq, v87_eq]
  show (((v38 a (ix2 i k) + (v37 a (ix2 i k) + t0' a (ix2 i k))) + (v88 a (ix2 i k) + t1' a (ix2 i k))) + (v140 a (ix2 i k) + t2' a (ix2 i k))) + (v192 a (ix2 i k) + t3' a (ix2 i k)) = _
  rw [show t0' a (ix2 i k) = near (E 0) z k - z k from H.l0.diff hr hz k,
    show t1' a (ix2 i k) = near (E 1) (res1 E z) k - res1 E z k from H.l1.diff (r1_row H hz hr) (isFin_res1 hE hz) k,
    show t2' a (ix2 i k) = near (E 2) (res2 E z) k - res2 E z k from H.l2.diff (r2_row H hE hz hr) (isFin_res2 hE hz) k,
    show t3' a (ix2 i k) = near (E 3) (res3 E z) k - res3 E z k from H.l3.diff (r3_row H hE hz hr) (isFin_res3 hE hz) k,
    hr, r1_row H hz hr, r2_row H hE hz hr, r3_row H hE hz hr, show v38 a (ix2 i k) = 0 by unfold v38; pointwise [k0_pay17]]
  rfl

/-- A block's codeword numbers. -/
theorem col_row (H : Scr a E) (hE : ∀ l j k, IsFin (E l j k)) (hz : ∀ k, IsFin (z k)) (hr : ∀ k, v37 a (ix2 i k) = z k) :
    c0 a (ix2 i 0) = BitVec.ofNat 32 (code E z 0).val ∧ c1 a (ix2 i 0) = BitVec.ofNat 32 (code E z 1).val ∧
      c2 a (ix2 i 0) = BitVec.ofNat 32 (code E z 2).val ∧ c3 a (ix2 i 0) = BitVec.ofNat 32 (code E z 3).val := by
  rw [c0_eq, c1_eq, c2_eq, c3_eq]
  refine ⟨?_, ?_, ?_, ?_⟩
  · exact H.l0.col hr hz
  · exact H.l1.col (r1_row H hz hr) (isFin_res1 hE hz)
  · exact H.l2.col (r2_row H hE hz hr) (isFin_res2 hE hz)
  · exact H.l3.col (r3_row H hE hz hr) (isFin_res3 hE hz)

/-- A block's loss is the four levels' squared errors, each over the block's rows. -/
theorem loss_block {Z : Fin 2048 → Fin 32 → EReal} (H : Scr a E) (hE : ∀ l j k, IsFin (E l j k)) (hz : ∀ i k, IsFin (Z i k))
    (hr : ∀ i k, v37 a (ix2 i k) = Z i k) :
    v241 a = (((∑ i, erl E (Z i) 0) + ∑ i, erl E (Z i) 1) + ∑ i, erl E (Z i) 2) + ∑ i, erl E (Z i) 3 := by
  rw [v241_eq, v189_eq, v137_eq, v85_eq, kl_apply, kl_apply, kl_apply, kl_apply]
  show (((Ideal.ofBits FTy.f32 0x00000000#32 + _) + _) + _) + _ = _
  rw [show Ideal.ofBits FTy.f32 0x00000000#32 = 0 by simp [Ideal.ofBits, Ideal.ieee], zero_add]
  congr 1
  · congr 1
    · congr 1
      · exact Finset.sum_congr rfl fun i _ => H.l0.err (hr i) (hz i)
      · exact Finset.sum_congr rfl fun i _ => H.l1.err (r1_row H (hz i) (hr i)) (isFin_res1 hE (hz i))
    · exact Finset.sum_congr rfl fun i _ => H.l2.err (r2_row H hE (hz i) (hr i)) (isFin_res2 hE (hz i))
  · exact Finset.sum_congr rfl fun i _ => H.l3.err (r3_row H hE (hz i) (hr i)) (isFin_res3 hE (hz i))

end Cert.KernelIdeal.Body

end
-- ==== Proof.KScr.lean ====
module

public import proofs.«01_k».proof.Proof.KPoint

@[expose] public section

set_option maxRecDepth 16384

noncomputable section

/-! What the first grid point of the idealized kernel leaves in the scratch, entry by entry. -/

namespace Cert.KernelIdeal.Body

open Cert.KernelIdeal Cert.KernelIdeal.Gen Cert.Quant Idealize.ShloMosaic Idealize.ShloMosaic.TcCoe

theorem pay3_apply (w : Vec Ideal S768x512 .f32) (i : Fin 768) (j : Fin 512) : k0_pay3 (F := Ideal) w (ix2 i j) = w (ix2 i j) := by
  unfold k0_pay3
  pointwise

theorem pay4_apply (w : Vec Ideal S512x256 .f32) (i : Fin 512) (j : Fin 256) : k0_pay4 (F := Ideal) w (ix2 i j) = w (ix2 i j) := by
  unfold k0_pay4
  pointwise

theorem pay5_apply (w : Vec Ideal S256x128 .f32) (i : Fin 256) (j : Fin 128) : k0_pay5 (F := Ideal) w (ix2 i j) = w (ix2 i j) := by
  unfold k0_pay5
  pointwise

theorem pay6_apply (w : Vec Ideal S128x32 .f32) (i : Fin 128) (j : Fin 32) : k0_pay6 (F := Ideal) w (ix2 i j) = w (ix2 i j) := by
  unfold k0_pay6
  pointwise

theorem pay7_apply (w : Vec Ideal S32x128 .f32) (i : Fin 32) (j : Fin 128) : k0_pay7 (F := Ideal) w (ix2 i j) = w (ix2 i j) := by
  unfold k0_pay7
  pointwise

theorem pay8_apply (w : Vec Ideal S128x256 .f32) (i : Fin 128) (j : Fin 256) : k0_pay8 (F := Ideal) w (ix2 i j) = w (ix2 i j) := by
  unfold k0_pay8
  pointwise

theorem pay9_apply (w : Vec Ideal S256x512 .f32) (i : Fin 256) (j : Fin 512) : k0_pay9 (F := Ideal) w (ix2 i j) = w (ix2 i j) := by
  unfold k0_pay9
  pointwise

theorem pay10_apply (w : Vec Ideal S512x768 .f32) (i : Fin 512) (j : Fin 768) : k0_pay10 (F := Ideal) w (ix2 i j) = w (ix2 i j) := by
  unfold k0_pay10
  pointwise

/-- A finite number minus itself. -/
theorem sub_self_fin {x : EReal} (h : IsFin x) : x - x = 0 := EReal.sub_self h.1 h.2

/-- The factor minus two. -/
theorem ofBits_neg2 : Ideal.ofBits FTy.bf16 49152#16 = ((-2 : ℝ) : EReal) := by
  simp [Ideal.ofBits, Ideal.ieee]
  rw [← EReal.coe_mul]
  norm_num

theorem pay12_hi (e : Vec Ideal S4x256x32 .f32) (l : Fin 4) (j : Fin 256) (k : Fin 32) (i : Fin 768) (hi : i.val = j.val) :
    k0_pay12 (F := Ideal) e (ix3 l i k) = e (ix3 l j k) := by
  have hj := j.isLt
  unfold k0_pay12
  pointwise [k0_pay11]
  rw [dif_pos (by omega)]
  exact congrArg (fun j => e (ix3 l j k)) (Fin.ext hi)

theorem pay12_mid (e : Vec Ideal S4x256x32 .f32) (he : ∀ l j k, IsFin (e (ix3 l j k))) (l : Fin 4) (k : Fin 32) (i : Fin 768)
    (h1 : 256 ≤ i.val) (h2 : i.val < 512) : k0_pay12 (F := Ideal) e (ix3 l i k) = 0 := by
  unfold k0_pay12
  pointwise [k0_pay11]
  rw [dif_neg (by omega), dif_pos (by omega)]
  exact sub_self_fin (he _ _ _)

theorem pay12_lo (e : Vec Ideal S4x256x32 .f32) (he : ∀ l j k, IsFin (e (ix3 l j k))) (l : Fin 4) (k : Fin 32) (i : Fin 768)
    (h1 : 512 ≤ i.val) : k0_pay12 (F := Ideal) e (ix3 l i k) = 0 := by
  have hi := i.isLt
  unfold k0_pay12
  pointwise [k0_pay11]
  rw [dif_neg (by omega), dif_neg (by omega)]
  exact sub_self_fin ((he _ _ _).sub (he _ _ _))

theorem pay13_apply (e : Vec Ideal S4x256x32 .f32) (l : Fin 4) (j : Fin 256) (k : Fin 32) :
    k0_pay13 (F := Ideal) e (ix3 l j k) = e (ix3 l j k) * ((-2 : ℝ) : EReal) := by
  unfold k0_pay13
  pointwise [k0_pay11]
  rw [ofBits_neg2]

theorem pay14_apply (e : Vec Ideal S4x256x32 .f32) (l : Fin 4) (j : Fin 256) :
    k0_pay14 (F := Ideal) e (ix2 l j) = ∑ k : Fin 32, e (ix3 l j k) * e (ix3 l j k) := by
  unfold k0_pay14
  pointwise

theorem hi0_apply (a : Ins Ideal) (j : Fin 256) (k : Fin 32) : hi0 a (ix3 0 j k) = a.s8 (ix3 0 ⟨0 + j.val, by omega⟩ k) := by
  unfold hi0
  pointwise

theorem mid0_apply (a : Ins Ideal) (j : Fin 256) (k : Fin 32) : mid0 a (ix3 0 j k) = a.s8 (ix3 0 ⟨256 + j.val, by omega⟩ k) := by
  unfold mid0
  pointwise

theorem lo0_apply (a : Ins Ideal) (j : Fin 256) (k : Fin 32) : lo0 a (ix3 0 j k) = a.s8 (ix3 0 ⟨512 + j.val, by omega⟩ k) := by
  unfold lo0
  pointwise

theorem neg0_apply (a : Ins Ideal) (j : Fin 256) (k : Fin 32) : neg0 a (ix3 0 j k) = a.s9 (ix3 0 j k) := by
  unfold neg0
  pointwise

theorem nrm0_apply (a : Ins Ideal) (j : Fin 256) : nrm0 a (ix2 0 j) = a.s10 (ix2 0 j) := by
  unfold nrm0
  pointwise

theorem hi1_apply (a : Ins Ideal) (j : Fin 256) (k : Fin 32) : hi1 a (ix3 0 j k) = a.s8 (ix3 1 ⟨0 + j.val, by omega⟩ k) := by
  unfold hi1
  pointwise

theorem mid1_apply (a : Ins Ideal) (j : Fin 256) (k : Fin 32) : mid1 a (ix3 0 j k) = a.s8 (ix3 1 ⟨256 + j.val, by omega⟩ k) := by
  unfold mid1
  pointwise

theorem lo1_apply (a : Ins Ideal) (j : Fin 256) (k : Fin 32) : lo1 a (ix3 0 j k) = a.s8 (ix3 1 ⟨512 + j.val, by omega⟩ k) := by
  unfold lo1
  pointwise

theorem neg1_apply (a : Ins Ideal) (j : Fin 256) (k : Fin 32) : neg1 a (ix3 0 j k) = a.s9 (ix3 1 j k) := by
  unfold neg1
  pointwise

theorem nrm1_apply (a : Ins Ideal) (j : Fin 256) : nrm1 a (ix2 0 j) = a.s10 (ix2 1 j) := by
  unfold nrm1
  pointwise

theorem hi2_apply (a : Ins Ideal) (j : Fin 256) (k : Fin 32) : hi2 a (ix3 0 j k) = a.s8 (ix3 2 ⟨0 + j.val, by omega⟩ k) := by
  unfold hi2
  pointwise

theorem mid2_apply (a : Ins Ideal) (j : Fin 256) (k : Fin 32) : mid2 a (ix3 0 j k) = a.s8 (ix3 2 ⟨256 + j.val, by omega⟩ k) := by
  unfold mid2
  pointwise

theorem lo2_apply (a : Ins Ideal) (j : Fin 256) (k : Fin 32) : lo2 a (ix3 0 j k) = a.s8 (ix3 2 ⟨512 + j.val, by omega⟩ k) := by
  unfold lo2
  pointwise

theorem neg2_apply (a : Ins Ideal) (j : Fin 256) (k : Fin 32) : neg2 a (ix3 0 j k) = a.s9 (ix3 2 j k) := by
  unfold neg2
  pointwise

theorem nrm2_apply (a : Ins Ideal) (j : Fin 256) : nrm2 a (ix2 0 j) = a.s10 (ix2 2 j) := by
  unfold nrm2
  pointwise

theorem hi3_apply (a : Ins Ideal) (j : Fin 256) (k : Fin 32) : hi3 a (ix3 0 j k) = a.s8 (ix3 3 ⟨0 + j.val, by omega⟩ k) := by
  unfold hi3
  pointwise

theorem mid3_apply (a : Ins Ideal) (j : Fin 256) (k : Fin 32) : mid3 a (ix3 0 j k) = a.s8 (ix3 3 ⟨256 + j.val, by omega⟩ k) := by
  unfold mid3
  pointwise

theorem lo3_apply (a : Ins Ideal) (j : Fin 256) (k : Fin 32) : lo3 a (ix3 0 j k) = a.s8 (ix3 3 ⟨512 + j.val, by omega⟩ k) := by
  unfold lo3
  pointwise

theorem neg3_apply (a : Ins Ideal) (j : Fin 256) (k : Fin 32) : neg3 a (ix3 0 j k) = a.s9 (ix3 3 j k) := by
  unfold neg3
  pointwise

theorem nrm3_apply (a : Ins Ideal) (j : Fin 256) : nrm3 a (ix2 0 j) = a.s10 (ix2 3 j) := by
  unfold nrm3
  pointwise

/-- Scratch filled from the codebook array holds the codebooks. -/
theorem scr_of (a : Ins Ideal) (e : Vec Ideal S4x256x32 .f32) (he : ∀ l j k, IsFin (e (ix3 l j k))) (h8 : a.s8 = k0_pay12 e)
    (h9 : a.s9 = k0_pay13 e) (h10 : a.s10 = k0_pay14 e) : Scr a (fun l j k => e (ix3 l j k)) where
  l0 := ⟨he 0, fun j k => by rw [hi0_apply, h8, pay12_hi e 0 j k _ (Nat.zero_add _)],
    fun j k => by rw [mid0_apply, h8]; exact pay12_mid e he 0 k _ (by show 256 ≤ 256 + j.val; omega) (by show 256 + j.val < 512; omega),
    fun j k => by rw [lo0_apply, h8]; exact pay12_lo e he 0 k _ (by show 512 ≤ 512 + j.val; omega),
    fun j k => by rw [neg0_apply, h9, pay13_apply], fun j => by rw [nrm0_apply, h10, pay14_apply]⟩
  l1 := ⟨he 1, fun j k => by rw [hi1_apply, h8, pay12_hi e 1 j k _ (Nat.zero_add _)],
    fun j k => by rw [mid1_apply, h8]; exact pay12_mid e he 1 k _ (by show 256 ≤ 256 + j.val; omega) (by show 256 + j.val < 512; omega),
    fun j k => by rw [lo1_apply, h8]; exact pay12_lo e he 1 k _ (by show 512 ≤ 512 + j.val; omega),
    fun j k => by rw [neg1_apply, h9, pay13_apply], fun j => by rw [nrm1_apply, h10, pay14_apply]⟩
  l2 := ⟨he 2, fun j k => by rw [hi2_apply, h8, pay12_hi e 2 j k _ (Nat.zero_add _)],
    fun j k => by rw [mid2_apply, h8]; exact pay12_mid e he 2 k _ (by show 256 ≤ 256 + j.val; omega) (by show 256 + j.val < 512; omega),
    fun j k => by rw [lo2_apply, h8]; exact pay12_lo e he 2 k _ (by show 512 ≤ 512 + j.val; omega),
    fun j k => by rw [neg2_apply, h9, pay13_apply], fun j => by rw [nrm2_apply, h10, pay14_apply]⟩
  l3 := ⟨he 3, fun j k => by rw [hi3_apply, h8, pay12_hi e 3 j k _ (Nat.zero_add _)],
    fun j k => by rw [mid3_apply, h8]; exact pay12_mid e he 3 k _ (by show 256 ≤ 256 + j.val; omega) (by show 256 + j.val < 512; omega),
    fun j k => by rw [lo3_apply, h8]; exact pay12_lo e he 3 k _ (by show 512 ≤ 512 + j.val; omega),
    fun j k => by rw [neg3_apply, h9, pay13_apply], fun j => by rw [nrm3_apply, h10, pay14_apply]⟩

end Cert.KernelIdeal.Body

end
-- ==== Proof.KBlk.lean ====
module

public import proofs.«01_k».proof.Proof.KScr
public import proofs.«01_k».proof.Proof.KFrame
public import Idealize.ShloMosaic.Lib.Pipeline.ValueKit
public import Idealize.ShloMosaic.Lib.Claim

@[expose] public section

set_option maxRecDepth 16384

noncomputable section

/-! What each grid point of the idealized kernel reads, as entries of the argument arrays, and with it each row's data. -/

namespace Cert.KernelIdeal.Body

open Cert.KernelIdeal Cert.KernelIdeal.Gen Cert.Quant Idealize.ShloMosaic Idealize.ShloMosaic.TcCoe

variable (m : (ℓ : Loc nD τ sig) → Buf (Elt Ideal) ℓ)

/-- Argument array 0 as launched. -/
def A0 (c : Dev nD) : FVec Ideal S16384x768 .f32 := m ((c : Thread nD τ).loc main_arg0)
/-- Argument array 1 as launched. -/
def A1 (c : Dev nD) : FVec Ideal S768x512 .f32 := m ((c : Thread nD τ).loc main_arg1)
/-- Argument array 2 as launched. -/
def A2 (c : Dev nD) : FVec Ideal S512 .f32 := m ((c : Thread nD τ).loc main_arg2)
/-- Argument array 3 as launched. -/
def A3 (c : Dev nD) : FVec Ideal S512x256 .f32 := m ((c : Thread nD τ).loc main_arg3)
/-- Argument array 4 as launched. -/
def A4 (c : Dev nD) : FVec Ideal S256 .f32 := m ((c : Thread nD τ).loc main_arg4)
/-- Argument array 5 as launched. -/
def A5 (c : Dev nD) : FVec Ideal S256x128 .f32 := m ((c : Thread nD τ).loc main_arg5)
/-- Argument array 6 as launched. -/
def A6 (c : Dev nD) : FVec Ideal S128 .f32 := m ((c : Thread nD τ).loc main_arg6)
/-- Argument array 7 as launched. -/
def A7 (c : Dev nD) : FVec Ideal S128x32 .f32 := m ((c : Thread nD τ).loc main_arg7)
/-- Argument array 8 as launched. -/
def A8 (c : Dev nD) : FVec Ideal S32 .f32 := m ((c : Thread nD τ).loc main_arg8)
/-- Argument array 9 as launched. -/
def A9 (c : Dev nD) : FVec Ideal S32x128 .f32 := m ((c : Thread nD τ).loc main_arg9)
/-- Argument array 10 as launched. -/
def A10 (c : Dev nD) : FVec Ideal S128 .f32 := m ((c : Thread nD τ).loc main_arg10)
/-- Argument array 11 as launched. -/
def A11 (c : Dev nD) : FVec Ideal S128x256 .f32 := m ((c : Thread nD τ).loc main_arg11)
/-- Argument array 12 as launched. -/
def A12 (c : Dev nD) : FVec Ideal S256 .f32 := m ((c : Thread nD τ).loc main_arg12)
/-- Argument array 13 as launched. -/
def A13 (c : Dev nD) : FVec Ideal S256x512 .f32 := m ((c : Thread nD τ).loc main_arg13)
/-- Argument array 14 as launched. -/
def A14 (c : Dev nD) : FVec Ideal S512 .f32 := m ((c : Thread nD τ).loc main_arg14)
/-- Argument array 15 as launched. -/
def A15 (c : Dev nD) : FVec Ideal S512x768 .f32 := m ((c : Thread nD τ).loc main_arg15)
/-- Argument array 16 as launched. -/
def A16 (c : Dev nD) : FVec Ideal S768 .f32 := m ((c : Thread nD τ).loc main_arg16)
/-- Argument array 17 as launched. -/
def A17 (c : Dev nD) : FVec Ideal S4x256x32 .f32 := m ((c : Thread nD τ).loc main_arg17)

/-- The block each window stages at a grid point. -/
theorem idx_val : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0, 0]
    ∧ win0_18.index t = ![t.val, 0] ∧ win0_19.index t = ![t.val, 0] ∧ win0_20.index t = ![0, 0] ∧ t.val < 8 :=
  (by decide +kernel : ∀ t : Fin grid0.N, _)

/-- The row of the whole array at row `i` of block `t`. -/
def row (t : Fin cfg0.N) (i : Fin 2048) : Fin 16384 :=
  ⟨2048 * t.val + i.val, by have h := idx_val t; have := i.isLt; omega⟩

theorem blk0 (c : Dev nD) (t : Fin cfg0.N) (i : Fin 2048) (k : Fin 768) :
    (iblk m c 0 t : Vec Ideal S2048x768 .f32) (ix2 i k) = A0 m c (ix2 (row t i) k) := by
  unfold A0 row
  blk_ext [iblk, V, idx_val t]

theorem blk17 (c : Dev nD) (t : Fin cfg0.N) : (iblk m c 17 t : Vec Ideal S4x256x32 .f32) = A17 m c := by
  unfold A17
  blk_ext! [iblk, V, idx_val t]

theorem blk1 (c : Dev nD) (t : Fin cfg0.N) : (iblk m c 1 t : Vec Ideal S768x512 .f32) = A1 m c := by
  unfold A1
  blk_ext! [iblk, V, idx_val t]

theorem V_v0 (c : Dev nD) : V m c main_v0 = shapeCast S1x512 (A2 m c) shapeCasts_S512_S1x512 := by
  show StableHlo.after (hostOps0 (F := Ideal)) (fun b => m (c, b)) (Proc.devRef .tc main_v0) = _
  entry_read
  rfl

theorem blk2 (c : Dev nD) (t : Fin cfg0.N) : brow (iblk m c 2 t : Vec Ideal S1x512 .f32) = fun j => A2 m c (ix1 j) := by
  have h : (iblk m c 2 t : Vec Ideal S1x512 .f32) = V m c main_v0 := by blk_ext! [iblk, idx_val t]
  rw [h, V_v0]
  funext j
  unfold brow
  pointwise

theorem blk3 (c : Dev nD) (t : Fin cfg0.N) : (iblk m c 3 t : Vec Ideal S512x256 .f32) = A3 m c := by
  unfold A3
  blk_ext! [iblk, V, idx_val t]

theorem V_v1 (c : Dev nD) : V m c main_v1 = shapeCast S1x256 (A4 m c) shapeCasts_S256_S1x256 := by
  show StableHlo.after (hostOps0 (F := Ideal)) (fun b => m (c, b)) (Proc.devRef .tc main_v1) = _
  entry_read
  rfl

theorem blk4 (c : Dev nD) (t : Fin cfg0.N) : brow (iblk m c 4 t : Vec Ideal S1x256 .f32) = fun j => A4 m c (ix1 j) := by
  have h : (iblk m c 4 t : Vec Ideal S1x256 .f32) = V m c main_v1 := by blk_ext! [iblk, idx_val t]
  rw [h, V_v1]
  funext j
  unfold brow
  pointwise

theorem blk5 (c : Dev nD) (t : Fin cfg0.N) : (iblk m c 5 t : Vec Ideal S256x128 .f32) = A5 m c := by
  unfold A5
  blk_ext! [iblk, V, idx_val t]

theorem V_v2 (c : Dev nD) : V m c main_v2 = shapeCast S1x128 (A6 m c) shapeCasts_S128_S1x128 := by
  show StableHlo.after (hostOps0 (F := Ideal)) (fun b => m (c, b)) (Proc.devRef .tc main_v2) = _
  entry_read
  rfl

theorem blk6 (c : Dev nD) (t : Fin cfg0.N) : brow (iblk m c 6 t : Vec Ideal S1x128 .f32) = fun j => A6 m c (ix1 j) := by
  have h : (iblk m c 6 t : Vec Ideal S1x128 .f32) = V m c main_v2 := by blk_ext! [iblk, idx_val t]
  rw [h, V_v2]
  funext j
  unfold brow
  pointwise

theorem blk7 (c : Dev nD) (t : Fin cfg0.N) : (iblk m c 7 t : Vec Ideal S128x32 .f32) = A7 m c := by
  unfold A7
  blk_ext! [iblk, V, idx_val t]

theorem V_v3 (c : Dev nD) : V m c main_v3 = shapeCast S1x32 (A8 m c) shapeCasts_S32_S1x32 := by
  show StableHlo.after (hostOps0 (F := Ideal)) (fun b => m (c, b)) (Proc.devRef .tc main_v3) = _
  entry_read
  rfl

theorem blk8 (c : Dev nD) (t : Fin cfg0.N) : brow (iblk m c 8 t : Vec Ideal S1x32 .f32) = fun j => A8 m c (ix1 j) := by
  have h : (iblk m c 8 t : Vec Ideal S1x32 .f32) = V m c main_v3 := by blk_ext! [iblk, idx_val t]
  rw [h, V_v3]
  funext j
  unfold brow
  pointwise

theorem blk9 (c : Dev nD) (t : Fin cfg0.N) : (iblk m c 9 t : Vec Ideal S32x128 .f32) = A9 m c := by
  unfold A9
  blk_ext! [iblk, V, idx_val t]

theorem V_v4 (c : Dev nD) : V m c main_v4 = shapeCast S1x128 (A10 m c) shapeCasts_S128_S1x128 := by
  show StableHlo.after (hostOps0 (F := Ideal)) (fun b => m (c, b)) (Proc.devRef .tc main_v4) = _
  entry_read
  rfl

theorem blk10 (c : Dev nD) (t : Fin cfg0.N) : brow (iblk m c 10 t : Vec Ideal S1x128 .f32) = fun j => A10 m c (ix1 j) := by
  have h : (iblk m c 10 t : Vec Ideal S1x128 .f32) = V m c main_v4 := by blk_ext! [iblk, idx_val t]
  rw [h, V_v4]
  funext j
  unfold brow
  pointwise

theorem blk11 (c : Dev nD) (t : Fin cfg0.N) : (iblk m c 11 t : Vec Ideal S128x256 .f32) = A11 m c := by
  unfold A11
  blk_ext! [iblk, V, idx_val t]

theorem V_v5 (c : Dev nD) : V m c main_v5 = shapeCast S1x256 (A12 m c) shapeCasts_S256_S1x256 := by
  show StableHlo.after (hostOps0 (F := Ideal)) (fun b => m (c, b)) (Proc.devRef .tc main_v5) = _
  entry_read
  rfl

theorem blk12 (c : Dev nD) (t : Fin cfg0.N) : brow (iblk m c 12 t : Vec Ideal S1x256 .f32) = fun j => A12 m c (ix1 j) := by
  have h : (iblk m c 12 t : Vec Ideal S1x256 .f32) = V m c main_v5 := by blk_ext! [iblk, idx_val t]
  rw [h, V_v5]
  funext j
  unfold brow
  pointwise

theorem blk13 (c : Dev nD) (t : Fin cfg0.N) : (iblk m c 13 t : Vec Ideal S256x512 .f32) = A13 m c := by
  unfold A13
  blk_ext! [iblk, V, idx_val t]

theorem V_v6 (c : Dev nD) : V m c main_v6 = shapeCast S1x512 (A14 m c) shapeCasts_S512_S1x512 := by
  show StableHlo.after (hostOps0 (F := Ideal)) (fun b => m (c, b)) (Proc.devRef .tc main_v6) = _
  entry_read
  rfl

theorem blk14 (c : Dev nD) (t : Fin cfg0.N) : brow (iblk m c 14 t : Vec Ideal S1x512 .f32) = fun j => A14 m c (ix1 j) := by
  have h : (iblk m c 14 t : Vec Ideal S1x512 .f32) = V m c main_v6 := by blk_ext! [iblk, idx_val t]
  rw [h, V_v6]
  funext j
  unfold brow
  pointwise

theorem blk15 (c : Dev nD) (t : Fin cfg0.N) : (iblk m c 15 t : Vec Ideal S512x768 .f32) = A15 m c := by
  unfold A15
  blk_ext! [iblk, V, idx_val t]

theorem V_v7 (c : Dev nD) : V m c main_v7 = shapeCast S1x768 (A16 m c) shapeCasts_S768_S1x768 := by
  show StableHlo.after (hostOps0 (F := Ideal)) (fun b => m (c, b)) (Proc.devRef .tc main_v7) = _
  entry_read
  rfl

theorem blk16 (c : Dev nD) (t : Fin cfg0.N) : brow (iblk m c 16 t : Vec Ideal S1x768 .f32) = fun j => A16 m c (ix1 j) := by
  have h : (iblk m c 16 t : Vec Ideal S1x768 .f32) = V m c main_v7 := by blk_ext! [iblk, idx_val t]
  rw [h, V_v7]
  funext j
  unfold brow
  pointwise

/-- The encoder's row. -/
def zK (c : Dev nD) (i : Fin 16384) : Fin 32 → EReal :=
  mlp (fun i j => A1 m c (ix2 i j)) (fun j => A2 m c (ix1 j)) (fun i j => A3 m c (ix2 i j)) (fun j => A4 m c (ix1 j)) (fun i j => A5 m c (ix2 i j)) (fun j => A6 m c (ix1 j)) (fun i j => A7 m c (ix2 i j)) (fun j => A8 m c (ix1 j))
    (fun j => A0 m c (ix2 i j))

/-- The codebooks. -/
def EK (c : Dev nD) : Books := fun l j k => A17 m c (ix3 l j k)

/-- The decoder at a row. -/
def decK (c : Dev nD) (v : Fin 32 → EReal) : Fin 768 → EReal :=
  mlp (fun i j => A9 m c (ix2 i j)) (fun j => A10 m c (ix1 j)) (fun i j => A11 m c (ix2 i j)) (fun j => A12 m c (ix1 j)) (fun i j => A13 m c (ix2 i j)) (fun j => A14 m c (ix1 j)) (fun i j => A15 m c (ix2 i j)) (fun j => A16 m c (ix1 j)) v

theorem s0_at (c : Dev nD) (t : Fin cfg0.N) (i : Fin 768) (j : Fin 512) : (insAt m c t).s0 (ix2 i j) = A1 m c (ix2 i j) :=
  (pay3_apply (iblk m c 1 t0) i j).trans (congrFun (blk1 m c t0) (ix2 i j))

theorem b0_at (c : Dev nD) (t : Fin cfg0.N) : brow (insAt m c t).b0 = fun j => A2 m c (ix1 j) := blk2 m c t

theorem s1_at (c : Dev nD) (t : Fin cfg0.N) (i : Fin 512) (j : Fin 256) : (insAt m c t).s1 (ix2 i j) = A3 m c (ix2 i j) :=
  (pay4_apply (iblk m c 3 t0) i j).trans (congrFun (blk3 m c t0) (ix2 i j))

theorem b1_at (c : Dev nD) (t : Fin cfg0.N) : brow (insAt m c t).b1 = fun j => A4 m c (ix1 j) := blk4 m c t

theorem s2_at (c : Dev nD) (t : Fin cfg0.N) (i : Fin 256) (j : Fin 128) : (insAt m c t).s2 (ix2 i j) = A5 m c (ix2 i j) :=
  (pay5_apply (iblk m c 5 t0) i j).trans (congrFun (blk5 m c t0) (ix2 i j))

theorem b2_at (c : Dev nD) (t : Fin cfg0.N) : brow (insAt m c t).b2 = fun j => A6 m c (ix1 j) := blk6 m c t

theorem s3_at (c : Dev nD) (t : Fin cfg0.N) (i : Fin 128) (j : Fin 32) : (insAt m c t).s3 (ix2 i j) = A7 m c (ix2 i j) :=
  (pay6_apply (iblk m c 7 t0) i j).trans (congrFun (blk7 m c t0) (ix2 i j))

theorem b3_at (c : Dev nD) (t : Fin cfg0.N) : brow (insAt m c t).b3 = fun j => A8 m c (ix1 j) := blk8 m c t

theorem s4_at (c : Dev nD) (t : Fin cfg0.N) (i : Fin 32) (j : Fin 128) : (insAt m c t).s4 (ix2 i j) = A9 m c (ix2 i j) :=
  (pay7_apply (iblk m c 9 t0) i j).trans (congrFun (blk9 m c t0) (ix2 i j))

theorem b4_at (c : Dev nD) (t : Fin cfg0.N) : brow (insAt m c t).b4 = fun j => A10 m c (ix1 j) := blk10 m c t

theorem s5_at (c : Dev nD) (t : Fin cfg0.N) (i : Fin 128) (j : Fin 256) : (insAt m c t).s5 (ix2 i j) = A11 m c (ix2 i j) :=
  (pay8_apply (iblk m c 11 t0) i j).trans (congrFun (blk11 m c t0) (ix2 i j))

theorem b5_at (c : Dev nD) (t : Fin cfg0.N) : brow (insAt m c t).b5 = fun j => A12 m c (ix1 j) := blk12 m c t

theorem s6_at (c : Dev nD) (t : Fin cfg0.N) (i : Fin 256) (j : Fin 512) : (insAt m c t).s6 (ix2 i j) = A13 m c (ix2 i j) :=
  (pay9_apply (iblk m c 13 t0) i j).trans (congrFun (blk13 m c t0) (ix2 i j))

theorem b6_at (c : Dev nD) (t : Fin cfg0.N) : brow (insAt m c t).b6 = fun j => A14 m c (ix1 j) := blk14 m c t

theorem s7_at (c : Dev nD) (t : Fin cfg0.N) (i : Fin 512) (j : Fin 768) : (insAt m c t).s7 (ix2 i j) = A15 m c (ix2 i j) :=
  (pay10_apply (iblk m c 15 t0) i j).trans (congrFun (blk15 m c t0) (ix2 i j))

theorem b7_at (c : Dev nD) (t : Fin cfg0.N) : brow (insAt m c t).b7 = fun j => A16 m c (ix1 j) := blk16 m c t

theorem z_at (c : Dev nD) (t : Fin cfg0.N) (i : Fin 2048) (k : Fin 32) : v37 (insAt m c t) (ix2 i k) = zK m c (row t i) k := by
  rw [v37_row]
  simp only [s0_at, s1_at, s2_at, s3_at, b0_at, b1_at, b2_at, b3_at]
  rw [show (fun j => (insAt m c t).x (ix2 i j)) = fun j => A0 m c (ix2 (row t i) j) from funext fun j => blk0 m c t i j]
  rfl

theorem dec_at (c : Dev nD) (t : Fin cfg0.N) (v : FVec Ideal S2048x32 .f32) (i : Fin 2048) (k : Fin 768) :
    dec v (insAt m c t) (ix2 i k) = decK m c (fun j => v (ix2 i j)) k := by
  rw [dec_row]
  simp only [s4_at, s5_at, s6_at, s7_at, b4_at, b5_at, b6_at, b7_at]
  rfl

/-- What the kernel's arguments are to be for the quantiser: the codebooks and the encoder's rows are finite. -/
structure Good (c : Dev nD) : Prop where
  E : ∀ l j k, IsFin (EK m c l j k)
  z : ∀ i k, IsFin (zK m c i k)

variable {m}

theorem scr_at {c : Dev nD} (H : Good m c) (t : Fin cfg0.N) : Scr (insAt m c t) (EK m c) :=
  scr_of (insAt m c t) (A17 m c) H.E (congrArg (k0_pay12 (F := Ideal)) (blk17 m c t0)) (congrArg (k0_pay13 (F := Ideal)) (blk17 m c t0))
    (congrArg (k0_pay14 (F := Ideal)) (blk17 m c t0))

theorem out_at {c : Dev nD} (H : Good m c) (t : Fin cfg0.N) (i : Fin 2048) (k : Fin 768) :
    outB (insAt m c t) (ix2 i k) = decK m c (tot (EK m c) (zK m c (row t i))) k := by
  rw [outB_eq, dec_at]
  exact congrArg (fun v => decK m c v k) (funext fun j => vq_row (scr_at H t) H.E (H.z _) (z_at m c t i) j)

theorem loss_at {c : Dev nD} (H : Good m c) (t : Fin cfg0.N) :
    v241 (insAt m c t) = (((∑ i, erl (EK m c) (zK m c (row t i)) 0) + ∑ i, erl (EK m c) (zK m c (row t i)) 1)
      + ∑ i, erl (EK m c) (zK m c (row t i)) 2) + ∑ i, erl (EK m c) (zK m c (row t i)) 3 :=
  loss_block (scr_at H t) H.E (fun i => H.z _) (z_at m c t)

end Cert.KernelIdeal.Body

end
-- ==== Proof.KArr.lean ====
module

public import proofs.«01_k».proof.Proof.KBlk

@[expose] public section

set_option maxRecDepth 16384

noncomputable section

/-! The idealized kernel's result arrays after its run, entry by entry. -/

namespace Cert.KernelIdeal.Body

open Cert.KernelIdeal Cert.KernelIdeal.Gen Cert.Quant Idealize.ShloMosaic Idealize.ShloMosaic.TcCoe

variable {m : (ℓ : Loc nD τ sig) → Buf (Elt Ideal) ℓ}

theorem idx_at {c : Dev nD} (H : Good m c) (t : Fin cfg0.N) (i : Fin 2048) (l : Fin 4) :
    idxB (insAt m c t) (ix2 i l) = BitVec.ofNat 32 (code (EK m c) (zK m c (row t i)) l).val := by
  obtain ⟨h0, h1, h2, h3⟩ := col_row (scr_at H t) H.E (H.z _) (z_at m c t i)
  unfold idxB idxPieces
  generalize c0 (insAt m c t) = x0 at *
  generalize c1 (insAt m c t) = x1 at *
  generalize c2 (insAt m c t) = x2 at *
  generalize c3 (insAt m c t) = x3 at *
  have hx : ∀ (l' : Fin 4) (x : S2048x1.Idx) (w : Vec Ideal S2048x1 .i32), w (ix2 i 0) = BitVec.ofNat 32 (code (EK m c) (zK m c (row t i)) l').val →
      (i : ℕ) = (x 0).val → (l : ℕ) = l'.val → w x = BitVec.ofNat 32 (code (EK m c) (zK m c (row t i)) l).val := by
    intro l' x w hw e0 e1
    rw [Fin.ext e1, ← hw]
    refine congrArg w ?_
    idx_vars x
    obtain rfl : i = x0 := Fin.ext e0
    obtain rfl : x1 = 0 := Subsingleton.elim _ _
    rfl
  canon_tiles x g
  · exact hx 3 x x3 h3 g0 (by show l.val = 3; change l.val = 3 + (x 1).val at g1; omega)
  · exact hx 2 x x2 h2 g0 (by show l.val = 2; change l.val = 2 + (x 1).val at g1; omega)
  · exact hx 1 x x1 h1 g0 (by show l.val = 1; change l.val = 1 + (x 1).val at g1; omega)
  · exact hx 0 x x0 h0 g0 (by show l.val = 0; change l.val = (x 1).val at g1; omega)

/-- The decoded rows as an array. -/
def outK (m : (ℓ : Loc nD τ sig) → Buf (Elt Ideal) ℓ) (c : Dev nD) : FVec Ideal S16384x768 .f32 :=
  fun y => decK m c (tot (EK m c) (zK m c (y 0))) (y 1)

/-- The codeword numbers as an array. -/
def idxK (m : (ℓ : Loc nD τ sig) → Buf (Elt Ideal) ℓ) (c : Dev nD) : IVec S16384x4 32 :=
  fun y => BitVec.ofNat 32 (code (EK m c) (zK m c (y 0)) (y 1)).val

theorem arr18 {c : Dev nD} (H : Good m c) : (dats m 0 c).arrAt 18 cfg0.N = outK m c := by
  refine (dats m 0 c).arrAt_eq_of_covers 18 (outK m c) (by decide +kernel) fun t _ y => ?_
  blk_simp
  rw [after0_18]
  revert y
  show ∀ y : S2048x768.Idx, outB (insAt m c t) y = outK m c ((win0_18.blk t).view.emb y)
  intro y
  have e0 : (win0_18.blk t).view.emb y 0 = row t (y 0) := Fin.ext (by show _ = 2048 * t.val + (y 0).val; blk_simp [idx_val t]; omega)
  have e1 : (win0_18.blk t).view.emb y 1 = y 1 := Fin.ext (by blk_simp [idx_val t])
  unfold outK
  rw [e0, e1]
  exact (congrArg (outB (insAt m c t)) (eq_ix2 y)).trans (out_at H t (y 0) (y 1))

theorem arr19 {c : Dev nD} (H : Good m c) : (dats m 0 c).arrAt 19 cfg0.N = idxK m c := by
  refine (dats m 0 c).arrAt_eq_of_covers 19 (idxK m c) (by decide +kernel) fun t _ y => ?_
  blk_simp
  rw [after0_19]
  revert y
  show ∀ y : S2048x4.Idx, idxB (insAt m c t) y = idxK m c ((win0_19.blk t).view.emb y)
  intro y
  have e0 : (win0_19.blk t).view.emb y 0 = row t (y 0) := Fin.ext (by show _ = 2048 * t.val + (y 0).val; blk_simp [idx_val t]; omega)
  have e1 : (win0_19.blk t).view.emb y 1 = y 1 := Fin.ext (by blk_simp [idx_val t])
  unfold idxK
  rw [e0, e1]
  exact (congrArg (idxB (insAt m c t)) (eq_ix2 y)).trans (idx_at H t (y 0) (y 1))

/-- The last grid point. -/
def t7 : Fin cfg0.N := ⟨7, lt_of_lt_of_eq (by decide : 7 < 8) (N_0 : cfg0.N = 8).symm⟩

theorem arr20 (c : Dev nD) : (dats m 0 c).arrAt 20 cfg0.N = fun _ => lossW m c t7.val t7.isLt := by
  refine (dats m 0 c).arrAt_eq_of_after_last 20 t7 (by decide +kernel) _ fun j => ?_
  blk_simp
  rw [after0_20]

end Cert.KernelIdeal.Body

end
-- ==== Proof.KLoss.lean ====
module

public import proofs.«01_k».proof.Proof.KBlk

@[expose] public section

set_option maxRecDepth 16384

noncomputable section

/-! The loss word the idealized kernel leaves after its last grid point. -/

namespace Cert.KernelIdeal.Body

open Cert.KernelIdeal Cert.KernelIdeal.Gen Cert.Quant Idealize.ShloMosaic Idealize.ShloMosaic.TcCoe

variable {m : (ℓ : Loc nD τ sig) → Buf (Elt Ideal) ℓ}

theorem coord_val : ∀ t : Fin cfg0.N, (grid0.coords t 0).val = t.val := (by decide +kernel : ∀ t : Fin grid0.N, _)

/-- The loss word starts from zero at the first point. -/
theorem pay2_first (v p : EReal) : k0_pay2 (F := Ideal) 0#32 v p = v := by
  show (Ideal.ofBits FTy.f32 0x00000000#32 + v : EReal) = v
  rw [show Ideal.ofBits FTy.f32 0x00000000#32 = 0 by simp [Ideal.ofBits, Ideal.ieee], zero_add]

theorem pay2_mid (w : BitVec 32) (v p : EReal) (h0 : w ≠ 0#32) (h7 : w ≠ 7#32) : k0_pay2 (F := Ideal) w v p = p + v := by
  unfold k0_pay2
  have e0 : (w == 0#32) = false := by simpa using h0
  have e7 : (w == 7#32) = false := by simpa using h7
  simp [Scalar.select, Scalar.cmpi, IntOp.cmpi, e0, e7]

theorem pay2_last (v p : EReal) : k0_pay2 (F := Ideal) 7#32 v p = (p + v) * Ideal.ofBits FTy.f32 0x35200000#32 := rfl

/-- What point `n` adds to the loss word. -/
def part (m : (ℓ : Loc nD τ sig) → Buf (Elt Ideal) ℓ) (c : Dev nD) (n : ℕ) : EReal := if h : n < cfg0.N then v241 (insAt m c ⟨n, h⟩) else 0

theorem lossW_sum (c : Dev nD) : ∀ (n : ℕ) (hn : n < cfg0.N), n < 7 → lossW m c n hn = ∑ j ∈ Finset.range (n + 1), part m c j
  | 0, hn, _ => by
    rw [Finset.sum_range_one]
    unfold lossW lossB part
    rw [dif_pos hn, coord_val]
    exact pay2_first _ _
  | n + 1, hn, h7 => by
    rw [Finset.sum_range_succ, ← lossW_sum c n (Nat.lt_of_succ_lt hn) (by omega)]
    conv_lhs => unfold lossW
    unfold lossB part
    rw [dif_pos hn, coord_val]
    refine pay2_mid _ _ _ ?_ ?_
    · show BitVec.ofNat 32 (n + 1) ≠ 0#32
      intro h
      have := congrArg BitVec.toNat h
      simp at this
      omega
    · show BitVec.ofNat 32 (n + 1) ≠ 7#32
      intro h
      have := congrArg BitVec.toNat h
      simp at this
      omega

theorem lossW_last (c : Dev nD) (hn : 7 < cfg0.N) :
    lossW m c 7 hn = (∑ j ∈ Finset.range 8, part m c j) * Ideal.ofBits FTy.f32 0x35200000#32 := by
  rw [Finset.sum_range_succ, ← lossW_sum c 6 (Nat.lt_of_succ_lt hn) (by omega)]
  conv_lhs => unfold lossW
  unfold lossB part
  rw [dif_pos hn, coord_val]
  exact pay2_last _ _

/-- A sum over the rows, block by block. -/
theorem sum_blocks (g : Fin 16384 → EReal) :
    ∑ t : Fin 8, ∑ i : Fin 2048, g ⟨2048 * t.val + i.val, by omega⟩ = ∑ i, g i := by
  rw [← Fintype.sum_prod_type', ← Equiv.sum_comp (finProdFinEquiv (m := 8) (n := 2048)) g]
  refine Finset.sum_congr rfl fun p _ => congrArg g (Fin.ext ?_)
  show 2048 * p.1.val + p.2.val = p.2.val + 2048 * p.1.val
  omega

/-- Level `l`'s squared error over all rows. -/
def SK (m : (ℓ : Loc nD τ sig) → Buf (Elt Ideal) ℓ) (c : Dev nD) (l : Fin 4) : EReal := ∑ i, erl (EK m c) (zK m c i) l

theorem lossW_total {c : Dev nD} (H : Good m c) (hn : 7 < cfg0.N) :
    lossW m c 7 hn = (((SK m c 0 + SK m c 1) + SK m c 2) + SK m c 3) * Ideal.ofBits FTy.f32 0x35200000#32 := by
  rw [lossW_last c hn, Finset.sum_range]
  refine congrArg (fun u : EReal => u * Ideal.ofBits FTy.f32 0x35200000#32) ?_
  have h : ∀ t : Fin 8, part m c t.val = (((∑ i : Fin 2048, erl (EK m c) (zK m c ⟨2048 * t.val + i.val, by omega⟩) 0) + ∑ i : Fin 2048, erl (EK m c) (zK m c ⟨2048 * t.val + i.val, by omega⟩) 1)
      + ∑ i : Fin 2048, erl (EK m c) (zK m c ⟨2048 * t.val + i.val, by omega⟩) 2) + ∑ i : Fin 2048, erl (EK m c) (zK m c ⟨2048 * t.val + i.val, by omega⟩) 3 := by
    intro t
    have ht : t.val < cfg0.N := lt_of_lt_of_eq t.isLt (N_0 : cfg0.N = 8).symm
    unfold part
    rw [dif_pos ht]
    exact loss_at H ⟨t.val, ht⟩
  rw [Finset.sum_congr rfl fun t _ => h t, Finset.sum_add_distrib, Finset.sum_add_distrib, Finset.sum_add_distrib]
  unfold SK
  rw [← sum_blocks (fun i => erl (EK m c) (zK m c i) 0), ← sum_blocks (fun i => erl (EK m c) (zK m c i) 1),
    ← sum_blocks (fun i => erl (EK m c) (zK m c i) 2), ← sum_blocks (fun i => erl (EK m c) (zK m c i) 3)]

end Cert.KernelIdeal.Body

end
-- ==== Proof.KRes.lean ====
module

public import proofs.«01_k».proof.Proof.KArr
public import proofs.«01_k».proof.Proof.KLoss

@[expose] public section

set_option maxRecDepth 16384

noncomputable section

/-! The idealized kernel's run: its three results as functions of the arguments. -/

namespace Cert.KernelIdeal.Body

open Cert.KernelIdeal Cert.KernelIdeal.Gen Cert.Quant Idealize.ShloMosaic Idealize.ShloMosaic.TcCoe Idealize.SL.Sem

variable {m : (ℓ : Loc nD τ sig) → Buf (Elt Ideal) ℓ} (ρ : Dev nD → PrngReg)

/-- The loss as an array of rank zero. -/
def lossK (m : (ℓ : Loc nD τ sig) → Buf (Elt Ideal) ℓ) (c : Dev nD) : FVec Ideal S_ .f32 :=
  fun _ => (((SK m c 0 + SK m c 1) + SK m c 2) + SK m c 3) * Ideal.ofBits FTy.f32 0x35200000#32

/-- The scalar after the region is the loss word. -/
theorem tail_v9 {c : Dev nD} (H : Good m c) :
    Pipeline.afterTail₀ cfgs (dats m) 0 (V0 m) [hostOps1] c main_v9 = lossK m c := by
  unfold Pipeline.afterTail₀
  generalize hW : Pipeline.withArrays (cfgs 0).spec c (V0 m c) (fun w => (dats m 0 c).arrAt w (cfgs 0).N) = W
  have h20 : W (Proc.devRef .tc main_v8_2) = fun _ => lossW m c t7.val t7.isLt := by
    rw [← hW]
    exact (Pipeline.withArrays_arr spec0 (by decide) c (V0 m c) (fun w => (dats m 0 c).arrAt w (cfgs 0).N) 20).trans (arr20 c)
  show StableHlo.after (hostOps1 (F := Ideal)) W (Proc.devRef .tc main_v9) = _
  after_results
  rw [h20]
  funext p
  exact lossW_total H t7.isLt

/-- The three results of a run whose encoded rows and codebooks are real. -/
theorem results (H : ∀ c, Good m c) : θ_run defs (onTc (τ := τ) (main (F := Ideal))) ⟨m, fun _ => 0, ρ⟩ (fun r => ∀ c : Dev nD,
      r.2.mem ((c.tc : Thread nD τ).loc main_v8_0) = outK m c
      ∧ r.2.mem ((c.tc : Thread nD τ).loc main_v9) = lossK m c
      ∧ r.2.mem ((c.tc : Thread nD τ).loc main_v8_1) = idxK m c) :=
  (θ_run defs _ _).mono (fun _ h c => ⟨((h c).1 18).trans (arr18 (H c)),
    ((h c).2 main_v9 (Pipeline.mem_restRefs_of main_v9 (by decide) (by decide))).trans (tail_v9 (H c)),
    ((h c).1 19).trans (arr19 (H c))⟩) (run_main m ρ)

end Cert.KernelIdeal.Body

end
-- ==== Proof.RPick.lean ====
module

public import proofs.«01_k».proof.Proof.RVal
public import proofs.«01_k».proof.Proof.Levels
public import Idealize.ShloMosaic.PureOps.Ideal.Laws
public import Idealize.ShloMosaic.Lib.Routing.OpsSet
public import Idealize.ShloMosaic.Lib.ReduceAll
public import Idealize.ShloMosaic.Lib.StableHlo.Predicate

@[expose] public section

set_option maxRecDepth 16384

noncomputable section

/-! The reference's choice of a codeword: the index of the first least distance, and the codeword at an index. -/

namespace Cert.ReferenceIdeal.Steps

open Cert.ReferenceIdeal Cert.ReferenceIdeal.Gen Cert.Quant Idealize.ShloMosaic Idealize.ShloMosaic.TcCoe Idealize.ShloMosaic.StableHlo

/-- The order in which a pair of a distance and an index comes before another. -/
def Before (p q : EReal × BitVec 32) : Prop := p.1 < q.1 ∨ (p.1 = q.1 ∧ p.2.toNat ≤ q.2.toNat)

theorem Before.refl (p : EReal × BitVec 32) : Before p p := Or.inr ⟨rfl, le_refl _⟩

theorem Before.trans {p q r : EReal × BitVec 32} (h : Before p q) (g : Before q r) : Before p r := by
  rcases h with h | ⟨h, h'⟩ <;> rcases g with g | ⟨g, g'⟩
  · exact Or.inl (h.trans g)
  · exact Or.inl (g ▸ h)
  · exact Or.inl (h ▸ g)
  · exact Or.inr ⟨h.trans g, h'.trans g'⟩

/-- One step of the least's search keeps the pair that comes first. -/
theorem step_first (a b : EReal × BitVec 32) (ha : a.2.toNat < 256) (hb : b.2.toNat < 256) :
    (reducer_argmin_f32_i32 (F := Ideal) a b = a ∧ Before a b) ∨ (reducer_argmin_f32_i32 (F := Ideal) a b = b ∧ Before b a) := by
  obtain ⟨x, u⟩ := a; obtain ⟨y, v⟩ := b
  have hlt : IntOp.cmpi .slt u v = 1#1 ↔ u.toNat < v.toNat :=
    Predicate.slt_iff_toNat (lt_trans ha (by norm_num)) (lt_trans hb (by norm_num))
  have hs : reducer_argmin_f32_i32 (F := Ideal) (x, u) (y, v) = (if x < y then x else y, if x < y ∨ (x = y ∧ u.toNat < v.toNat) then u else v) := by
    rcases BitVec.eq_zero_or_eq_one (IntOp.cmpi .slt u v) with g | g
    · have h3 : ¬ u.toNat < v.toNat := fun h => by rw [hlt.2 h] at g; exact absurd g (by decide)
      by_cases h1 : x < y <;> by_cases h2 : x = y <;>
        simp [reducer_argmin_f32_i32, Scalar.select, FloatOps.cmpf, Ideal.cmp, IntOp.ori, IntOp.andi, h1, h2, h3, g]
    · have h3 : u.toNat < v.toNat := hlt.1 g
      by_cases h1 : x < y <;> by_cases h2 : x = y <;>
        simp [reducer_argmin_f32_i32, Scalar.select, FloatOps.cmpf, Ideal.cmp, IntOp.ori, IntOp.andi, h1, h2, h3, g]
  rw [hs]
  rcases lt_trichotomy x y with h | h | h
  · exact Or.inl ⟨by simp [h], Or.inl h⟩
  · subst h
    rcases lt_or_ge u.toNat v.toNat with g | g
    · exact Or.inl ⟨by simp [g], Or.inr ⟨rfl, g.le⟩⟩
    · exact Or.inr ⟨by simp [not_lt.2 g], Or.inr ⟨rfl, g⟩⟩
  · exact Or.inr ⟨by simp [not_lt.2 h.le, ne_of_gt h], Or.inl h⟩

/-- The search through a list ends at a pair of it, or the pair it began with, that comes before all of them. -/
theorem fold_first (L : List (EReal × BitVec 32)) (p : EReal × BitVec 32) (hp : p.2.toNat < 256) (hL : ∀ q ∈ L, q.2.toNat < 256) :
    L.foldl (reducer_argmin_f32_i32 (F := Ideal)) p ∈ p :: L ∧ ∀ q ∈ p :: L, Before (L.foldl (reducer_argmin_f32_i32 (F := Ideal)) p) q := by
  induction L generalizing p with
  | nil => exact ⟨List.mem_cons_self, fun q hq => by rw [List.mem_singleton.1 hq]; exact Before.refl _⟩
  | cons b L ih =>
    have hb := hL b List.mem_cons_self
    have hL' : ∀ q ∈ L, q.2.toNat < 256 := fun q hq => hL q (List.mem_cons_of_mem _ hq)
    rw [List.foldl_cons]
    rcases step_first p b hp hb with ⟨he, hB⟩ | ⟨he, hB⟩
    · rw [he]
      obtain ⟨h1, h2⟩ := ih p hp hL'
      refine ⟨by rcases List.mem_cons.1 h1 with h | h <;> simp [h], fun q hq => ?_⟩
      rcases List.mem_cons.1 hq with rfl | hq
      · exact h2 _ List.mem_cons_self
      · rcases List.mem_cons.1 hq with rfl | hq
        · exact (h2 p List.mem_cons_self).trans hB
        · exact h2 q (List.mem_cons_of_mem _ hq)
    · rw [he]
      obtain ⟨h1, h2⟩ := ih b hb hL'
      refine ⟨List.mem_cons_of_mem _ h1, fun q hq => ?_⟩
      rcases List.mem_cons.1 hq with rfl | hq
      · exact (h2 b List.mem_cons_self).trans hB
      · exact h2 q hq

theorem top_bits : Ideal.ofBits FTy.f32 0x7F800000#32 = ⊤ := by
  simp [Ideal.ofBits, Ideal.ieee]

theorem mem_fiber (d : FVec Ideal S16384x256 .f32) (i : Fin 16384) (p : EReal × BitVec 32) :
    p ∈ Host.argReduceFiber d (iotaInDim S16384x256 32 1) reducesTo_S16384x256_S16384_d1 (ix1 i) ↔
      ∃ j : Fin 256, p = (d (ix2 i j), BitVec.ofNat 32 j.val) := by
  unfold Host.argReduceFiber
  simp only [List.mem_map, List.mem_filter, List.mem_finRange, true_and, decide_eq_true_eq]
  constructor
  · rintro ⟨n, hn, rfl⟩
    generalize (Shape.rowMajor S16384x256).symm n = k at hn
    have h0 : k = ix2 i (k 1) := by
      funext a
      match a with
      | ⟨0, _⟩ =>
        have := congrArg (fun f => (f 0).val) hn
        exact Fin.ext ((Shape.ReducesTo.drop_apply_val_of_eq reducesTo_S16384x256_S16384_d1 k 0 0).symm.trans this)
      | ⟨1, _⟩ => rfl
    exact ⟨k 1, by rw [h0]; rfl⟩
  · rintro ⟨j, rfl⟩
    refine ⟨(Shape.rowMajor S16384x256) (ix2 i j), ?_, by rw [Equiv.symm_apply_apply]; rfl⟩
    rw [Equiv.symm_apply_apply]
    funext a
    match a with
    | ⟨0, _⟩ => exact Fin.ext (Shape.ReducesTo.drop_apply_val_of_eq reducesTo_S16384x256_S16384_d1 (ix2 i j) 0 0)

/-- The search's end for row `i` is the first least of the row. -/
theorem fold_amin (v : Fin 256 → EReal) (L : List (EReal × BitVec 32))
    (hm : ∀ p, p ∈ L ↔ ∃ j : Fin 256, p = (v j, BitVec.ofNat 32 j.val)) :
    (List.foldl (reducer_argmin_f32_i32 (F := Ideal)) (⊤, 0#32) L).2 = BitVec.ofNat 32 (amin v).val := by
  have hn : ∀ j : Fin 256, (BitVec.ofNat 32 j.val).toNat = j.val := fun j => by rw [BitVec.toNat_ofNat]; have := j.isLt; omega
  have h0 : ∀ q ∈ L, q.2.toNat < 256 := fun q hq => by
    obtain ⟨j, rfl⟩ := (hm q).1 hq
    show (BitVec.ofNat 32 j.val).toNat < 256
    rw [hn]; exact j.isLt
  obtain ⟨h1, h2⟩ := fold_first L (⊤, 0#32) (by show (0#32).toNat < 256; decide) h0
  generalize List.foldl (reducer_argmin_f32_i32 (F := Ideal)) (⊤, 0#32) L = p at h1 h2 ⊢
  have h3 : ∀ k : Fin 256, Before p (v k, BitVec.ofNat 32 k.val) := fun k => h2 _ (List.mem_cons_of_mem _ ((hm _).2 ⟨k, rfl⟩))
  rcases List.mem_cons.1 h1 with hp | hp
  · rw [hp] at h3 ⊢
    have h4 : ∀ k : Fin 256, v k = ⊤ := fun k => by
      rcases h3 k with h | ⟨h, -⟩
      · exact absurd h not_top_lt
      · exact h.symm
    have h5 : amin v = 0 := amin_eq ⟨fun k => by rw [h4 k, h4 0], fun k hk => absurd hk (by simp)⟩
    rw [h5]
    show 0#32 = BitVec.ofNat 32 0
    decide
  · obtain ⟨j, rfl⟩ := (hm p).1 hp
    have h5 : amin v = j := amin_eq ⟨fun k => by
      rcases h3 k with h | ⟨h, -⟩
      · exact le_of_lt h
      · exact le_of_eq h, fun k hk => by
      rcases h3 k with h | ⟨-, h⟩
      · exact h
      · have h' : (BitVec.ofNat 32 j.val).toNat ≤ (BitVec.ofNat 32 k.val).toNat := h
        rw [hn, hn] at h'
        exact absurd hk (not_lt.2 h')⟩
    rw [h5]

theorem argF_eq {F : FTy → Type} [FloatOps F] (d : FVec F S16384x256 .f32) :
    argF (F := F) d = fun j => (Host.argReduce reducer_argmin_f32_i32 d (iotaInDim S16384x256 32 1) (constant S_ .f32 0x7F800000#32) (constantI S_ 32 0#32) reducesTo_S16384x256_S16384_d1 h_S_ j).2 := by
  delta argF
  rfl

theorem arg_fold (d : FVec Ideal S16384x256 .f32) (j : S16384.Idx) :
    Host.argReduce (F := Ideal) (φ := .f32) reducer_argmin_f32_i32 d (iotaInDim S16384x256 32 1) (constant S_ .f32 0x7F800000#32) (constantI S_ 32 0#32) reducesTo_S16384x256_S16384_d1 h_S_ j
      = List.foldl (reducer_argmin_f32_i32 (F := Ideal)) (Ideal.ofBits FTy.f32 0x7F800000#32, 0#32) (Host.argReduceFiber d (iotaInDim S16384x256 32 1) reducesTo_S16384x256_S16384_d1 j) := by
  rw [Ideal.argReduce_eq_reduce2]
  exact Host.reduce2_eq_foldl_fiber _ _ _ _ _ _ _ _

theorem argF_apply (d : FVec Ideal S16384x256 .f32) (i : Fin 16384) :
    argF (F := Ideal) d (ix1 i) = BitVec.ofNat 32 (amin fun j => d (ix2 i j)).val := by
  refine (congrFun (argF_eq d) (ix1 i)).trans ((congrArg Prod.snd (arg_fold d (ix1 i))).trans ?_)
  rw [top_bits]
  exact fold_amin _ _ (mem_fiber d i)

/-- The index column that the lookup reads, where the index is not negative. -/
theorem wrapped (ix : IVec S16384 32) (i : Fin 16384) (u : Fin 1) (h : (ix (ix1 i)).toNat < 2 ^ 31) :
    (broadcastInDim S16384x1 ![0] bcast_S16384_S16384x1_0 (select ((cmpi .slt) ix (broadcastInDim S16384 ![] bcast_S_S16384 (constantI S_ 32 0#32))) (addi ix (broadcastInDim S16384 ![] bcast_S_S16384 (constantI S_ 32 256#32))) ix)) (ix2 i u) = ix (ix1 i) := by
  pointwise
  exact Routing.wrap_of_lt _ _ h

/-- A lookup at an index in range is the row at it. -/
theorem takeF_apply (e : FVec Ideal S256x32 .f32) (ix : IVec S16384 32) (i : Fin 16384) (k : Fin 32) (q : Fin 256)
    (h : ix (ix1 i) = BitVec.ofNat 32 q.val) (hall : ∀ i, ∃ q : Fin 256, ix (ix1 i) = BitVec.ofNat 32 q.val) :
    takeF (F := Ideal) e ix (ix2 i k) = e (ix2 q k) := by
  have hn : ∀ j : Fin 256, (BitVec.ofNat 32 j.val).toNat = j.val := fun j => by rw [BitVec.toNat_ofNat]; have := j.isLt; omega
  have hw : ∀ i (u : Fin 1), (broadcastInDim S16384x1 ![0] bcast_S16384_S16384x1_0 (select ((cmpi .slt) ix (broadcastInDim S16384 ![] bcast_S_S16384 (constantI S_ 32 0#32))) (addi ix (broadcastInDim S16384 ![] bcast_S_S16384 (constantI S_ 32 256#32))) ix)) (ix2 i u) = ix (ix1 i) := fun i u => by
    obtain ⟨q, hq⟩ := hall i
    exact wrapped ix i u (by rw [hq, hn]; have := q.isLt; omega)
  unfold takeF
  generalize (broadcastInDim S16384x1 ![0] bcast_S16384_S16384x1_0 (select ((cmpi .slt) ix (broadcastInDim S16384 ![] bcast_S_S16384 (constantI S_ 32 0#32))) (addi ix (broadcastInDim S16384 ![] bcast_S_S16384 (constantI S_ 32 256#32))) ix)) = w at hw ⊢
  have hm : ∀ j, Host.reduce IntOp.andi (andi ((cmpi .sge) w (broadcastInDim S16384x1 ![] bcast_S_S16384x1 (constantI S_ 32 0#32))) ((cmpi .sle) w (broadcastInDim S16384x1 ![0, 1] bcast_S1x1_S16384x1_0_1 (broadcastInDim S1x1 ![1] bcast_S1_S1x1_1 (constantI S1 32 255#32))))) (constantI S_ 1 1#1) reducesTo_S16384x1_S16384_d1 h_S_ j = 1#1 := fun j =>
    Host.reduce_andi_one _ _ _ _ j rfl fun n => by
      obtain ⟨a, u, rfl⟩ : ∃ (a : Fin 16384) (u : Fin 1), n = ix2 a u := ⟨n 0, n 1, by funext t; match t with | ⟨0, _⟩ => rfl | ⟨1, _⟩ => rfl⟩
      obtain ⟨q, hq⟩ := hall a
      have := q.isLt
      pointwise
      rw [hw, hq]
      have h1 : IntOp.cmpi .sge (BitVec.ofNat 32 q.val) 0#32 = 1#1 :=
        (Predicate.sge_iff_toNat (by rw [hn]; omega) (by decide)).2 (by simp)
      have h2 : IntOp.cmpi .sle (BitVec.ofNat 32 q.val) 255#32 = 1#1 :=
        (Predicate.sle_iff_toNat (by rw [hn]; omega) (by decide)).2 (by rw [hn]; show q.val ≤ 255; omega)
      rw [h1, h2]
      rfl
  have hg := Routing.gather_row gather_S256x32_S16384x1_S16384x32_1_0_n_n_0_1_132 rfl rfl rfl rfl rfl e w i k q ((hw i 0).trans h) (by norm_num)
  generalize Host.gather gather_S256x32_S16384x1_S16384x32_1_0_n_n_0_1_132 e w = G at hg ⊢
  generalize Host.reduce IntOp.andi _ (constantI S_ 1 1#1) reducesTo_S16384x1_S16384_d1 h_S_ = M at hm ⊢
  pointwise
  rw [hm]
  exact hg

end Cert.ReferenceIdeal.Steps

end
-- ==== Proof.RRow.lean ====
module

public import proofs.«01_k».proof.Proof.RPick

@[expose] public section

set_option maxRecDepth 16384

noncomputable section

/-! The reference's arrays at an index, over the extended reals. -/

namespace Cert.ReferenceIdeal.Steps

open Cert.ReferenceIdeal Cert.ReferenceIdeal.Gen Cert.Quant Idealize.ShloMosaic Idealize.ShloMosaic.TcCoe Idealize.ShloMosaic.StableHlo

theorem encF_apply (x : FVec Ideal S16384x768 .f32) (w0 : FVec Ideal S768x512 .f32) (b0 : FVec Ideal S512 .f32) (w1 : FVec Ideal S512x256 .f32) (b1 : FVec Ideal S256 .f32)
    (w2 : FVec Ideal S256x128 .f32) (b2 : FVec Ideal S128 .f32) (w3 : FVec Ideal S128x32 .f32) (b3 : FVec Ideal S32 .f32) (i : Fin 16384) (k : Fin 32) :
    encF (F := Ideal) x w0 b0 w1 b1 w2 b2 w3 b3 (ix2 i k) = mlp (fun i j => w0 (ix2 i j)) (fun j => b0 (ix1 j)) (fun i j => w1 (ix2 i j)) (fun j => b1 (ix1 j))
      (fun i j => w2 (ix2 i j)) (fun j => b2 (ix1 j)) (fun i j => w3 (ix2 i j)) (fun j => b3 (ix1 j)) (fun j => x (ix2 i j)) k := by
  unfold encF mlp lin relu
  pointwise

theorem decF_apply (z : FVec Ideal S16384x32 .f32) (w0 : FVec Ideal S32x128 .f32) (b0 : FVec Ideal S128 .f32) (w1 : FVec Ideal S128x256 .f32) (b1 : FVec Ideal S256 .f32)
    (w2 : FVec Ideal S256x512 .f32) (b2 : FVec Ideal S512 .f32) (w3 : FVec Ideal S512x768 .f32) (b3 : FVec Ideal S768 .f32) (i : Fin 16384) (k : Fin 768) :
    decF (F := Ideal) z w0 b0 w1 b1 w2 b2 w3 b3 (ix2 i k) = mlp (fun i j => w0 (ix2 i j)) (fun j => b0 (ix1 j)) (fun i j => w1 (ix2 i j)) (fun j => b1 (ix1 j))
      (fun i j => w2 (ix2 i j)) (fun j => b2 (ix1 j)) (fun i j => w3 (ix2 i j)) (fun j => b3 (ix1 j)) (fun j => z (ix2 i j)) k := by
  unfold decF mlp lin relu
  pointwise

theorem ofBits_2 : Ideal.ofBits FTy.f32 0x40000000#32 = 2 := by
  simp [Ideal.ofBits, Ideal.ieee]
  rw [← EReal.coe_mul]
  norm_num
  rfl

theorem distF_apply (r : FVec Ideal S16384x32 .f32) (e : FVec Ideal S256x32 .f32) (i : Fin 16384) (j : Fin 256) :
    distF (F := Ideal) r e (ix2 i j) = Quant.dist (fun j k => e (ix2 j k)) (fun k => r (ix2 i k)) j := by
  unfold distF Quant.dist
  pointwise
  rw [ofBits_2]

theorem book0_apply (cb : FVec Ideal S4x256x32 .f32) (j : Fin 256) (k : Fin 32) : book0 (F := Ideal) cb (ix2 j k) = cb (ix3 0 j k) := by
  unfold book0
  pointwise

theorem book1_apply (cb : FVec Ideal S4x256x32 .f32) (j : Fin 256) (k : Fin 32) : book1 (F := Ideal) cb (ix2 j k) = cb (ix3 1 j k) := by
  unfold book1
  pointwise

theorem book2_apply (cb : FVec Ideal S4x256x32 .f32) (j : Fin 256) (k : Fin 32) : book2 (F := Ideal) cb (ix2 j k) = cb (ix3 2 j k) := by
  unfold book2
  pointwise

theorem book3_apply (cb : FVec Ideal S4x256x32 .f32) (j : Fin 256) (k : Fin 32) : book3 (F := Ideal) cb (ix2 j k) = cb (ix3 3 j k) := by
  unfold book3
  pointwise

theorem lossF_apply (q r : FVec Ideal S16384x32 .f32) (p : S_.Idx) :
    lossF (F := Ideal) q r p = Ideal.div (∑ i, ∑ k : Fin 32, (q (ix2 i k) - r (ix2 i k)) * (q (ix2 i k) - r (ix2 i k))) (Ideal.ofBits FTy.f32 0x49000000#32)
      + Ideal.ofBits FTy.f32 0x3E800000#32 * Ideal.div (∑ i, ∑ k : Fin 32, (q (ix2 i k) - r (ix2 i k)) * (q (ix2 i k) - r (ix2 i k))) (Ideal.ofBits FTy.f32 0x49000000#32) := by
  unfold lossF
  pointwise

theorem meanF_apply (a b c d : FVec Ideal S_ .f32) (p : S_.Idx) :
    meanF (F := Ideal) a b c d p = Ideal.div (((a ix0 + b ix0) + c ix0) + d ix0) (Ideal.ofBits FTy.f32 0x40800000#32) := by
  unfold meanF cat4
  pointwise
  rw [Fin.sum_univ_four]
  rfl

theorem stackF_apply (a b c d : IVec S16384 32) (i : Fin 16384) :
    stackF (F := Ideal) a b c d (ix2 i 0) = a (ix1 i) ∧ stackF (F := Ideal) a b c d (ix2 i 1) = b (ix1 i)
      ∧ stackF (F := Ideal) a b c d (ix2 i 2) = c (ix1 i) ∧ stackF (F := Ideal) a b c d (ix2 i 3) = d (ix1 i) := by
  unfold stackF cols4
  refine ⟨?_, ?_, ?_, ?_⟩ <;> pointwise <;> rfl

section Level

variable {r : FVec Ideal S16384x32 .f32} {e : FVec Ideal S256x32 .f32} {z : Fin 16384 → Fin 32 → EReal} {E : Fin 256 → Fin 32 → EReal}
  (hr : ∀ i k, r (ix2 i k) = z i k) (he : ∀ j k, e (ix2 j k) = E j k)
include hr he

/-- The index a level picks for a row. -/
theorem pick_row (i : Fin 16384) : argF (F := Ideal) (distF r e) (ix1 i) = BitVec.ofNat 32 (amin (Quant.dist E (z i))).val := by
  rw [argF_apply]
  have h : (fun j => distF (F := Ideal) r e (ix2 i j)) = Quant.dist E (z i) := by
    funext j
    rw [distF_apply]
    exact congrArg₂ (fun a b => Quant.dist a b j) (funext fun j => funext fun k => he j k) (funext fun k => hr i k)
  rw [h]

/-- The codeword a level picks for a row. -/
theorem take_row (i : Fin 16384) (k : Fin 32) : takeF (F := Ideal) e (argF (distF r e)) (ix2 i k) = near E (z i) k :=
  (takeF_apply e _ i k _ (pick_row hr he i) fun i => ⟨_, pick_row hr he i⟩).trans (he _ k)

end Level

/-- The encoder's rows are the rows `z` and the codebook is `E`. -/
def Reads (a : Args Ideal) (z : Fin 16384 → Fin 32 → EReal) (E : Books) : Prop :=
  (∀ i k, r0 a (ix2 i k) = z i k) ∧ ∀ (l : Fin 4) j k, a.cb (ix3 l j k) = E l j k

variable {a : Args Ideal} {z : Fin 16384 → Fin 32 → EReal} {E : Books} (H : Reads a z E)
include H

theorem r0_row (i : Fin 16384) (k : Fin 32) : r0 a (ix2 i k) = z i k := H.1 i k

theorem i0_row (i : Fin 16384) : i0 a (ix1 i) = BitVec.ofNat 32 (code E (z i) 0).val :=
  pick_row (r0_row H) (E := E 0) (fun j k => (book0_apply a.cb j k).trans (H.2 0 j k)) i

theorem q0_row (i : Fin 16384) (k : Fin 32) : q0 a (ix2 i k) = near (E 0) (z i) k :=
  take_row (r0_row H) (E := E 0) (fun j k => (book0_apply a.cb j k).trans (H.2 0 j k)) i k

theorem t0_row (i : Fin 16384) (k : Fin 32) : t0 a (ix2 i k) = pass (E 0) (z i) k := by
  show r0 a (ix2 i k) + (q0 a (ix2 i k) - r0 a (ix2 i k)) = _
  rw [r0_row H, q0_row H]
  rfl

theorem l0_val (p : S_.Idx) : l0 a p = Ideal.div (∑ i, erl E (z i) 0) (Ideal.ofBits FTy.f32 0x49000000#32) + Ideal.ofBits FTy.f32 0x3E800000#32 * Ideal.div (∑ i, erl E (z i) 0) (Ideal.ofBits FTy.f32 0x49000000#32) := by
  have h : (∑ i, ∑ k : Fin 32, (q0 a (ix2 i k) - r0 a (ix2 i k)) * (q0 a (ix2 i k) - r0 a (ix2 i k)) : EReal) = ∑ i : Fin 16384, erl E (z i) 0 :=
    Finset.sum_congr rfl fun i _ => by
      simp only [q0_row H, r0_row H]
      rfl
  rw [← h]
  exact lossF_apply _ _ p

theorem r1_row (i : Fin 16384) (k : Fin 32) : r1 a (ix2 i k) = res1 E (z i) k := by
  show r0 a (ix2 i k) - t0 a (ix2 i k) = _
  rw [r0_row H, t0_row H]
  rfl

theorem i1_row (i : Fin 16384) : i1 a (ix1 i) = BitVec.ofNat 32 (code E (z i) 1).val :=
  pick_row (r1_row H) (E := E 1) (fun j k => (book1_apply a.cb j k).trans (H.2 1 j k)) i

theorem q1_row (i : Fin 16384) (k : Fin 32) : q1 a (ix2 i k) = near (E 1) (res1 E (z i)) k :=
  take_row (r1_row H) (E := E 1) (fun j k => (book1_apply a.cb j k).trans (H.2 1 j k)) i k

theorem t1_row (i : Fin 16384) (k : Fin 32) : t1 a (ix2 i k) = pass (E 1) (res1 E (z i)) k := by
  show r1 a (ix2 i k) + (q1 a (ix2 i k) - r1 a (ix2 i k)) = _
  rw [r1_row H, q1_row H]
  rfl

theorem l1_val (p : S_.Idx) : l1 a p = Ideal.div (∑ i, erl E (z i) 1) (Ideal.ofBits FTy.f32 0x49000000#32) + Ideal.ofBits FTy.f32 0x3E800000#32 * Ideal.div (∑ i, erl E (z i) 1) (Ideal.ofBits FTy.f32 0x49000000#32) := by
  have h : (∑ i, ∑ k : Fin 32, (q1 a (ix2 i k) - r1 a (ix2 i k)) * (q1 a (ix2 i k) - r1 a (ix2 i k)) : EReal) = ∑ i : Fin 16384, erl E (z i) 1 :=
    Finset.sum_congr rfl fun i _ => by
      simp only [q1_row H, r1_row H]
      rfl
  rw [← h]
  exact lossF_apply _ _ p

theorem r2_row (i : Fin 16384) (k : Fin 32) : r2 a (ix2 i k) = res2 E (z i) k := by
  show r1 a (ix2 i k) - t1 a (ix2 i k) = _
  rw [r1_row H, t1_row H]
  rfl

theorem i2_row (i : Fin 16384) : i2 a (ix1 i) = BitVec.ofNat 32 (code E (z i) 2).val :=
  pick_row (r2_row H) (E := E 2) (fun j k => (book2_apply a.cb j k).trans (H.2 2 j k)) i

theorem q2_row (i : Fin 16384) (k : Fin 32) : q2 a (ix2 i k) = near (E 2) (res2 E (z i)) k :=
  take_row (r2_row H) (E := E 2) (fun j k => (book2_apply a.cb j k).trans (H.2 2 j k)) i k

theorem t2_row (i : Fin 16384) (k : Fin 32) : t2 a (ix2 i k) = pass (E 2) (res2 E (z i)) k := by
  show r2 a (ix2 i k) + (q2 a (ix2 i k) - r2 a (ix2 i k)) = _
  rw [r2_row H, q2_row H]
  rfl

theorem l2_val (p : S_.Idx) : l2 a p = Ideal.div (∑ i, erl E (z i) 2) (Ideal.ofBits FTy.f32 0x49000000#32) + Ideal.ofBits FTy.f32 0x3E800000#32 * Ideal.div (∑ i, erl E (z i) 2) (Ideal.ofBits FTy.f32 0x49000000#32) := by
  have h : (∑ i, ∑ k : Fin 32, (q2 a (ix2 i k) - r2 a (ix2 i k)) * (q2 a (ix2 i k) - r2 a (ix2 i k)) : EReal) = ∑ i : Fin 16384, erl E (z i) 2 :=
    Finset.sum_congr rfl fun i _ => by
      simp only [q2_row H, r2_row H]
      rfl
  rw [← h]
  exact lossF_apply _ _ p

theorem r3_row (i : Fin 16384) (k : Fin 32) : r3 a (ix2 i k) = res3 E (z i) k := by
  show r2 a (ix2 i k) - t2 a (ix2 i k) = _
  rw [r2_row H, t2_row H]
  rfl

theorem i3_row (i : Fin 16384) : i3 a (ix1 i) = BitVec.ofNat 32 (code E (z i) 3).val :=
  pick_row (r3_row H) (E := E 3) (fun j k => (book3_apply a.cb j k).trans (H.2 3 j k)) i

theorem q3_row (i : Fin 16384) (k : Fin 32) : q3 a (ix2 i k) = near (E 3) (res3 E (z i)) k :=
  take_row (r3_row H) (E := E 3) (fun j k => (book3_apply a.cb j k).trans (H.2 3 j k)) i k

theorem t3_row (i : Fin 16384) (k : Fin 32) : t3 a (ix2 i k) = pass (E 3) (res3 E (z i)) k := by
  show r3 a (ix2 i k) + (q3 a (ix2 i k) - r3 a (ix2 i k)) = _
  rw [r3_row H, q3_row H]
  rfl

theorem l3_val (p : S_.Idx) : l3 a p = Ideal.div (∑ i, erl E (z i) 3) (Ideal.ofBits FTy.f32 0x49000000#32) + Ideal.ofBits FTy.f32 0x3E800000#32 * Ideal.div (∑ i, erl E (z i) 3) (Ideal.ofBits FTy.f32 0x49000000#32) := by
  have h : (∑ i, ∑ k : Fin 32, (q3 a (ix2 i k) - r3 a (ix2 i k)) * (q3 a (ix2 i k) - r3 a (ix2 i k)) : EReal) = ∑ i : Fin 16384, erl E (z i) 3 :=
    Finset.sum_congr rfl fun i _ => by
      simp only [q3_row H, r3_row H]
      rfl
  rw [← h]
  exact lossF_apply _ _ p

theorem x4_row (i : Fin 16384) (k : Fin 32) : x4 a (ix2 i k) = tot E (z i) k := by
  have h0 : x0 a (ix2 i k) = (0 : EReal) := by
    unfold x0 zeroF
    pointwise
  show (((x0 a (ix2 i k) + t0 a (ix2 i k)) + t1 a (ix2 i k)) + t2 a (ix2 i k)) + t3 a (ix2 i k) = _
  rw [h0, t0_row H, t1_row H, t2_row H, t3_row H]
  rfl

theorem outR_row (i : Fin 16384) (k : Fin 768) :
    outR a (ix2 i k) = mlp (fun i j => a.dw0 (ix2 i j)) (fun j => a.db0 (ix1 j)) (fun i j => a.dw1 (ix2 i j)) (fun j => a.db1 (ix1 j))
      (fun i j => a.dw2 (ix2 i j)) (fun j => a.db2 (ix1 j)) (fun i j => a.dw3 (ix2 i j)) (fun j => a.db3 (ix1 j)) (tot E (z i)) k := by
  refine (decF_apply _ _ _ _ _ _ _ _ _ i k).trans ?_
  have h : (fun k => x4 a (ix2 i k)) = tot E (z i) := funext fun k => x4_row H i k
  rw [h]

theorem idxR_row (i : Fin 16384) (l : Fin 4) : idxR a (ix2 i l) = BitVec.ofNat 32 (code E (z i) l).val := by
  obtain ⟨h0, h1, h2, h3⟩ := stackF_apply (i0 a) (i1 a) (i2 a) (i3 a) i
  match l with
  | 0 => exact h0.trans (i0_row H i)
  | 1 => exact h1.trans (i1_row H i)
  | 2 => exact h2.trans (i2_row H i)
  | 3 => exact h3.trans (i3_row H i)

theorem lossR_val (p : S_.Idx) : lossR a p = Ideal.div (((l0 a ix0 + l1 a ix0) + l2 a ix0) + l3 a ix0) (Ideal.ofBits FTy.f32 0x40800000#32) :=
  meanF_apply _ _ _ _ p

end Cert.ReferenceIdeal.Steps

end
-- ==== Proof.Pre.lean ====
module

public import proofs.«01_k».proof.Pre_finite
public import proofs.«01_k».proof.Proof.Spec
public import Idealize.ShloMosaic.Lib.ReduceAll

@[expose] public section

set_option maxRecDepth 16384

noncomputable section

/-! The precondition: its side conditions, and what it says of each array it reads. -/

namespace Cert.Pre_finite.Read

open Cert.Pre_finite Cert.Quant Idealize.ShloMosaic

theorem bcast_S_S16384x768 : S_.BroadcastsInDim S16384x768 (![] : Fin 0 → Fin S16384x768.rank) := by decide
theorem reducesTo_S16384x768_S_d0_1 : S16384x768.ReducesTo [0, 1] S_ := by decide
theorem bcast_S_S768x512 : S_.BroadcastsInDim S768x512 (![] : Fin 0 → Fin S768x512.rank) := by decide
theorem reducesTo_S768x512_S_d0_1 : S768x512.ReducesTo [0, 1] S_ := by decide
theorem bcast_S_S512 : S_.BroadcastsInDim S512 (![] : Fin 0 → Fin S512.rank) := by decide
theorem reducesTo_S512_S_d0 : S512.ReducesTo [0] S_ := by decide
theorem bcast_S_S512x256 : S_.BroadcastsInDim S512x256 (![] : Fin 0 → Fin S512x256.rank) := by decide
theorem reducesTo_S512x256_S_d0_1 : S512x256.ReducesTo [0, 1] S_ := by decide
theorem bcast_S_S256 : S_.BroadcastsInDim S256 (![] : Fin 0 → Fin S256.rank) := by decide
theorem reducesTo_S256_S_d0 : S256.ReducesTo [0] S_ := by decide
theorem bcast_S_S256x128 : S_.BroadcastsInDim S256x128 (![] : Fin 0 → Fin S256x128.rank) := by decide
theorem reducesTo_S256x128_S_d0_1 : S256x128.ReducesTo [0, 1] S_ := by decide
theorem bcast_S_S128 : S_.BroadcastsInDim S128 (![] : Fin 0 → Fin S128.rank) := by decide
theorem reducesTo_S128_S_d0 : S128.ReducesTo [0] S_ := by decide
theorem bcast_S_S128x32 : S_.BroadcastsInDim S128x32 (![] : Fin 0 → Fin S128x32.rank) := by decide
theorem reducesTo_S128x32_S_d0_1 : S128x32.ReducesTo [0, 1] S_ := by decide
theorem bcast_S_S32 : S_.BroadcastsInDim S32 (![] : Fin 0 → Fin S32.rank) := by decide
theorem reducesTo_S32_S_d0 : S32.ReducesTo [0] S_ := by decide
theorem bcast_S_S4x256x32 : S_.BroadcastsInDim S4x256x32 (![] : Fin 0 → Fin S4x256x32.rank) := by decide
theorem reducesTo_S4x256x32_S_d0_1_2 : S4x256x32.ReducesTo [0, 1, 2] S_ := by decide
theorem h_S_ : 0 < S_.numel := by decide

/-- The side conditions hold. -/
instance facts : Facts where
  bcast_S_S16384x768 := bcast_S_S16384x768
  reducesTo_S16384x768_S_d0_1 := reducesTo_S16384x768_S_d0_1
  bcast_S_S768x512 := bcast_S_S768x512
  reducesTo_S768x512_S_d0_1 := reducesTo_S768x512_S_d0_1
  bcast_S_S512 := bcast_S_S512
  reducesTo_S512_S_d0 := reducesTo_S512_S_d0
  bcast_S_S512x256 := bcast_S_S512x256
  reducesTo_S512x256_S_d0_1 := reducesTo_S512x256_S_d0_1
  bcast_S_S256 := bcast_S_S256
  reducesTo_S256_S_d0 := reducesTo_S256_S_d0
  bcast_S_S256x128 := bcast_S_S256x128
  reducesTo_S256x128_S_d0_1 := reducesTo_S256x128_S_d0_1
  bcast_S_S128 := bcast_S_S128
  reducesTo_S128_S_d0 := reducesTo_S128_S_d0
  bcast_S_S128x32 := bcast_S_S128x32
  reducesTo_S128x32_S_d0_1 := reducesTo_S128x32_S_d0_1
  bcast_S_S32 := bcast_S_S32
  reducesTo_S32_S_d0 := reducesTo_S32_S_d0
  bcast_S_S4x256x32 := bcast_S_S4x256x32
  reducesTo_S4x256x32_S_d0_1_2 := reducesTo_S4x256x32_S_d0_1_2
  h_S_ := h_S_

/-- The bound the precondition compares with. -/
theorem bound_top : Ideal.ofBits FTy.f32 0x7F800000#32 = ⊤ := by
  simp [Ideal.ofBits, Ideal.ieee]

/-- A number whose magnitude is below the top is finite. -/
theorem fin_of_abs {x : EReal} (h : max x (-x) < ⊤) : IsFin x := by
  refine ⟨fun e => ?_, fun e => ?_⟩
  · rw [e] at h; simp at h
  · rw [e] at h; simp at h

/-- One array's part of the precondition says that its entries are finite. -/
theorem fin_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : IsFin (x i) := by
  have h := Host.reduce_andi_all _ _ _ _ j e i
  refine fin_of_abs ?_
  change Ideal.cmp .olt (max (x i) (-(x i))) (Ideal.ofBits FTy.f32 0x7F800000#32) = 1#1 at h
  rw [bound_top, Ideal.cmp_olt] at h
  by_contra hn
  rw [decide_eq_false hn] at h
  exact absurd h (by decide)

/-- A word that is the conjunction of two is one only if both are. -/
theorem and_one {x y : IVec S_ 1} {j : S_.Idx} (h : andi x y j = 1#1) : x j = 1#1 ∧ y j = 1#1 := IntOp.andi_eq_one.1 h

/-- What the precondition says: the input, the encoder's weights and biases and the codebook have finite entries. -/
theorem decode (a0 : FVec Ideal S16384x768 .f32) (a1 : FVec Ideal S768x512 .f32) (a2 : FVec Ideal S512 .f32) (a3 : FVec Ideal S512x256 .f32) (a4 : FVec Ideal S256 .f32) (a5 : FVec Ideal S256x128 .f32) (a6 : FVec Ideal S128 .f32) (a7 : FVec Ideal S128x32 .f32) (a8 : FVec Ideal S32 .f32) (a9 : FVec Ideal S32x128 .f32) (a10 : FVec Ideal S128 .f32) (a11 : FVec Ideal S128x256 .f32) (a12 : FVec Ideal S256 .f32) (a13 : FVec Ideal S256x512 .f32) (a14 : FVec Ideal S512 .f32) (a15 : FVec Ideal S512x768 .f32) (a16 : FVec Ideal S768 .f32) (a17 : FVec Ideal S4x256x32 .f32)
    (h : fn (F := Ideal) a0 a1 a2 a3 a4 a5 a6 a7 a8 a9 a10 a11 a12 a13 a14 a15 a16 a17 = fun _ => 1#1) :
    (∀ i, IsFin (a0 i)) ∧ (∀ i, IsFin (a1 i)) ∧ (∀ i, IsFin (a2 i)) ∧ (∀ i, IsFin (a3 i)) ∧ (∀ i, IsFin (a4 i)) ∧ (∀ i, IsFin (a5 i))
      ∧ (∀ i, IsFin (a6 i)) ∧ (∀ i, IsFin (a7 i)) ∧ (∀ i, IsFin (a8 i)) ∧ (∀ i, IsFin (a17 i)) := by
  have h0 : fn (F := Ideal) a0 a1 a2 a3 a4 a5 a6 a7 a8 a9 a10 a11 a12 a13 a14 a15 a16 a17 ix0 = 1#1 := congrFun h ix0
  unfold fn fn_part1 fn_part2 at h0
  obtain ⟨h0, g17⟩ := and_one h0
  obtain ⟨h0, g8⟩ := and_one h0
  obtain ⟨h0, g7⟩ := and_one h0
  obtain ⟨h0, g6⟩ := and_one h0
  obtain ⟨h0, g5⟩ := and_one h0
  obtain ⟨h0, g4⟩ := and_one h0
  obtain ⟨h0, g3⟩ := and_one h0
  obtain ⟨h0, g2⟩ := and_one h0
  obtain ⟨g0, g1⟩ := and_one h0
  exact ⟨fin_of_all _ _ _ _ _ g0, fin_of_all _ _ _ _ _ g1, fin_of_all _ _ _ _ _ g2, fin_of_all _ _ _ _ _ g3, fin_of_all _ _ _ _ _ g4,
    fin_of_all _ _ _ _ _ g5, fin_of_all _ _ _ _ _ g6, fin_of_all _ _ _ _ _ g7, fin_of_all _ _ _ _ _ g8, fin_of_all _ _ _ _ _ g17⟩

end Cert.Pre_finite.Read

end
-- ==== Proof.Same.lean ====
module

public import proofs.«01_k».proof.Proof.KRes
public import proofs.«01_k».proof.Proof.RRow
public import proofs.«01_k».proof.Proof.Pre

@[expose] public section

set_option maxRecDepth 16384

noncomputable section

/-! The reference's three results on the kernel's arguments are the kernel's. -/

namespace Cert.Same

open Cert.Quant Idealize.ShloMosaic Idealize.ShloMosaic.TcCoe
open Cert.KernelIdeal.Body (A0 A1 A2 A3 A4 A5 A6 A7 A8 A9 A10 A11 A12 A13 A14 A15 A16 A17 zK EK SK Good outK idxK lossK)
open Cert.ReferenceIdeal.Steps (Args Reads outR idxR lossR outR_row idxR_row lossR_val l0_val l1_val l2_val l3_val encF_apply)

/-- The number of entries of one level, `2 ^ 19`. -/
theorem c19 : Ideal.ofBits FTy.f32 0x49000000#32 = ((524288 : ℝ) : EReal) := by
  simp [Ideal.ofBits, Ideal.ieee]; rw [← EReal.coe_mul]; norm_num

/-- A quarter. -/
theorem cq : Ideal.ofBits FTy.f32 0x3E800000#32 = ((1 / 4 : ℝ) : EReal) := by
  simp [Ideal.ofBits, Ideal.ieee]; rw [← EReal.coe_mul]; norm_num

/-- Four. -/
theorem c4 : Ideal.ofBits FTy.f32 0x40800000#32 = ((4 : ℝ) : EReal) := by
  simp [Ideal.ofBits, Ideal.ieee]; rw [← EReal.coe_mul]; norm_num

/-- Five quarters over `2 ^ 21`. -/
theorem cl : Ideal.ofBits FTy.f32 0x35200000#32 = ((5 / 8388608 : ℝ) : EReal) := by
  simp [Ideal.ofBits, Ideal.ieee]; rw [← EReal.coe_mul]; norm_num

/-- The mean of the four levels' losses is one scaling of the whole sum of squares. -/
theorem loss_eq {a b c d : EReal} (ha : IsFin a) (hb : IsFin b) (hc : IsFin c) (hd : IsFin d) :
    Ideal.div ((((Ideal.div a (Ideal.ofBits FTy.f32 0x49000000#32) + Ideal.ofBits FTy.f32 0x3E800000#32 * Ideal.div a (Ideal.ofBits FTy.f32 0x49000000#32))
      + (Ideal.div b (Ideal.ofBits FTy.f32 0x49000000#32) + Ideal.ofBits FTy.f32 0x3E800000#32 * Ideal.div b (Ideal.ofBits FTy.f32 0x49000000#32)))
      + (Ideal.div c (Ideal.ofBits FTy.f32 0x49000000#32) + Ideal.ofBits FTy.f32 0x3E800000#32 * Ideal.div c (Ideal.ofBits FTy.f32 0x49000000#32)))
      + (Ideal.div d (Ideal.ofBits FTy.f32 0x49000000#32) + Ideal.ofBits FTy.f32 0x3E800000#32 * Ideal.div d (Ideal.ofBits FTy.f32 0x49000000#32)))
      (Ideal.ofBits FTy.f32 0x40800000#32) = (((a + b) + c) + d) * Ideal.ofBits FTy.f32 0x35200000#32 := by
  obtain ⟨a, rfl⟩ := ha.exists
  obtain ⟨b, rfl⟩ := hb.exists
  obtain ⟨c, rfl⟩ := hc.exists
  obtain ⟨d, rfl⟩ := hd.exists
  rw [c19, cq, c4, cl]
  simp only [Ideal.div_coe (show (524288 : ℝ) ≠ 0 by norm_num), Ideal.div_coe (show (4 : ℝ) ≠ 0 by norm_num), ← EReal.coe_mul, ← EReal.coe_add]
  congr 1
  ring

variable {m : (ℓ : Loc Cert.KernelIdeal.nD Cert.KernelIdeal.τ Cert.KernelIdeal.sig) → Buf (Elt Ideal) ℓ} {c : Dev Cert.KernelIdeal.nD}

/-- The kernel's arguments as the reference's. -/
def argsK (m : (ℓ : Loc Cert.KernelIdeal.nD Cert.KernelIdeal.τ Cert.KernelIdeal.sig) → Buf (Elt Ideal) ℓ) (c : Dev Cert.KernelIdeal.nD) : Args Ideal :=
  ⟨A0 m c, A1 m c, A2 m c, A3 m c, A4 m c, A5 m c, A6 m c, A7 m c, A8 m c, A9 m c, A10 m c, A11 m c, A12 m c, A13 m c, A14 m c, A15 m c, A16 m c, A17 m c⟩

theorem reads : Reads (argsK m c) (zK m c) (EK m c) :=
  ⟨fun i k => encF_apply _ _ _ _ _ _ _ _ _ i k, fun _ _ _ => rfl⟩

theorem out_eq : outR (argsK m c) = outK m c := by
  funext y
  rw [eq_ix2 y]
  exact outR_row reads (y 0) (y 1)

theorem idx_eq : idxR (argsK m c) = idxK m c := by
  funext y
  rw [eq_ix2 y]
  exact idxR_row reads (y 0) (y 1)

theorem fin_S (H : Good m c) (l : Fin 4) : IsFin (SK m c l) :=
  IsFin.sum _ _ fun i _ => isFin_erl H.E (H.z i) l

theorem loss_same (H : Good m c) : lossR (argsK m c) = lossK m c := by
  funext p
  refine (lossR_val reads p).trans ?_
  rw [l0_val reads, l1_val reads, l2_val reads, l3_val reads]
  exact loss_eq (fin_S H 0) (fin_S H 1) (fin_S H 2) (fin_S H 3)

/-- Real arguments make the encoded rows and the codebooks real. -/
theorem good (h : Cert.Pre_finite.fn (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) = fun _ => 1#1) : Good m c := by
  obtain ⟨f0, f1, f2, f3, f4, f5, f6, f7, f8, f17⟩ := Cert.Pre_finite.Read.decode _ _ _ _ _ _ _ _ _ _ _ _ _ _ _ _ _ _ h
  exact ⟨fun l j k => f17 (ix3 l j k), fun i k => isFin_mlp (fun i j => f1 (ix2 i j)) (fun j => f2 (ix1 j)) (fun i j => f3 (ix2 i j)) (fun j => f4 (ix1 j))
    (fun i j => f5 (ix2 i j)) (fun j => f6 (ix1 j)) (fun i j => f7 (ix2 i j)) (fun j => f8 (ix1 j)) (fun j => f0 (ix2 i j)) k⟩

end Cert.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BFrame
public import proofs.«01_k».proof.Proof.KFrame
public import proofs.«01_k».proof.Proof.RVal
public import proofs.«01_k».proof.Proof.Same

@[expose] public section

set_option maxRecDepth 16384

noncomputable section

/-! The certificate's claim: the three frames, that the ideal program is the kernel's, and that its results are the reference's. -/

namespace Cert.Proof

open Idealize.ShloMosaic Idealize.ShloMosaic.TcCoe Idealize.ShloMosaic.StableHlo Idealize.SL.Sem
open Cert.KernelIdeal.Body (outK lossK idxK results Good)
open Cert.ReferenceIdeal.Steps (argsOf)
open Cert.Same (argsK good out_eq loss_same idx_eq)

/-- From memories agreeing on real arguments both programs end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Read.facts) := by
  intro m g m' g' hpre hagree
  have H : ∀ c, Good m c := fun c => good (hpre c)
  have hargs : ∀ c, argsOf (launchContents m' c) = argsK m c := fun c => by
    obtain ⟨h0, h1, h2, h3, h4, h5, h6, h7, h8, h9, h10, h11, h12, h13, h14, h15, h16, h17⟩ := hagree c
    have h : argsOf (launchContents m' c) = ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15), m' ((c.tc : Thread Cert.ReferenceIdeal.nD Cert.ReferenceIdeal.τ).loc Cert.ReferenceIdeal.main_arg16), m' ((c.tc : Thread Cert.ReferenceIdeal.nD Cert.ReferenceIdeal.τ).loc Cert.ReferenceIdeal.main_arg17)⟩ := rfl
    rw [h, h0, h1, h2, h3, h4, h5, h6, h7, h8, h9, h10, h11, h12, h13, h14, h15, h16, h17]
    rfl
  have hk := θ_run_and (results g H) (Cert.KernelIdeal.Body.frame m g)
  have hr := Cert.ReferenceIdeal.Steps.run m' g'
  refine ⟨outK m, lossK m, idxK m, (θ_run Cert.KernelIdeal.defs _ _).mono (fun r h c => ?_) hk,
    (θ_run Cert.ReferenceIdeal.defs _ _).mono (fun r h c => ?_) hr⟩
  · obtain ⟨h0, h1, h2⟩ := h.1 c
    exact ⟨h0, h1, h2, h.2.1 c⟩
  · obtain ⟨h0, h1, h2, h3⟩ := h c
    rw [hargs c] at h0 h1 h2
    exact ⟨h0.trans out_eq, h1.trans (loss_same (H c)), h2.trans idx_eq, h3⟩

theorem claim : Cert.Claim :=
  ⟨Cert.Kernel.Gen.facts, Cert.KernelIdeal.Gen.facts, Cert.ReferenceIdeal.Gen.facts, Cert.Pre_finite.Read.facts,
    fun m ρ _ => Cert.Kernel.Body.frame m ρ, fun m ρ _ => Cert.KernelIdeal.Body.frame m ρ, fun m ρ _ => Cert.KernelIdeal.Body.frame m ρ,
    fun m ρ _ => Cert.ReferenceIdeal.Steps.frame m ρ, fun m ρ _ => Cert.ReferenceIdeal.Steps.frame m ρ, trivial, algebraic⟩

end Cert.Proof

end
